-- ==== Defs.lean ====
def Pre_QuantIn (m : (ℓ : Loc Cert.QuantIn.nD Cert.QuantIn.τ Cert.QuantIn.sig) → Buf (Elt Bits) ℓ) : Prop :=
  True

def Pre_QuantInIdeal (m : (ℓ : Loc Cert.QuantInIdeal.nD Cert.QuantInIdeal.τ Cert.QuantInIdeal.sig) → Buf (Elt Ideal) ℓ) : Prop :=
  True

def Pre_QuantInRefIdeal (m : (ℓ : Loc Cert.QuantInRefIdeal.nD Cert.QuantInRefIdeal.τ Cert.QuantInRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_some_accepted [hPre_some_accepted : Cert.Pre_some_accepted.Facts] (m : (ℓ : Loc Cert.GatesIdeal.nD Cert.GatesIdeal.τ Cert.GatesIdeal.sig) → Buf (Elt Ideal) ℓ) : Prop :=
  ∀ c : Dev Cert.GatesIdeal.nD,
    (Cert.Pre_some_accepted.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3))) = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_some_accepted [hPre_some_accepted : Cert.Pre_some_accepted.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_some_accepted.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3))) = (fun _ => 1#1)

def Pre_QuantOut (m : (ℓ : Loc Cert.QuantOut.nD Cert.QuantOut.τ Cert.QuantOut.sig) → Buf (Elt Bits) ℓ) : Prop :=
  True

def Pre_QuantOutIdeal (m : (ℓ : Loc Cert.QuantOutIdeal.nD Cert.QuantOutIdeal.τ Cert.QuantOutIdeal.sig) → Buf (Elt Ideal) ℓ) : Prop :=
  True

def Pre_QuantOutRefIdeal (m : (ℓ : Loc Cert.QuantOutRefIdeal.nD Cert.QuantOutRefIdeal.τ Cert.QuantOutRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Entry (m : (ℓ : Loc Cert.Entry.nD Cert.Entry.τ Cert.Entry.sig) → Buf (Elt Bits) ℓ) : Prop :=
  True

def Pre_EntryIdeal (m : (ℓ : Loc Cert.EntryIdeal.nD Cert.EntryIdeal.τ Cert.EntryIdeal.sig) → Buf (Elt Ideal) ℓ) : Prop :=
  True

def Pre_EntryRefIdeal (m : (ℓ : Loc Cert.EntryRefIdeal.nD Cert.EntryRefIdeal.τ Cert.EntryRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def quiescent_QuantIn [hQuantIn : Cert.QuantIn.Facts] : Prop :=
  ∀ (m : (ℓ : Loc Cert.QuantIn.nD Cert.QuantIn.τ Cert.QuantIn.sig) → Buf (Elt Bits) ℓ) (g : Dev Cert.QuantIn.nD → PrngReg), Pre_QuantIn m →
    θ_run (Cert.QuantIn.defs (F := Bits)) (onTc (τ := Cert.QuantIn.τ) (Cert.QuantIn.main (F := Bits))) ⟨m, fun _ => 0, g⟩ (fun r => (∀ c : Dev Cert.QuantIn.nD,
      r.2.mem ((c.tc : Thread Cert.QuantIn.nD Cert.QuantIn.τ).loc Cert.QuantIn.main_arg0) = m ((c.tc : Thread Cert.QuantIn.nD Cert.QuantIn.τ).loc Cert.QuantIn.main_arg0)
      ∧ r.2.mem ((c.tc : Thread Cert.QuantIn.nD Cert.QuantIn.τ).loc Cert.QuantIn.main_arg1) = m ((c.tc : Thread Cert.QuantIn.nD Cert.QuantIn.τ).loc Cert.QuantIn.main_arg1))
      ∧ r.2.sem = fun _ => 0)

def quiescent_QuantInIdeal [hQuantInIdeal : Cert.QuantInIdeal.Facts] : Prop :=
  ∀ (m : (ℓ : Loc Cert.QuantInIdeal.nD Cert.QuantInIdeal.τ Cert.QuantInIdeal.sig) → Buf (Elt Ideal) ℓ) (g : Dev Cert.QuantInIdeal.nD → PrngReg), Pre_QuantInIdeal m →
    θ_run (Cert.QuantInIdeal.defs (F := Ideal)) (onTc (τ := Cert.QuantInIdeal.τ) (Cert.QuantInIdeal.main (F := Ideal))) ⟨m, fun _ => 0, g⟩ (fun r => (∀ c : Dev Cert.QuantInIdeal.nD,
      r.2.mem ((c.tc : Thread Cert.QuantInIdeal.nD Cert.QuantInIdeal.τ).loc Cert.QuantInIdeal.main_arg0) = m ((c.tc : Thread Cert.QuantInIdeal.nD Cert.QuantInIdeal.τ).loc Cert.QuantInIdeal.main_arg0)
      ∧ r.2.mem ((c.tc : Thread Cert.QuantInIdeal.nD Cert.QuantInIdeal.τ).loc Cert.QuantInIdeal.main_arg1) = m ((c.tc : Thread Cert.QuantInIdeal.nD Cert.QuantInIdeal.τ).loc Cert.QuantInIdeal.main_arg1))
      ∧ r.2.sem = fun _ => 0)

def quiescent_QuantInRefIdeal [hQuantInRefIdeal : Cert.QuantInRefIdeal.Facts] : Prop :=
  ∀ (m : (ℓ : Loc Cert.QuantInRefIdeal.nD Cert.QuantInRefIdeal.τ Cert.QuantInRefIdeal.sig) → Buf (Elt Ideal) ℓ) (g : Dev Cert.QuantInRefIdeal.nD → PrngReg), Pre_QuantInRefIdeal m →
    θ_run (Cert.QuantInRefIdeal.defs (F := Ideal)) (onTc (τ := Cert.QuantInRefIdeal.τ) (Cert.QuantInRefIdeal.main (F := Ideal))) ⟨m, fun _ => 0, g⟩ (fun r => (∀ c : Dev Cert.QuantInRefIdeal.nD,
      r.2.mem ((c.tc : Thread Cert.QuantInRefIdeal.nD Cert.QuantInRefIdeal.τ).loc Cert.QuantInRefIdeal.main_arg0) = m ((c.tc : Thread Cert.QuantInRefIdeal.nD Cert.QuantInRefIdeal.τ).loc Cert.QuantInRefIdeal.main_arg0)
      ∧ r.2.mem ((c.tc : Thread Cert.QuantInRefIdeal.nD Cert.QuantInRefIdeal.τ).loc Cert.QuantInRefIdeal.main_arg1) = m ((c.tc : Thread Cert.QuantInRefIdeal.nD Cert.QuantInRefIdeal.τ).loc Cert.QuantInRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesIdeal_pre_some_accepted [hGatesIdeal : Cert.GatesIdeal.Facts] [hPre_some_accepted : Cert.Pre_some_accepted.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_some_accepted m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_GatesRefIdeal_pre_some_accepted [hGatesRefIdeal : Cert.GatesRefIdeal.Facts] [hPre_some_accepted : Cert.Pre_some_accepted.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_some_accepted m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3))
      ∧ r.2.sem = fun _ => 0)

def quiescent_QuantOut [hQuantOut : Cert.QuantOut.Facts] : Prop :=
  ∀ (m : (ℓ : Loc Cert.QuantOut.nD Cert.QuantOut.τ Cert.QuantOut.sig) → Buf (Elt Bits) ℓ) (g : Dev Cert.QuantOut.nD → PrngReg), Pre_QuantOut m →
    θ_run (Cert.QuantOut.defs (F := Bits)) (onTc (τ := Cert.QuantOut.τ) (Cert.QuantOut.main (F := Bits))) ⟨m, fun _ => 0, g⟩ (fun r => (∀ c : Dev Cert.QuantOut.nD,
      r.2.mem ((c.tc : Thread Cert.QuantOut.nD Cert.QuantOut.τ).loc Cert.QuantOut.main_arg0) = m ((c.tc : Thread Cert.QuantOut.nD Cert.QuantOut.τ).loc Cert.QuantOut.main_arg0))
      ∧ r.2.sem = fun _ => 0)

def quiescent_QuantOutIdeal [hQuantOutIdeal : Cert.QuantOutIdeal.Facts] : Prop :=
  ∀ (m : (ℓ : Loc Cert.QuantOutIdeal.nD Cert.QuantOutIdeal.τ Cert.QuantOutIdeal.sig) → Buf (Elt Ideal) ℓ) (g : Dev Cert.QuantOutIdeal.nD → PrngReg), Pre_QuantOutIdeal m →
    θ_run (Cert.QuantOutIdeal.defs (F := Ideal)) (onTc (τ := Cert.QuantOutIdeal.τ) (Cert.QuantOutIdeal.main (F := Ideal))) ⟨m, fun _ => 0, g⟩ (fun r => (∀ c : Dev Cert.QuantOutIdeal.nD,
      r.2.mem ((c.tc : Thread Cert.QuantOutIdeal.nD Cert.QuantOutIdeal.τ).loc Cert.QuantOutIdeal.main_arg0) = m ((c.tc : Thread Cert.QuantOutIdeal.nD Cert.QuantOutIdeal.τ).loc Cert.QuantOutIdeal.main_arg0))
      ∧ r.2.sem = fun _ => 0)

def quiescent_QuantOutRefIdeal [hQuantOutRefIdeal : Cert.QuantOutRefIdeal.Facts] : Prop :=
  ∀ (m : (ℓ : Loc Cert.QuantOutRefIdeal.nD Cert.QuantOutRefIdeal.τ Cert.QuantOutRefIdeal.sig) → Buf (Elt Ideal) ℓ) (g : Dev Cert.QuantOutRefIdeal.nD → PrngReg), Pre_QuantOutRefIdeal m →
    θ_run (Cert.QuantOutRefIdeal.defs (F := Ideal)) (onTc (τ := Cert.QuantOutRefIdeal.τ) (Cert.QuantOutRefIdeal.main (F := Ideal))) ⟨m, fun _ => 0, g⟩ (fun r => (∀ c : Dev Cert.QuantOutRefIdeal.nD,
      r.2.mem ((c.tc : Thread Cert.QuantOutRefIdeal.nD Cert.QuantOutRefIdeal.τ).loc Cert.QuantOutRefIdeal.main_arg0) = m ((c.tc : Thread Cert.QuantOutRefIdeal.nD Cert.QuantOutRefIdeal.τ).loc Cert.QuantOutRefIdeal.main_arg0))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_Entry [hEntry : Cert.Entry.Facts] : Prop :=
  ∀ (m : (ℓ : Loc Cert.Entry.nD Cert.Entry.τ Cert.Entry.sig) → Buf (Elt Bits) ℓ) (g : Dev Cert.Entry.nD → PrngReg), Pre_Entry m →
    θ_run (Cert.Entry.defs (F := Bits)) (onTc (τ := Cert.Entry.τ) (Cert.Entry.main (F := Bits))) ⟨m, fun _ => 0, g⟩ (fun r => (∀ c : Dev Cert.Entry.nD,
      r.2.mem ((c.tc : Thread Cert.Entry.nD Cert.Entry.τ).loc Cert.Entry.main_arg0) = m ((c.tc : Thread Cert.Entry.nD Cert.Entry.τ).loc Cert.Entry.main_arg0)
      ∧ r.2.mem ((c.tc : Thread Cert.Entry.nD Cert.Entry.τ).loc Cert.Entry.main_arg1) = m ((c.tc : Thread Cert.Entry.nD Cert.Entry.τ).loc Cert.Entry.main_arg1))
      ∧ r.2.sem = fun _ => 0)

def quiescent_EntryIdeal [hEntryIdeal : Cert.EntryIdeal.Facts] : Prop :=
  ∀ (m : (ℓ : Loc Cert.EntryIdeal.nD Cert.EntryIdeal.τ Cert.EntryIdeal.sig) → Buf (Elt Ideal) ℓ) (g : Dev Cert.EntryIdeal.nD → PrngReg), Pre_EntryIdeal m →
    θ_run (Cert.EntryIdeal.defs (F := Ideal)) (onTc (τ := Cert.EntryIdeal.τ) (Cert.EntryIdeal.main (F := Ideal))) ⟨m, fun _ => 0, g⟩ (fun r => (∀ c : Dev Cert.EntryIdeal.nD,
      r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
      ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1))
      ∧ r.2.sem = fun _ => 0)

def quiescent_EntryRefIdeal [hEntryRefIdeal : Cert.EntryRefIdeal.Facts] : Prop :=
  ∀ (m : (ℓ : Loc Cert.EntryRefIdeal.nD Cert.EntryRefIdeal.τ Cert.EntryRefIdeal.sig) → Buf (Elt Ideal) ℓ) (g : Dev Cert.EntryRefIdeal.nD → PrngReg), Pre_EntryRefIdeal m →
    θ_run (Cert.EntryRefIdeal.defs (F := Ideal)) (onTc (τ := Cert.EntryRefIdeal.τ) (Cert.EntryRefIdeal.main (F := Ideal))) ⟨m, fun _ => 0, g⟩ (fun r => (∀ c : Dev Cert.EntryRefIdeal.nD,
      r.2.mem ((c.tc : Thread Cert.EntryRefIdeal.nD Cert.EntryRefIdeal.τ).loc Cert.EntryRefIdeal.main_arg0) = m ((c.tc : Thread Cert.EntryRefIdeal.nD Cert.EntryRefIdeal.τ).loc Cert.EntryRefIdeal.main_arg0)
      ∧ r.2.mem ((c.tc : Thread Cert.EntryRefIdeal.nD Cert.EntryRefIdeal.τ).loc Cert.EntryRefIdeal.main_arg1) = m ((c.tc : Thread Cert.EntryRefIdeal.nD Cert.EntryRefIdeal.τ).loc Cert.EntryRefIdeal.main_arg1))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2)
      ∧ r.2.mem ((c.tc : Thread Cert.ProjectRefIdeal.nD Cert.ProjectRefIdeal.τ).loc Cert.ProjectRefIdeal.main_arg3) = m ((c.tc : Thread Cert.ProjectRefIdeal.nD Cert.ProjectRefIdeal.τ).loc Cert.ProjectRefIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3))
      ∧ r.2.sem = fun _ => 0)

def preserves_QuantIn_QuantInIdeal : Prop :=
  True

def algebraic_QuantInIdeal_QuantInRefIdeal [hQuantInIdeal : Cert.QuantInIdeal.Facts] [hQuantInRefIdeal : Cert.QuantInRefIdeal.Facts] : Prop :=
  ∀ (m : (ℓ : Loc Cert.QuantInIdeal.nD Cert.QuantInIdeal.τ Cert.QuantInIdeal.sig) → Buf (Elt Ideal) ℓ) (g : Dev Cert.QuantInIdeal.nD → PrngReg)
    (m' : (ℓ : Loc Cert.QuantInRefIdeal.nD Cert.QuantInRefIdeal.τ Cert.QuantInRefIdeal.sig) → Buf (Elt Ideal) ℓ) (g' : Dev Cert.QuantInRefIdeal.nD → PrngReg), Pre_QuantInIdeal m →
    (∀ c : Dev Cert.QuantInIdeal.nD,
      m' ((c.tc : Thread Cert.QuantInRefIdeal.nD Cert.QuantInRefIdeal.τ).loc Cert.QuantInRefIdeal.main_arg0) = m ((c.tc : Thread Cert.QuantInIdeal.nD Cert.QuantInIdeal.τ).loc Cert.QuantInIdeal.main_arg0)
      ∧ m' ((c.tc : Thread Cert.QuantInRefIdeal.nD Cert.QuantInRefIdeal.τ).loc Cert.QuantInRefIdeal.main_arg1) = m ((c.tc : Thread Cert.QuantInIdeal.nD Cert.QuantInIdeal.τ).loc Cert.QuantInIdeal.main_arg1)) →
    ∃ (v0 : (c : Dev Cert.QuantInIdeal.nD) → Buf (Elt Ideal) ((c.tc : Thread Cert.QuantInIdeal.nD Cert.QuantInIdeal.τ).loc Cert.QuantInIdeal.main_v0_0)) (v1 : (c : Dev Cert.QuantInIdeal.nD) → Buf (Elt Ideal) ((c.tc : Thread Cert.QuantInIdeal.nD Cert.QuantInIdeal.τ).loc Cert.QuantInIdeal.main_v0_1)) (v2 : (c : Dev Cert.QuantInIdeal.nD) → Buf (Elt Ideal) ((c.tc : Thread Cert.QuantInIdeal.nD Cert.QuantInIdeal.τ).loc Cert.QuantInIdeal.main_v0_2)),
      θ_run (Cert.QuantInIdeal.defs (F := Ideal)) (onTc (τ := Cert.QuantInIdeal.τ) (Cert.QuantInIdeal.main (F := Ideal))) ⟨m, fun _ => 0, g⟩ (fun r => ∀ c : Dev Cert.QuantInIdeal.nD,
          r.2.mem ((c.tc : Thread Cert.QuantInIdeal.nD Cert.QuantInIdeal.τ).loc Cert.QuantInIdeal.main_v0_0) = v0 c
          ∧ r.2.mem ((c.tc : Thread Cert.QuantInIdeal.nD Cert.QuantInIdeal.τ).loc Cert.QuantInIdeal.main_v0_1) = v1 c
          ∧ r.2.mem ((c.tc : Thread Cert.QuantInIdeal.nD Cert.QuantInIdeal.τ).loc Cert.QuantInIdeal.main_v0_2) = v2 c
          ∧ r.2.mem ((c.tc : Thread Cert.QuantInIdeal.nD Cert.QuantInIdeal.τ).loc Cert.QuantInIdeal.main_arg0) = m ((c.tc : Thread Cert.QuantInIdeal.nD Cert.QuantInIdeal.τ).loc Cert.QuantInIdeal.main_arg0)
          ∧ r.2.mem ((c.tc : Thread Cert.QuantInIdeal.nD Cert.QuantInIdeal.τ).loc Cert.QuantInIdeal.main_arg1) = m ((c.tc : Thread Cert.QuantInIdeal.nD Cert.QuantInIdeal.τ).loc Cert.QuantInIdeal.main_arg1))
      ∧ θ_run (Cert.QuantInRefIdeal.defs (F := Ideal)) (onTc (τ := Cert.QuantInRefIdeal.τ) (Cert.QuantInRefIdeal.main (F := Ideal))) ⟨m', fun _ => 0, g'⟩ (fun r => ∀ c : Dev Cert.QuantInRefIdeal.nD,
          r.2.mem ((c.tc : Thread Cert.QuantInRefIdeal.nD Cert.QuantInRefIdeal.τ).loc Cert.QuantInRefIdeal.main_v0_0) = v0 c
          ∧ r.2.mem ((c.tc : Thread Cert.QuantInRefIdeal.nD Cert.QuantInRefIdeal.τ).loc Cert.QuantInRefIdeal.main_v0_1) = v1 c
          ∧ r.2.mem ((c.tc : Thread Cert.QuantInRefIdeal.nD Cert.QuantInRefIdeal.τ).loc Cert.QuantInRefIdeal.main_v0_2) = v2 c
          ∧ r.2.mem ((c.tc : Thread Cert.QuantInRefIdeal.nD Cert.QuantInRefIdeal.τ).loc Cert.QuantInRefIdeal.main_arg0) = m' ((c.tc : Thread Cert.QuantInRefIdeal.nD Cert.QuantInRefIdeal.τ).loc Cert.QuantInRefIdeal.main_arg0)
          ∧ r.2.mem ((c.tc : Thread Cert.QuantInRefIdeal.nD Cert.QuantInRefIdeal.τ).loc Cert.QuantInRefIdeal.main_arg1) = m' ((c.tc : Thread Cert.QuantInRefIdeal.nD Cert.QuantInRefIdeal.τ).loc Cert.QuantInRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_Gates_GatesIdeal : Prop :=
  True

def algebraic_GatesIdeal_GatesRefIdeal_pre_some_accepted [hGatesIdeal : Cert.GatesIdeal.Facts] [hGatesRefIdeal : Cert.GatesRefIdeal.Facts] [hPre_some_accepted : Cert.Pre_some_accepted.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_some_accepted m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v6) = v0 c
          ∧ r.2.mem ((c.tc : Thread Cert.GatesRefIdeal.nD Cert.GatesRefIdeal.τ).loc Cert.GatesRefIdeal.main_v0_4) = v1 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3))

def preserves_QuantOut_QuantOutIdeal : Prop :=
  True

def algebraic_QuantOutIdeal_QuantOutRefIdeal [hQuantOutIdeal : Cert.QuantOutIdeal.Facts] [hQuantOutRefIdeal : Cert.QuantOutRefIdeal.Facts] : Prop :=
  ∀ (m : (ℓ : Loc Cert.QuantOutIdeal.nD Cert.QuantOutIdeal.τ Cert.QuantOutIdeal.sig) → Buf (Elt Ideal) ℓ) (g : Dev Cert.QuantOutIdeal.nD → PrngReg)
    (m' : (ℓ : Loc Cert.QuantOutRefIdeal.nD Cert.QuantOutRefIdeal.τ Cert.QuantOutRefIdeal.sig) → Buf (Elt Ideal) ℓ) (g' : Dev Cert.QuantOutRefIdeal.nD → PrngReg), Pre_QuantOutIdeal m →
    (∀ c : Dev Cert.QuantOutIdeal.nD,
      m' ((c.tc : Thread Cert.QuantOutRefIdeal.nD Cert.QuantOutRefIdeal.τ).loc Cert.QuantOutRefIdeal.main_arg0) = m ((c.tc : Thread Cert.QuantOutIdeal.nD Cert.QuantOutIdeal.τ).loc Cert.QuantOutIdeal.main_arg0)) →
    ∃ (v0 : (c : Dev Cert.QuantOutIdeal.nD) → Buf (Elt Ideal) ((c.tc : Thread Cert.QuantOutIdeal.nD Cert.QuantOutIdeal.τ).loc Cert.QuantOutIdeal.main_v0_0)) (v1 : (c : Dev Cert.QuantOutIdeal.nD) → Buf (Elt Ideal) ((c.tc : Thread Cert.QuantOutIdeal.nD Cert.QuantOutIdeal.τ).loc Cert.QuantOutIdeal.main_v0_1)) (v2 : (c : Dev Cert.QuantOutIdeal.nD) → Buf (Elt Ideal) ((c.tc : Thread Cert.QuantOutIdeal.nD Cert.QuantOutIdeal.τ).loc Cert.QuantOutIdeal.main_v0_2)),
      θ_run (Cert.QuantOutIdeal.defs (F := Ideal)) (onTc (τ := Cert.QuantOutIdeal.τ) (Cert.QuantOutIdeal.main (F := Ideal))) ⟨m, fun _ => 0, g⟩ (fun r => ∀ c : Dev Cert.QuantOutIdeal.nD,
          r.2.mem ((c.tc : Thread Cert.QuantOutIdeal.nD Cert.QuantOutIdeal.τ).loc Cert.QuantOutIdeal.main_v0_0) = v0 c
          ∧ r.2.mem ((c.tc : Thread Cert.QuantOutIdeal.nD Cert.QuantOutIdeal.τ).loc Cert.QuantOutIdeal.main_v0_1) = v1 c
          ∧ r.2.mem ((c.tc : Thread Cert.QuantOutIdeal.nD Cert.QuantOutIdeal.τ).loc Cert.QuantOutIdeal.main_v0_2) = v2 c
          ∧ r.2.mem ((c.tc : Thread Cert.QuantOutIdeal.nD Cert.QuantOutIdeal.τ).loc Cert.QuantOutIdeal.main_arg0) = m ((c.tc : Thread Cert.QuantOutIdeal.nD Cert.QuantOutIdeal.τ).loc Cert.QuantOutIdeal.main_arg0))
      ∧ θ_run (Cert.QuantOutRefIdeal.defs (F := Ideal)) (onTc (τ := Cert.QuantOutRefIdeal.τ) (Cert.QuantOutRefIdeal.main (F := Ideal))) ⟨m', fun _ => 0, g'⟩ (fun r => ∀ c : Dev Cert.QuantOutRefIdeal.nD,
          r.2.mem ((c.tc : Thread Cert.QuantOutRefIdeal.nD Cert.QuantOutRefIdeal.τ).loc Cert.QuantOutRefIdeal.main_v0_0) = v0 c
          ∧ r.2.mem ((c.tc : Thread Cert.QuantOutRefIdeal.nD Cert.QuantOutRefIdeal.τ).loc Cert.QuantOutRefIdeal.main_v0_1) = v1 c
          ∧ r.2.mem ((c.tc : Thread Cert.QuantOutRefIdeal.nD Cert.QuantOutRefIdeal.τ).loc Cert.QuantOutRefIdeal.main_v0_2) = v2 c
          ∧ r.2.mem ((c.tc : Thread Cert.QuantOutRefIdeal.nD Cert.QuantOutRefIdeal.τ).loc Cert.QuantOutRefIdeal.main_arg0) = m' ((c.tc : Thread Cert.QuantOutRefIdeal.nD Cert.QuantOutRefIdeal.τ).loc Cert.QuantOutRefIdeal.main_arg0))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_Entry_EntryIdeal : Prop :=
  True

def algebraic_EntryIdeal_EntryRefIdeal [hEntryIdeal : Cert.EntryIdeal.Facts] [hEntryRefIdeal : Cert.EntryRefIdeal.Facts] : Prop :=
  ∀ (m : (ℓ : Loc Cert.EntryIdeal.nD Cert.EntryIdeal.τ Cert.EntryIdeal.sig) → Buf (Elt Ideal) ℓ) (g : Dev Cert.EntryIdeal.nD → PrngReg)
    (m' : (ℓ : Loc Cert.EntryRefIdeal.nD Cert.EntryRefIdeal.τ Cert.EntryRefIdeal.sig) → Buf (Elt Ideal) ℓ) (g' : Dev Cert.EntryRefIdeal.nD → PrngReg), Pre_EntryIdeal m →
    (∀ c : Dev Cert.EntryIdeal.nD,
      m' ((c.tc : Thread Cert.EntryRefIdeal.nD Cert.EntryRefIdeal.τ).loc Cert.EntryRefIdeal.main_arg0) = m ((c.tc : Thread Cert.EntryIdeal.nD Cert.EntryIdeal.τ).loc Cert.EntryIdeal.main_arg0)
      ∧ m' ((c.tc : Thread Cert.EntryRefIdeal.nD Cert.EntryRefIdeal.τ).loc Cert.EntryRefIdeal.main_arg1) = m ((c.tc : Thread Cert.EntryIdeal.nD Cert.EntryIdeal.τ).loc Cert.EntryIdeal.main_arg1)) →
    ∃ (v0 : (c : Dev Cert.EntryIdeal.nD) → Buf (Elt Ideal) ((c.tc : Thread Cert.EntryIdeal.nD Cert.EntryIdeal.τ).loc Cert.EntryIdeal.main_v5)) (v1 : (c : Dev Cert.EntryIdeal.nD) → Buf (Elt Ideal) ((c.tc : Thread Cert.EntryIdeal.nD Cert.EntryIdeal.τ).loc Cert.EntryIdeal.main_v9)),
      θ_run (Cert.EntryIdeal.defs (F := Ideal)) (onTc (τ := Cert.EntryIdeal.τ) (Cert.EntryIdeal.main (F := Ideal))) ⟨m, fun _ => 0, g⟩ (fun r => ∀ c : Dev Cert.EntryIdeal.nD,
          r.2.mem ((c.tc : Thread Cert.EntryIdeal.nD Cert.EntryIdeal.τ).loc Cert.EntryIdeal.main_v5) = v0 c
          ∧ r.2.mem ((c.tc : Thread Cert.EntryIdeal.nD Cert.EntryIdeal.τ).loc Cert.EntryIdeal.main_v9) = v1 c
          ∧ r.2.mem ((c.tc : Thread Cert.EntryIdeal.nD Cert.EntryIdeal.τ).loc Cert.EntryIdeal.main_arg0) = m ((c.tc : Thread Cert.EntryIdeal.nD Cert.EntryIdeal.τ).loc Cert.EntryIdeal.main_arg0)
          ∧ r.2.mem ((c.tc : Thread Cert.EntryIdeal.nD Cert.EntryIdeal.τ).loc Cert.EntryIdeal.main_arg1) = m ((c.tc : Thread Cert.EntryIdeal.nD Cert.EntryIdeal.τ).loc Cert.EntryIdeal.main_arg1))
      ∧ θ_run (Cert.EntryRefIdeal.defs (F := Ideal)) (onTc (τ := Cert.EntryRefIdeal.τ) (Cert.EntryRefIdeal.main (F := Ideal))) ⟨m', fun _ => 0, g'⟩ (fun r => ∀ c : Dev Cert.EntryRefIdeal.nD,
          r.2.mem ((c.tc : Thread Cert.EntryRefIdeal.nD Cert.EntryRefIdeal.τ).loc Cert.EntryRefIdeal.main_v3) = v0 c
          ∧ r.2.mem ((c.tc : Thread Cert.EntryRefIdeal.nD Cert.EntryRefIdeal.τ).loc Cert.EntryRefIdeal.main_v4) = v1 c
          ∧ r.2.mem ((c.tc : Thread Cert.EntryRefIdeal.nD Cert.EntryRefIdeal.τ).loc Cert.EntryRefIdeal.main_arg0) = m' ((c.tc : Thread Cert.EntryRefIdeal.nD Cert.EntryRefIdeal.τ).loc Cert.EntryRefIdeal.main_arg0)
          ∧ r.2.mem ((c.tc : Thread Cert.EntryRefIdeal.nD Cert.EntryRefIdeal.τ).loc Cert.EntryRefIdeal.main_arg1) = m' ((c.tc : Thread Cert.EntryRefIdeal.nD Cert.EntryRefIdeal.τ).loc Cert.EntryRefIdeal.main_arg1))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)
      ∧ m' ((c.tc : Thread Cert.ProjectRefIdeal.nD Cert.ProjectRefIdeal.τ).loc Cert.ProjectRefIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v5) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v4) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2)
          ∧ r.2.mem ((c.tc : Thread Cert.ProjectRefIdeal.nD Cert.ProjectRefIdeal.τ).loc Cert.ProjectRefIdeal.main_arg3) = m' ((c.tc : Thread Cert.ProjectRefIdeal.nD Cert.ProjectRefIdeal.τ).loc Cert.ProjectRefIdeal.main_arg3))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)) →
    ∃ (v0 : (c : Dev Cert.TailIdeal.nD) → Buf (Elt Ideal) ((c.tc : Thread Cert.TailIdeal.nD Cert.TailIdeal.τ).loc Cert.TailIdeal.main_v7)) (v1 : (c : Dev Cert.TailIdeal.nD) → Buf (Elt Ideal) ((c.tc : Thread Cert.TailIdeal.nD Cert.TailIdeal.τ).loc Cert.TailIdeal.main_v9)) (v2 : (c : Dev Cert.TailIdeal.nD) → Buf (Elt Ideal) ((c.tc : Thread Cert.TailIdeal.nD Cert.TailIdeal.τ).loc Cert.TailIdeal.main_v13)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v7) = v0 c
          ∧ r.2.mem ((c.tc : Thread Cert.TailIdeal.nD Cert.TailIdeal.τ).loc Cert.TailIdeal.main_v9) = v1 c
          ∧ r.2.mem ((c.tc : Thread Cert.TailIdeal.nD Cert.TailIdeal.τ).loc Cert.TailIdeal.main_v13) = v2 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v5) = v0 c
          ∧ r.2.mem ((c.tc : Thread Cert.TailRefIdeal.nD Cert.TailRefIdeal.τ).loc Cert.TailRefIdeal.main_v6) = v1 c
          ∧ r.2.mem ((c.tc : Thread Cert.TailRefIdeal.nD Cert.TailRefIdeal.τ).loc Cert.TailRefIdeal.main_v7) = v2 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3))

def Claim : Prop :=
  ∃ (hQuantIn : Cert.QuantIn.Facts) (hQuantInIdeal : Cert.QuantInIdeal.Facts) (hQuantInRefIdeal : Cert.QuantInRefIdeal.Facts) (hInProj : Cert.InProj.Facts) (hInProjIdeal : Cert.InProjIdeal.Facts) (hInProjRefIdeal : Cert.InProjRefIdeal.Facts) (hGates : Cert.Gates.Facts) (hGatesIdeal : Cert.GatesIdeal.Facts) (hGatesRefIdeal : Cert.GatesRefIdeal.Facts) (hQuantOut : Cert.QuantOut.Facts) (hQuantOutIdeal : Cert.QuantOutIdeal.Facts) (hQuantOutRefIdeal : Cert.QuantOutRefIdeal.Facts) (hOutProj : Cert.OutProj.Facts) (hOutProjIdeal : Cert.OutProjIdeal.Facts) (hOutProjRefIdeal : Cert.OutProjRefIdeal.Facts) (hEntry : Cert.Entry.Facts) (hEntryIdeal : Cert.EntryIdeal.Facts) (hEntryRefIdeal : Cert.EntryRefIdeal.Facts) (hProject : Cert.Project.Facts) (hProjectIdeal : Cert.ProjectIdeal.Facts) (hProjectRefIdeal : Cert.ProjectRefIdeal.Facts) (hTail : Cert.Tail.Facts) (hTailIdeal : Cert.TailIdeal.Facts) (hTailRefIdeal : Cert.TailRefIdeal.Facts) (hPre_some_accepted : Cert.Pre_some_accepted.Facts),
    quiescent_QuantIn (hQuantIn := hQuantIn)
    ∧ quiescent_QuantInIdeal (hQuantInIdeal := hQuantInIdeal)
    ∧ quiescent_QuantInRefIdeal (hQuantInRefIdeal := hQuantInRefIdeal)
    ∧ quiescent_InProj (hInProj := hInProj)
    ∧ quiescent_InProjIdeal (hInProjIdeal := hInProjIdeal)
    ∧ quiescent_InProjRefIdeal (hInProjRefIdeal := hInProjRefIdeal)
    ∧ quiescent_Gates (hGates := hGates)
    ∧ quiescent_GatesIdeal (hGatesIdeal := hGatesIdeal)
    ∧ quiescent_GatesIdeal_pre_some_accepted (hGatesIdeal := hGatesIdeal) (hPre_some_accepted := hPre_some_accepted)
    ∧ quiescent_GatesRefIdeal (hGatesRefIdeal := hGatesRefIdeal)
    ∧ quiescent_GatesRefIdeal_pre_some_accepted (hGatesRefIdeal := hGatesRefIdeal) (hPre_some_accepted := hPre_some_accepted)
    ∧ quiescent_QuantOut (hQuantOut := hQuantOut)
    ∧ quiescent_QuantOutIdeal (hQuantOutIdeal := hQuantOutIdeal)
    ∧ quiescent_QuantOutRefIdeal (hQuantOutRefIdeal := hQuantOutRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Entry (hEntry := hEntry)
    ∧ quiescent_EntryIdeal (hEntryIdeal := hEntryIdeal)
    ∧ quiescent_EntryRefIdeal (hEntryRefIdeal := hEntryRefIdeal)
    ∧ quiescent_Project (hProject := hProject)
    ∧ quiescent_ProjectIdeal (hProjectIdeal := hProjectIdeal)
    ∧ quiescent_ProjectRefIdeal (hProjectRefIdeal := hProjectRefIdeal)
    ∧ quiescent_Tail (hTail := hTail)
    ∧ quiescent_TailIdeal (hTailIdeal := hTailIdeal)
    ∧ quiescent_TailRefIdeal (hTailRefIdeal := hTailRefIdeal)
    ∧ preserves_QuantIn_QuantInIdeal
    ∧ algebraic_QuantInIdeal_QuantInRefIdeal (hQuantInIdeal := hQuantInIdeal) (hQuantInRefIdeal := hQuantInRefIdeal)
    ∧ preserves_InProj_InProjIdeal
    ∧ algebraic_InProjIdeal_InProjRefIdeal (hInProjIdeal := hInProjIdeal) (hInProjRefIdeal := hInProjRefIdeal)
    ∧ preserves_Gates_GatesIdeal
    ∧ algebraic_GatesIdeal_GatesRefIdeal_pre_some_accepted (hGatesIdeal := hGatesIdeal) (hGatesRefIdeal := hGatesRefIdeal) (hPre_some_accepted := hPre_some_accepted)
    ∧ preserves_QuantOut_QuantOutIdeal
    ∧ algebraic_QuantOutIdeal_QuantOutRefIdeal (hQuantOutIdeal := hQuantOutIdeal) (hQuantOutRefIdeal := hQuantOutRefIdeal)
    ∧ preserves_OutProj_OutProjIdeal
    ∧ algebraic_OutProjIdeal_OutProjRefIdeal (hOutProjIdeal := hOutProjIdeal) (hOutProjRefIdeal := hOutProjRefIdeal)
    ∧ preserves_Entry_EntryIdeal
    ∧ algebraic_EntryIdeal_EntryRefIdeal (hEntryIdeal := hEntryIdeal) (hEntryRefIdeal := hEntryRefIdeal)
    ∧ preserves_Project_ProjectIdeal
    ∧ algebraic_ProjectIdeal_ProjectRefIdeal (hProjectIdeal := hProjectIdeal) (hProjectRefIdeal := hProjectRefIdeal)
    ∧ preserves_Tail_TailIdeal
    ∧ algebraic_TailIdeal_TailRefIdeal (hTailIdeal := hTailIdeal) (hTailRefIdeal := hTailRefIdeal)
-- ==== Pre_some_accepted.lean ====
abbrev S5x64x96 : Shape := ⟨3, ![5, 64, 96]⟩
abbrev S1x48 : Shape := ⟨2, ![1, 48]⟩
abbrev S64x1 : Shape := ⟨2, ![64, 1]⟩
abbrev S_ : Shape := ⟨0, ![]⟩

class Facts : Prop where
  bcast_S_S64x1 : S_.BroadcastsInDim S64x1 (![] : Fin 0 → Fin S64x1.rank)

variable [Facts]

def fn {F : FTy → Type} [FloatOps F] (main_arg0 : FVec F S5x64x96 .bf16) (main_arg1 : FVec F S1x48 .f32) (main_arg2 : FVec F S1x48 .f32) (main_arg3 : IVec S64x1 32) : IVec S64x1 1 :=
  let main_c : IVec S_ 32 := constantI S_ 32 1#32
  let main_v0 : IVec S64x1 32 := broadcastInDim S64x1 ![] bcast_S_S64x1 main_c
  let main_v1 : IVec S64x1 1 := cmpi .sge main_arg3 main_v0
  let main_c_0 : IVec S_ 32 := constantI S_ 32 5#32
  let main_v2 : IVec S64x1 32 := broadcastInDim S64x1 ![] bcast_S_S64x1 main_c_0
  let main_v3 : IVec S64x1 1 := cmpi .sle main_arg3 main_v2
  let main_v4 : IVec S64x1 1 := andi main_v1 main_v3
  main_v4
-- ==== QuantIn.lean ====
abbrev S320x8192 : Shape := ⟨2, ![320, 8192]⟩
abbrev S1x8192 : Shape := ⟨2, ![1, 8192]⟩
abbrev S320x128 : Shape := ⟨2, ![320, 128]⟩
abbrev S64x8192 : Shape := ⟨2, ![64, 8192]⟩
abbrev S64x128 : Shape := ⟨2, ![64, 128]⟩
abbrev S64 : Shape := ⟨1, ![64]⟩
abbrev S64x1 : Shape := ⟨2, ![64, 1]⟩

abbrev nBuf : Space → Nat
  | .hbm => 5
  | .vmem => 9
  | .smem => 0
  | _ => 0

abbrev bufTy : (tb : Table) → Fin (tcTables nBuf tb) → BufTy
  | .hbm, ⟨0, _⟩ => ⟨S320x8192, .bf16⟩
  | .hbm, ⟨1, _⟩ => ⟨S1x8192, .f32⟩
  | .hbm, ⟨2, _⟩ => ⟨S320x8192, .i8⟩
  | .hbm, ⟨3, _⟩ => ⟨S320x8192, .bf16⟩
  | .hbm, ⟨4, _⟩ => ⟨S320x128, .f32⟩
  | .local _ .vmem, ⟨0, _⟩ => ⟨S64x8192, .bf16⟩
  | .local _ .vmem, ⟨1, _⟩ => ⟨S64x8192, .bf16⟩
  | .local _ .vmem, ⟨2, _⟩ => ⟨S1x8192, .f32⟩
  | .local _ .vmem, ⟨3, _⟩ => ⟨S64x8192, .i8⟩
  | .local _ .vmem, ⟨4, _⟩ => ⟨S64x8192, .i8⟩
  | .local _ .vmem, ⟨5, _⟩ => ⟨S64x8192, .bf16⟩
  | .local _ .vmem, ⟨6, _⟩ => ⟨S64x8192, .bf16⟩
  | .local _ .vmem, ⟨7, _⟩ => ⟨S64x128, .f32⟩
  | .local _ .vmem, ⟨8, _⟩ => ⟨S64x128, .f32⟩
  | _, _ => ⟨S320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QuantInRefIdeal.lean ====
abbrev S320x8192 : Shape := ⟨2, ![320, 8192]⟩
abbrev S1x8192 : Shape := ⟨2, ![1, 8192]⟩
abbrev S320x128 : Shape := ⟨2, ![320, 128]⟩
abbrev S320 : Shape := ⟨1, ![320]⟩
abbrev S320x1 : Shape := ⟨2, ![320, 1]⟩

abbrev nBuf : Space → Nat
  | .hbm => 5
  | .vmem => 5
  | .smem => 0
  | _ => 0

abbrev bufTy : (tb : Table) → Fin (tcTables nBuf tb) → BufTy
  | .hbm, ⟨0, _⟩ => ⟨S320x8192, .bf16⟩
  | .hbm, ⟨1, _⟩ => ⟨S1x8192, .f32⟩
  | .hbm, ⟨2, _⟩ => ⟨S320x8192, .i8⟩
  | .hbm, ⟨3, _⟩ => ⟨S320x8192, .bf16⟩
  | .hbm, ⟨4, _⟩ => ⟨S320x128, .f32⟩
  | .local _ .vmem, ⟨0, _⟩ => ⟨S320x8192, .bf16⟩
  | .local _ .vmem, ⟨1, _⟩ => ⟨S1x8192, .f32⟩
  | .local _ .vmem, ⟨2, _⟩ => ⟨S320x8192, .i8⟩
  | .local _ .vmem, ⟨3, _⟩ => ⟨S320x8192, .bf16⟩
  | .local _ .vmem, ⟨4, _⟩ => ⟨S320x128, .f32⟩
  | _, _ => ⟨S320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S320x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== InProj.lean ====
abbrev S320x8192 : Shape := ⟨2, ![320, 8192]⟩
abbrev S320x128 : Shape := ⟨2, ![320, 128]⟩
abbrev S8192x30816 : Shape := ⟨2, ![8192, 30816]⟩
abbrev S1x30816 : Shape := ⟨2, ![1, 30816]⟩
abbrev S320x30816 : Shape := ⟨2, ![320, 30816]⟩
abbrev S8192x512 : Shape := ⟨2, ![8192, 512]⟩
abbrev S1x512 : Shape := ⟨2, ![1, 512]⟩
abbrev S320x512 : Shape := ⟨2, ![320, 512]⟩
abbrev S320x1024 : Shape := ⟨2, ![320, 1024]⟩
abbrev S1024x512 : Shape := ⟨2, ![1024, 512]⟩
abbrev S320x1 : Shape := ⟨2, ![320, 1]⟩

abbrev nBuf : Space → Nat
  | .hbm => 5
  | .vmem => 8
  | .smem => 0
  | _ => 0

abbrev bufTy : (tb : Table) → Fin (tcTables nBuf tb) → BufTy
  | .hbm, ⟨0, _⟩ => ⟨S320x8192, .bf16⟩
  | .hbm, ⟨1, _⟩ => ⟨S320x128, .f32⟩
  | .hbm, ⟨2, _⟩ => ⟨S8192x30816, .i8⟩
  | .hbm, ⟨3, _⟩ => ⟨S1x30816, .f32⟩
  | .hbm, ⟨4, _⟩ => ⟨S320x30816, .bf16⟩
  | .local _ .vmem, ⟨0, _⟩ => ⟨S320x8192, .bf16⟩
  | .local _ .vmem, ⟨1, _⟩ => ⟨S320x128, .f32⟩
  | .local _ .vmem, ⟨2, _⟩ => ⟨S8192x512, .i8⟩
  | .local _ .vmem, ⟨3, _⟩ => ⟨S8192x512, .i8⟩
  | .local _ .vmem, ⟨4, _⟩ => ⟨S1x512, .f32⟩
  | .local _ .vmem, ⟨5, _⟩ => ⟨S1x512, .f32⟩
  | .local _ .vmem, ⟨6, _⟩ => ⟨S320x512, .bf16⟩
  | .local _ .vmem, ⟨7, _⟩ => ⟨S320x512, .bf16⟩
  | _, _ => ⟨S320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![61], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S320x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S320x8192 : Shape := ⟨2, ![320, 8192]⟩
abbrev S320x128 : Shape := ⟨2, ![320, 128]⟩
abbrev S8192x30816 : Shape := ⟨2, ![8192, 30816]⟩
abbrev S1x30816 : Shape := ⟨2, ![1, 30816]⟩
abbrev S320x30816 : Shape := ⟨2, ![320, 30816]⟩
abbrev S320x1 : Shape := ⟨2, ![320, 1]⟩

abbrev nBuf : Space → Nat
  | .hbm => 5
  | .vmem => 5
  | .smem => 0
  | _ => 0

abbrev bufTy : (tb : Table) → Fin (tcTables nBuf tb) → BufTy
  | .hbm, ⟨0, _⟩ => ⟨S320x8192, .bf16⟩
  | .hbm, ⟨1, _⟩ => ⟨S320x128, .f32⟩
  | .hbm, ⟨2, _⟩ => ⟨S8192x30816, .i8⟩
  | .hbm, ⟨3, _⟩ => ⟨S1x30816, .f32⟩
  | .hbm, ⟨4, _⟩ => ⟨S320x30816, .bf16⟩
  | .local _ .vmem, ⟨0, _⟩ => ⟨S320x8192, .bf16⟩
  | .local _ .vmem, ⟨1, _⟩ => ⟨S320x128, .f32⟩
  | .local _ .vmem, ⟨2, _⟩ => ⟨S8192x30816, .i8⟩
  | .local _ .vmem, ⟨3, _⟩ => ⟨S1x30816, .f32⟩
  | .local _ .vmem, ⟨4, _⟩ => ⟨S320x30816, .bf16⟩
  | _, _ => ⟨S320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S320x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x30816 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x30816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x30816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Gates.lean ====
abbrev S5x64x96 : Shape := ⟨3, ![5, 64, 96]⟩
abbrev S1x48 : Shape := ⟨2, ![1, 48]⟩
abbrev S64x1 : Shape := ⟨2, ![64, 1]⟩
abbrev S4x8x64x48 : Shape := ⟨4, ![4, 8, 64, 48]⟩
abbrev S64x48 : Shape := ⟨2, ![64, 48]⟩
abbrev S1x64x48 : Shape := ⟨3, ![1, 64, 48]⟩
abbrev S1x1x64x48 : Shape := ⟨4, ![1, 1, 64, 48]⟩

abbrev nBuf : Space → Nat
  | .hbm => 6
  | .vmem => 6
  | .smem => 0
  | _ => 0

abbrev bufTy : (tb : Table) → Fin (tcTables nBuf tb) → BufTy
  | .hbm, ⟨0, _⟩ => ⟨S5x64x96, .bf16⟩
  | .hbm, ⟨1, _⟩ => ⟨S1x48, .f32⟩
  | .hbm, ⟨2, _⟩ => ⟨S1x48, .f32⟩
  | .hbm, ⟨3, _⟩ => ⟨S64x1, .i32⟩
  | .hbm, ⟨4, _⟩ => ⟨S4x8x64x48, .f32⟩
  | .hbm, ⟨5, _⟩ => ⟨S64x48, .f32⟩
  | .local _ .vmem, ⟨0, _⟩ => ⟨S5x64x96, .bf16⟩
  | .local _ .vmem, ⟨1, _⟩ => ⟨S1x48, .f32⟩
  | .local _ .vmem, ⟨2, _⟩ => ⟨S1x48, .f32⟩
  | .local _ .vmem, ⟨3, _⟩ => ⟨S64x1, .i32⟩
  | .local _ .vmem, ⟨4, _⟩ => ⟨S4x8x64x48, .f32⟩
  | .local _ .vmem, ⟨5, _⟩ => ⟨S64x48, .f32⟩
  | _, _ => ⟨S5x64x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S5x64x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8x64x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== GatesRefIdeal.lean ====
abbrev S5x64x96 : Shape := ⟨3, ![5, 64, 96]⟩
abbrev S1x48 : Shape := ⟨2, ![1, 48]⟩
abbrev S64x1 : Shape := ⟨2, ![64, 1]⟩
abbrev S5x64x48 : Shape := ⟨3, ![5, 64, 48]⟩
abbrev S64x48 : Shape := ⟨2, ![64, 48]⟩
abbrev S1x1x48 : Shape := ⟨3, ![1, 1, 48]⟩
abbrev S5x5x64x48 : Shape := ⟨4, ![5, 5, 64, 48]⟩
abbrev S1x5x64x48 : Shape := ⟨4, ![1, 5, 64, 48]⟩
abbrev S1x64x1 : Shape := ⟨3, ![1, 64, 1]⟩
abbrev S1x64x48 : Shape := ⟨3, ![1, 64, 48]⟩
abbrev S4x5x64x48 : Shape := ⟨4, ![4, 5, 64, 48]⟩
abbrev S_ : Shape := ⟨0, ![]⟩
abbrev S4x8x64x48 : Shape := ⟨4, ![4, 8, 64, 48]⟩

abbrev nBuf : Space → Nat
  | .hbm => 17
  | .vmem => 9
  | .smem => 0
  | _ => 0

abbrev bufTy : (tb : Table) → Fin (tcTables nBuf tb) → BufTy
  | .hbm, ⟨0, _⟩ => ⟨S5x64x96, .bf16⟩
  | .hbm, ⟨1, _⟩ => ⟨S1x48, .f32⟩
  | .hbm, ⟨2, _⟩ => ⟨S1x48, .f32⟩
  | .hbm, ⟨3, _⟩ => ⟨S64x1, .i32⟩
  | .hbm, ⟨4, _⟩ => ⟨S5x64x48, .f32⟩
  | .hbm, ⟨5, _⟩ => ⟨S5x64x48, .f32⟩
  | .hbm, ⟨6, _⟩ => ⟨S5x64x48, .f32⟩
  | .hbm, ⟨7, _⟩ => ⟨S5x64x48, .f32⟩
  | .hbm, ⟨8, _⟩ => ⟨S64x48, .f32⟩
  | .hbm, ⟨9, _⟩ => ⟨S1x5x64x48, .f32⟩
  | .hbm, ⟨10, _⟩ => ⟨S1x5x64x48, .f32⟩
  | .hbm, ⟨11, _⟩ => ⟨S1x5x64x48, .f32⟩
  | .hbm, ⟨12, _⟩ => ⟨S1x5x64x48, .f32⟩
  | .hbm, ⟨13, _⟩ => ⟨S4x5x64x48, .f32⟩
  | .hbm, ⟨14, _⟩ => ⟨S_, .i32⟩
  | .hbm, ⟨15, _⟩ => ⟨S_, .f32⟩
  | .hbm, ⟨16, _⟩ => ⟨S4x8x64x48, .f32⟩
  | .local _ .vmem, ⟨0, _⟩ => ⟨S5x64x96, .bf16⟩
  | .local _ .vmem, ⟨1, _⟩ => ⟨S1x48, .f32⟩
  | .local _ .vmem, ⟨2, _⟩ => ⟨S1x48, .f32⟩
  | .local _ .vmem, ⟨3, _⟩ => ⟨S64x1, .i32⟩
  | .local _ .vmem, ⟨4, _⟩ => ⟨S5x64x48, .f32⟩
  | .local _ .vmem, ⟨5, _⟩ => ⟨S5x64x48, .f32⟩
  | .local _ .vmem, ⟨6, _⟩ => ⟨S5x64x48, .f32⟩
  | .local _ .vmem, ⟨7, _⟩ => ⟨S5x64x48, .f32⟩
  | .local _ .vmem, ⟨8, _⟩ => ⟨S64x48, .f32⟩
  | _, _ => ⟨S5x64x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S5x64x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x64x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x64x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x64x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x64x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== QuantOut.lean ====
abbrev S320x9216 : Shape := ⟨2, ![320, 9216]⟩
abbrev S320x128 : Shape := ⟨2, ![320, 128]⟩
abbrev S64x9216 : Shape := ⟨2, ![64, 9216]⟩
abbrev S64x128 : Shape := ⟨2, ![64, 128]⟩
abbrev S64 : Shape := ⟨1, ![64]⟩
abbrev S64x1 : Shape := ⟨2, ![64, 1]⟩

abbrev nBuf : Space → Nat
  | .hbm => 4
  | .vmem => 8
  | .smem => 0
  | _ => 0

abbrev bufTy : (tb : Table) → Fin (tcTables nBuf tb) → BufTy
  | .hbm, ⟨0, _⟩ => ⟨S320x9216, .f32⟩
  | .hbm, ⟨1, _⟩ => ⟨S320x9216, .i8⟩
  | .hbm, ⟨2, _⟩ => ⟨S320x9216, .bf16⟩
  | .hbm, ⟨3, _⟩ => ⟨S320x128, .f32⟩
  | .local _ .vmem, ⟨0, _⟩ => ⟨S64x9216, .f32⟩
  | .local _ .vmem, ⟨1, _⟩ => ⟨S64x9216, .f32⟩
  | .local _ .vmem, ⟨2, _⟩ => ⟨S64x9216, .i8⟩
  | .local _ .vmem, ⟨3, _⟩ => ⟨S64x9216, .i8⟩
  | .local _ .vmem, ⟨4, _⟩ => ⟨S64x9216, .bf16⟩
  | .local _ .vmem, ⟨5, _⟩ => ⟨S64x9216, .bf16⟩
  | .local _ .vmem, ⟨6, _⟩ => ⟨S64x128, .f32⟩
  | .local _ .vmem, ⟨7, _⟩ => ⟨S64x128, .f32⟩
  | _, _ => ⟨S320x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x9216 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x9216 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantOutRefIdeal.lean ====
abbrev S320x9216 : Shape := ⟨2, ![320, 9216]⟩
abbrev S320x128 : Shape := ⟨2, ![320, 128]⟩
abbrev S320 : Shape := ⟨1, ![320]⟩
abbrev S320x1 : Shape := ⟨2, ![320, 1]⟩

abbrev nBuf : Space → Nat
  | .hbm => 4
  | .vmem => 4
  | .smem => 0
  | _ => 0

abbrev bufTy : (tb : Table) → Fin (tcTables nBuf tb) → BufTy
  | .hbm, ⟨0, _⟩ => ⟨S320x9216, .f32⟩
  | .hbm, ⟨1, _⟩ => ⟨S320x9216, .i8⟩
  | .hbm, ⟨2, _⟩ => ⟨S320x9216, .bf16⟩
  | .hbm, ⟨3, _⟩ => ⟨S320x128, .f32⟩
  | .local _ .vmem, ⟨0, _⟩ => ⟨S320x9216, .f32⟩
  | .local _ .vmem, ⟨1, _⟩ => ⟨S320x9216, .i8⟩
  | .local _ .vmem, ⟨2, _⟩ => ⟨S320x9216, .bf16⟩
  | .local _ .vmem, ⟨3, _⟩ => ⟨S320x128, .f32⟩
  | _, _ => ⟨S320x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S320x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x9216 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320x9216 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== OutProj.lean ====
abbrev S320x9216 : Shape := ⟨2, ![320, 9216]⟩
abbrev S320x128 : Shape := ⟨2, ![320, 128]⟩
abbrev S9216x8192 : Shape := ⟨2, ![9216, 8192]⟩
abbrev S1x8192 : Shape := ⟨2, ![1, 8192]⟩
abbrev S320x8192 : Shape := ⟨2, ![320, 8192]⟩
abbrev S9216x512 : Shape := ⟨2, ![9216, 512]⟩
abbrev S1x512 : Shape := ⟨2, ![1, 512]⟩
abbrev S320x512 : Shape := ⟨2, ![320, 512]⟩
abbrev S320x1024 : Shape := ⟨2, ![320, 1024]⟩
abbrev S1024x512 : Shape := ⟨2, ![1024, 512]⟩
abbrev S320x1 : Shape := ⟨2, ![320, 1]⟩

abbrev nBuf : Space → Nat
  | .hbm => 6
  | .vmem => 10
  | .smem => 0
  | _ => 0

abbrev bufTy : (tb : Table) → Fin (tcTables nBuf tb) → BufTy
  | .hbm, ⟨0, _⟩ => ⟨S320x9216, .bf16⟩
  | .hbm, ⟨1, _⟩ => ⟨S320x128, .f32⟩
  | .hbm, ⟨2, _⟩ => ⟨S9216x8192, .i8⟩
  | .hbm, ⟨3, _⟩ => ⟨S1x8192, .f32⟩
  | .hbm, ⟨4, _⟩ => ⟨S320x8192, .bf16⟩
  | .hbm, ⟨5, _⟩ => ⟨S320x8192, .bf16⟩
  | .local _ .vmem, ⟨0, _⟩ => ⟨S320x9216, .bf16⟩
  | .local _ .vmem, ⟨1, _⟩ => ⟨S320x128, .f32⟩
  | .local _ .vmem, ⟨2, _⟩ => ⟨S9216x512, .i8⟩
  | .local _ .vmem, ⟨3, _⟩ => ⟨S9216x512, .i8⟩
  | .local _ .vmem, ⟨4, _⟩ => ⟨S1x512, .f32⟩
  | .local _ .vmem, ⟨5, _⟩ => ⟨S1x512, .f32⟩
  | .local _ .vmem, ⟨6, _⟩ => ⟨S320x512, .bf16⟩
  | .local _ .vmem, ⟨7, _⟩ => ⟨S320x512, .bf16⟩
  | .local _ .vmem, ⟨8, _⟩ => ⟨S320x512, .bf16⟩
  | .local _ .vmem, ⟨9, _⟩ => ⟨S320x512, .bf16⟩
  | _, _ => ⟨S320x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S320x9216 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S9216x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S320x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S320x9216 : Shape := ⟨2, ![320, 9216]⟩
abbrev S320x128 : Shape := ⟨2, ![320, 128]⟩
abbrev S9216x8192 : Shape := ⟨2, ![9216, 8192]⟩
abbrev S1x8192 : Shape := ⟨2, ![1, 8192]⟩
abbrev S320x8192 : Shape := ⟨2, ![320, 8192]⟩
abbrev S320x1 : Shape := ⟨2, ![320, 1]⟩

abbrev nBuf : Space → Nat
  | .hbm => 6
  | .vmem => 6
  | .smem => 0
  | _ => 0

abbrev bufTy : (tb : Table) → Fin (tcTables nBuf tb) → BufTy
  | .hbm, ⟨0, _⟩ => ⟨S320x9216, .bf16⟩
  | .hbm, ⟨1, _⟩ => ⟨S320x128, .f32⟩
  | .hbm, ⟨2, _⟩ => ⟨S9216x8192, .i8⟩
  | .hbm, ⟨3, _⟩ => ⟨S1x8192, .f32⟩
  | .hbm, ⟨4, _⟩ => ⟨S320x8192, .bf16⟩
  | .hbm, ⟨5, _⟩ => ⟨S320x8192, .bf16⟩
  | .local _ .vmem, ⟨0, _⟩ => ⟨S320x9216, .bf16⟩
  | .local _ .vmem, ⟨1, _⟩ => ⟨S320x128, .f32⟩
  | .local _ .vmem, ⟨2, _⟩ => ⟨S9216x8192, .i8⟩
  | .local _ .vmem, ⟨3, _⟩ => ⟨S1x8192, .f32⟩
  | .local _ .vmem, ⟨4, _⟩ => ⟨S320x8192, .bf16⟩
  | .local _ .vmem, ⟨5, _⟩ => ⟨S320x8192, .bf16⟩
  | _, _ => ⟨S320x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S320x9216 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Entry.lean ====
abbrev S64x5x8192 : Shape := ⟨3, ![64, 5, 8192]⟩
abbrev S8192 : Shape := ⟨1, ![8192]⟩
abbrev S5x64x8192 : Shape := ⟨3, ![5, 64, 8192]⟩
abbrev S320x8192 : Shape := ⟨2, ![320, 8192]⟩
abbrev S1x8192 : Shape := ⟨2, ![1, 8192]⟩
abbrev S320x128 : Shape := ⟨2, ![320, 128]⟩
abbrev S64x8192 : Shape := ⟨2, ![64, 8192]⟩
abbrev S64x128 : Shape := ⟨2, ![64, 128]⟩
abbrev S64 : Shape := ⟨1, ![64]⟩
abbrev S64x1 : Shape := ⟨2, ![64, 1]⟩
abbrev S320x1 : Shape := ⟨2, ![320, 1]⟩
abbrev S320 : Shape := ⟨1, ![320]⟩
abbrev S5x64 : Shape := ⟨2, ![5, 64]⟩
abbrev S64x5 : Shape := ⟨2, ![64, 5]⟩

abbrev nBuf : Space → Nat
  | .hbm => 14
  | .vmem => 9
  | .smem => 0
  | _ => 0

abbrev bufTy : (tb : Table) → Fin (tcTables nBuf tb) → BufTy
  | .hbm, ⟨0, _⟩ => ⟨S64x5x8192, .bf16⟩
  | .hbm, ⟨1, _⟩ => ⟨S8192, .f32⟩
  | .hbm, ⟨2, _⟩ => ⟨S5x64x8192, .bf16⟩
  | .hbm, ⟨3, _⟩ => ⟨S320x8192, .bf16⟩
  | .hbm, ⟨4, _⟩ => ⟨S1x8192, .f32⟩
  | .hbm, ⟨5, _⟩ => ⟨S320x8192, .i8⟩
  | .hbm, ⟨6, _⟩ => ⟨S320x8192, .bf16⟩
  | .hbm, ⟨7, _⟩ => ⟨S320x128, .f32⟩
  | .hbm, ⟨8, _⟩ => ⟨S5x64x8192, .i8⟩
  | .hbm, ⟨9, _⟩ => ⟨S64x5x8192, .i8⟩
  | .hbm, ⟨10, _⟩ => ⟨S320x1, .f32⟩
  | .hbm, ⟨11, _⟩ => ⟨S320, .f32⟩
  | .hbm, ⟨12, _⟩ => ⟨S5x64, .f32⟩
  | .hbm, ⟨13, _⟩ => ⟨S64x5, .f32⟩
  | .local _ .vmem, ⟨0, _⟩ => ⟨S64x8192, .bf16⟩
  | .local _ .vmem, ⟨1, _⟩ => ⟨S64x8192, .bf16⟩
  | .local _ .vmem, ⟨2, _⟩ => ⟨S1x8192, .f32⟩
  | .local _ .vmem, ⟨3, _⟩ => ⟨S64x8192, .i8⟩
  | .local _ .vmem, ⟨4, _⟩ => ⟨S64x8192, .i8⟩
  | .local _ .vmem, ⟨5, _⟩ => ⟨S64x8192, .bf16⟩
  | .local _ .vmem, ⟨6, _⟩ => ⟨S64x8192, .bf16⟩
  | .local _ .vmem, ⟨7, _⟩ => ⟨S64x128, .f32⟩
  | .local _ .vmem, ⟨8, _⟩ => ⟨S64x128, .f32⟩
  | _, _ => ⟨S64x5x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EntryRefIdeal.lean ====
abbrev S64x5x8192 : Shape := ⟨3, ![64, 5, 8192]⟩
abbrev S8192 : Shape := ⟨1, ![8192]⟩
abbrev S320x8192 : Shape := ⟨2, ![320, 8192]⟩
abbrev S1x8192 : Shape := ⟨2, ![1, 8192]⟩
abbrev S320x1 : Shape := ⟨2, ![320, 1]⟩
abbrev S320 : Shape := ⟨1, ![320]⟩
abbrev S64x5 : Shape := ⟨2, ![64, 5]⟩

abbrev nBuf : Space → Nat
  | .hbm => 8
  | .vmem => 4
  | .smem => 0
  | _ => 0

abbrev bufTy : (tb : Table) → Fin (tcTables nBuf tb) → BufTy
  | .hbm, ⟨0, _⟩ => ⟨S64x5x8192, .bf16⟩
  | .hbm, ⟨1, _⟩ => ⟨S8192, .f32⟩
  | .hbm, ⟨2, _⟩ => ⟨S320x8192, .bf16⟩
  | .hbm, ⟨3, _⟩ => ⟨S1x8192, .f32⟩
  | .hbm, ⟨4, _⟩ => ⟨S320x8192, .i8⟩
  | .hbm, ⟨5, _⟩ => ⟨S320x1, .f32⟩
  | .hbm, ⟨6, _⟩ => ⟨S64x5x8192, .i8⟩
  | .hbm, ⟨7, _⟩ => ⟨S64x5, .f32⟩
  | .local _ .vmem, ⟨0, _⟩ => ⟨S320x8192, .bf16⟩
  | .local _ .vmem, ⟨1, _⟩ => ⟨S1x8192, .f32⟩
  | .local _ .vmem, ⟨2, _⟩ => ⟨S320x8192, .i8⟩
  | .local _ .vmem, ⟨3, _⟩ => ⟨S320x1, .f32⟩
  | _, _ => ⟨S64x5x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S320x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S320x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Project.lean ====
abbrev S64x5x8192 : Shape := ⟨3, ![64, 5, 8192]⟩
abbrev S8192 : Shape := ⟨1, ![8192]⟩
abbrev S8192x30816 : Shape := ⟨2, ![8192, 30816]⟩
abbrev S30816 : Shape := ⟨1, ![30816]⟩
abbrev S5x64x8192 : Shape := ⟨3, ![5, 64, 8192]⟩
abbrev S320x8192 : Shape := ⟨2, ![320, 8192]⟩
abbrev S1x8192 : Shape := ⟨2, ![1, 8192]⟩
abbrev S320x128 : Shape := ⟨2, ![320, 128]⟩
abbrev S64x8192 : Shape := ⟨2, ![64, 8192]⟩
abbrev S64x128 : Shape := ⟨2, ![64, 128]⟩
abbrev S64 : Shape := ⟨1, ![64]⟩
abbrev S64x1 : Shape := ⟨2, ![64, 1]⟩
abbrev S1x30816 : Shape := ⟨2, ![1, 30816]⟩
abbrev S320x30816 : Shape := ⟨2, ![320, 30816]⟩
abbrev S8192x512 : Shape := ⟨2, ![8192, 512]⟩
abbrev S1x512 : Shape := ⟨2, ![1, 512]⟩
abbrev S320x512 : Shape := ⟨2, ![320, 512]⟩
abbrev S320x1024 : Shape := ⟨2, ![320, 1024]⟩
abbrev S1024x512 : Shape := ⟨2, ![1024, 512]⟩
abbrev S320x1 : Shape := ⟨2, ![320, 1]⟩

abbrev nBuf : Space → Nat
  | .hbm => 12
  | .vmem => 17
  | .smem => 0
  | _ => 0

abbrev bufTy : (tb : Table) → Fin (tcTables nBuf tb) → BufTy
  | .hbm, ⟨0, _⟩ => ⟨S64x5x8192, .bf16⟩
  | .hbm, ⟨1, _⟩ => ⟨S8192, .f32⟩
  | .hbm, ⟨2, _⟩ => ⟨S8192x30816, .i8⟩
  | .hbm, ⟨3, _⟩ => ⟨S30816, .f32⟩
  | .hbm, ⟨4, _⟩ => ⟨S5x64x8192, .bf16⟩
  | .hbm, ⟨5, _⟩ => ⟨S320x8192, .bf16⟩
  | .hbm, ⟨6, _⟩ => ⟨S1x8192, .f32⟩
  | .hbm, ⟨7, _⟩ => ⟨S320x8192, .i8⟩
  | .hbm, ⟨8, _⟩ => ⟨S320x8192, .bf16⟩
  | .hbm, ⟨9, _⟩ => ⟨S320x128, .f32⟩
  | .hbm, ⟨10, _⟩ => ⟨S1x30816, .f32⟩
  | .hbm, ⟨11, _⟩ => ⟨S320x30816, .bf16⟩
  | .local _ .vmem, ⟨0, _⟩ => ⟨S64x8192, .bf16⟩
  | .local _ .vmem, ⟨1, _⟩ => ⟨S64x8192, .bf16⟩
  | .local _ .vmem, ⟨2, _⟩ => ⟨S1x8192, .f32⟩
  | .local _ .vmem, ⟨3, _⟩ => ⟨S64x8192, .i8⟩
  | .local _ .vmem, ⟨4, _⟩ => ⟨S64x8192, .i8⟩
  | .local _ .vmem, ⟨5, _⟩ => ⟨S64x8192, .bf16⟩
  | .local _ .vmem, ⟨6, _⟩ => ⟨S64x8192, .bf16⟩
  | .local _ .vmem, ⟨7, _⟩ => ⟨S64x128, .f32⟩
  | .local _ .vmem, ⟨8, _⟩ => ⟨S64x128, .f32⟩
  | .local _ .vmem, ⟨9, _⟩ => ⟨S320x8192, .bf16⟩
  | .local _ .vmem, ⟨10, _⟩ => ⟨S320x128, .f32⟩
  | .local _ .vmem, ⟨11, _⟩ => ⟨S8192x512, .i8⟩
  | .local _ .vmem, ⟨12, _⟩ => ⟨S8192x512, .i8⟩
  | .local _ .vmem, ⟨13, _⟩ => ⟨S1x512, .f32⟩
  | .local _ .vmem, ⟨14, _⟩ => ⟨S1x512, .f32⟩
  | .local _ .vmem, ⟨15, _⟩ => ⟨S320x512, .bf16⟩
  | .local _ .vmem, ⟨16, _⟩ => ⟨S320x512, .bf16⟩
  | _, _ => ⟨S64x5x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8192 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![61], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S320x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S320x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S320x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ProjectRefIdeal.lean ====
abbrev S64x5x8192 : Shape := ⟨3, ![64, 5, 8192]⟩
abbrev S8192 : Shape := ⟨1, ![8192]⟩
abbrev S8192x30816 : Shape := ⟨2, ![8192, 30816]⟩
abbrev S30816 : Shape := ⟨1, ![30816]⟩
abbrev S5x64x8192 : Shape := ⟨3, ![5, 64, 8192]⟩
abbrev S320x8192 : Shape := ⟨2, ![320, 8192]⟩
abbrev S1x8192 : Shape := ⟨2, ![1, 8192]⟩
abbrev S1x30816 : Shape := ⟨2, ![1, 30816]⟩
abbrev S320x30816 : Shape := ⟨2, ![320, 30816]⟩
abbrev S320 : Shape := ⟨1, ![320]⟩
abbrev S320x1 : Shape := ⟨2, ![320, 1]⟩

abbrev nBuf : Space → Nat
  | .hbm => 9
  | .vmem => 5
  | .smem => 0
  | _ => 0

abbrev bufTy : (tb : Table) → Fin (tcTables nBuf tb) → BufTy
  | .hbm, ⟨0, _⟩ => ⟨S64x5x8192, .bf16⟩
  | .hbm, ⟨1, _⟩ => ⟨S8192, .f32⟩
  | .hbm, ⟨2, _⟩ => ⟨S8192x30816, .i8⟩
  | .hbm, ⟨3, _⟩ => ⟨S30816, .f32⟩
  | .hbm, ⟨4, _⟩ => ⟨S5x64x8192, .bf16⟩
  | .hbm, ⟨5, _⟩ => ⟨S320x8192, .bf16⟩
  | .hbm, ⟨6, _⟩ => ⟨S1x8192, .f32⟩
  | .hbm, ⟨7, _⟩ => ⟨S1x30816, .f32⟩
  | .hbm, ⟨8, _⟩ => ⟨S320x30816, .bf16⟩
  | .local _ .vmem, ⟨0, _⟩ => ⟨S320x8192, .bf16⟩
  | .local _ .vmem, ⟨1, _⟩ => ⟨S1x8192, .f32⟩
  | .local _ .vmem, ⟨2, _⟩ => ⟨S8192x30816, .i8⟩
  | .local _ .vmem, ⟨3, _⟩ => ⟨S1x30816, .f32⟩
  | .local _ .vmem, ⟨4, _⟩ => ⟨S320x30816, .bf16⟩
  | _, _ => ⟨S64x5x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S320x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x30816 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x30816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x30816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Tail.lean ====
abbrev S5x64x9216 : Shape := ⟨3, ![5, 64, 9216]⟩
abbrev S9216x8192 : Shape := ⟨2, ![9216, 8192]⟩
abbrev S8192 : Shape := ⟨1, ![8192]⟩
abbrev S64x5x8192 : Shape := ⟨3, ![64, 5, 8192]⟩
abbrev S5x64x8192 : Shape := ⟨3, ![5, 64, 8192]⟩
abbrev S320x8192 : Shape := ⟨2, ![320, 8192]⟩
abbrev S320x9216 : Shape := ⟨2, ![320, 9216]⟩
abbrev S320x128 : Shape := ⟨2, ![320, 128]⟩
abbrev S64x9216 : Shape := ⟨2, ![64, 9216]⟩
abbrev S64x128 : Shape := ⟨2, ![64, 128]⟩
abbrev S64 : Shape := ⟨1, ![64]⟩
abbrev S64x1 : Shape := ⟨2, ![64, 1]⟩
abbrev S1x8192 : Shape := ⟨2, ![1, 8192]⟩
abbrev S9216x512 : Shape := ⟨2, ![9216, 512]⟩
abbrev S1x512 : Shape := ⟨2, ![1, 512]⟩
abbrev S320x512 : Shape := ⟨2, ![320, 512]⟩
abbrev S320x1024 : Shape := ⟨2, ![320, 1024]⟩
abbrev S1024x512 : Shape := ⟨2, ![1024, 512]⟩
abbrev S320x1 : Shape := ⟨2, ![320, 1]⟩
abbrev S64x5x9216 : Shape := ⟨3, ![64, 5, 9216]⟩
abbrev S320 : Shape := ⟨1, ![320]⟩
abbrev S5x64 : Shape := ⟨2, ![5, 64]⟩
abbrev S64x5 : Shape := ⟨2, ![64, 5]⟩

abbrev nBuf : Space → Nat
  | .hbm => 20
  | .vmem => 18
  | .smem => 0
  | _ => 0

abbrev bufTy : (tb : Table) → Fin (tcTables nBuf tb) → BufTy
  | .hbm, ⟨0, _⟩ => ⟨S5x64x9216, .f32⟩
  | .hbm, ⟨1, _⟩ => ⟨S9216x8192, .i8⟩
  | .hbm, ⟨2, _⟩ => ⟨S8192, .f32⟩
  | .hbm, ⟨3, _⟩ => ⟨S64x5x8192, .bf16⟩
  | .hbm, ⟨4, _⟩ => ⟨S5x64x8192, .bf16⟩
  | .hbm, ⟨5, _⟩ => ⟨S320x8192, .bf16⟩
  | .hbm, ⟨6, _⟩ => ⟨S320x9216, .f32⟩
  | .hbm, ⟨7, _⟩ => ⟨S320x9216, .i8⟩
  | .hbm, ⟨8, _⟩ => ⟨S320x9216, .bf16⟩
  | .hbm, ⟨9, _⟩ => ⟨S320x128, .f32⟩
  | .hbm, ⟨10, _⟩ => ⟨S1x8192, .f32⟩
  | .hbm, ⟨11, _⟩ => ⟨S320x8192, .bf16⟩
  | .hbm, ⟨12, _⟩ => ⟨S5x64x8192, .bf16⟩
  | .hbm, ⟨13, _⟩ => ⟨S64x5x8192, .bf16⟩
  | .hbm, ⟨14, _⟩ => ⟨S5x64x9216, .i8⟩
  | .hbm, ⟨15, _⟩ => ⟨S64x5x9216, .i8⟩
  | .hbm, ⟨16, _⟩ => ⟨S320x1, .f32⟩
  | .hbm, ⟨17, _⟩ => ⟨S320, .f32⟩
  | .hbm, ⟨18, _⟩ => ⟨S5x64, .f32⟩
  | .hbm, ⟨19, _⟩ => ⟨S64x5, .f32⟩
  | .local _ .vmem, ⟨0, _⟩ => ⟨S64x9216, .f32⟩
  | .local _ .vmem, ⟨1, _⟩ => ⟨S64x9216, .f32⟩
  | .local _ .vmem, ⟨2, _⟩ => ⟨S64x9216, .i8⟩
  | .local _ .vmem, ⟨3, _⟩ => ⟨S64x9216, .i8⟩
  | .local _ .vmem, ⟨4, _⟩ => ⟨S64x9216, .bf16⟩
  | .local _ .vmem, ⟨5, _⟩ => ⟨S64x9216, .bf16⟩
  | .local _ .vmem, ⟨6, _⟩ => ⟨S64x128, .f32⟩
  | .local _ .vmem, ⟨7, _⟩ => ⟨S64x128, .f32⟩
  | .local _ .vmem, ⟨8, _⟩ => ⟨S320x9216, .bf16⟩
  | .local _ .vmem, ⟨9, _⟩ => ⟨S320x128, .f32⟩
  | .local _ .vmem, ⟨10, _⟩ => ⟨S9216x512, .i8⟩
  | .local _ .vmem, ⟨11, _⟩ => ⟨S9216x512, .i8⟩
  | .local _ .vmem, ⟨12, _⟩ => ⟨S1x512, .f32⟩
  | .local _ .vmem, ⟨13, _⟩ => ⟨S1x512, .f32⟩
  | .local _ .vmem, ⟨14, _⟩ => ⟨S320x512, .bf16⟩
  | .local _ .vmem, ⟨15, _⟩ => ⟨S320x512, .bf16⟩
  | .local _ .vmem, ⟨16, _⟩ => ⟨S320x512, .bf16⟩
  | .local _ .vmem, ⟨17, _⟩ => ⟨S320x512, .bf16⟩
  | _, _ => ⟨S5x64x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x9216 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x9216 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S320x9216 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S320x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S9216x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S320x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S320x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== TailRefIdeal.lean ====
abbrev S5x64x9216 : Shape := ⟨3, ![5, 64, 9216]⟩
abbrev S9216x8192 : Shape := ⟨2, ![9216, 8192]⟩
abbrev S8192 : Shape := ⟨1, ![8192]⟩
abbrev S64x5x8192 : Shape := ⟨3, ![64, 5, 8192]⟩
abbrev S64x5x9216 : Shape := ⟨3, ![64, 5, 9216]⟩
abbrev S320x9216 : Shape := ⟨2, ![320, 9216]⟩
abbrev S1x8192 : Shape := ⟨2, ![1, 8192]⟩
abbrev S320x8192 : Shape := ⟨2, ![320, 8192]⟩
abbrev S320x1 : Shape := ⟨2, ![320, 1]⟩
abbrev S320 : Shape := ⟨1, ![320]⟩
abbrev S64x5 : Shape := ⟨2, ![64, 5]⟩

abbrev nBuf : Space → Nat
  | .hbm => 14
  | .vmem => 7
  | .smem => 0
  | _ => 0

abbrev bufTy : (tb : Table) → Fin (tcTables nBuf tb) → BufTy
  | .hbm, ⟨0, _⟩ => ⟨S5x64x9216, .f32⟩
  | .hbm, ⟨1, _⟩ => ⟨S9216x8192, .i8⟩
  | .hbm, ⟨2, _⟩ => ⟨S8192, .f32⟩
  | .hbm, ⟨3, _⟩ => ⟨S64x5x8192, .bf16⟩
  | .hbm, ⟨4, _⟩ => ⟨S64x5x9216, .f32⟩
  | .hbm, ⟨5, _⟩ => ⟨S320x9216, .f32⟩
  | .hbm, ⟨6, _⟩ => ⟨S1x8192, .f32⟩
  | .hbm, ⟨7, _⟩ => ⟨S320x8192, .bf16⟩
  | .hbm, ⟨8, _⟩ => ⟨S320x8192, .bf16⟩
  | .hbm, ⟨9, _⟩ => ⟨S320x9216, .i8⟩
  | .hbm, ⟨10, _⟩ => ⟨S320x1, .f32⟩
  | .hbm, ⟨11, _⟩ => ⟨S64x5x8192, .bf16⟩
  | .hbm, ⟨12, _⟩ => ⟨S64x5x9216, .i8⟩
  | .hbm, ⟨13, _⟩ => ⟨S64x5, .f32⟩
  | .local _ .vmem, ⟨0, _⟩ => ⟨S320x9216, .f32⟩
  | .local _ .vmem, ⟨1, _⟩ => ⟨S9216x8192, .i8⟩
  | .local _ .vmem, ⟨2, _⟩ => ⟨S1x8192, .f32⟩
  | .local _ .vmem, ⟨3, _⟩ => ⟨S320x8192, .bf16⟩
  | .local _ .vmem, ⟨4, _⟩ => ⟨S320x8192, .bf16⟩
  | .local _ .vmem, ⟨5, _⟩ => ⟨S320x9216, .i8⟩
  | .local _ .vmem, ⟨6, _⟩ => ⟨S320x1, .f32⟩
  | _, _ => ⟨S5x64x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S320x9216 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S320x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x9216 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S320x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Products.lean ====
/-
  Matrix products over the extended reals: an entry of a product of two matrices is the sum over the contracted
  coordinate, and a sum over `n · m` terms is the sum of `n` consecutive sums of `m` terms. This is all that cutting a
  product along its contracted axis needs.
-/
module

public import Idealize.ShloMosaic.Lib.MatmulPlain
public import Idealize.ShloMosaic.Lib.ValueIdx
public import Idealize.ShloMosaic.Lib.Pipeline.Value
public import Idealize.ShloMosaic.Lib.Pipeline.ValueKit.Tiles

@[expose] public section

noncomputable section

namespace Cert.Proof.Products

open Idealize.ShloMosaic Idealize.ShloMosaic.ValueIdx
open scoped BigOperators

/-- The entry `(r, c)` of a plain product with a zero accumulator. -/
theorem matmul_entry {M K N : ℕ} {φ₁ φ₂ : FTy} (D : DotDims ⟨2, ![M, K]⟩ ⟨2, ![K, N]⟩ ⟨2, ![M, N]⟩) (hD : D = DotDims.plain M K N)
    (A : FVec Ideal ⟨2, ![M, K]⟩ φ₁) (B : FVec Ideal ⟨2, ![K, N]⟩ φ₂) (r : Fin M) (c : Fin N) :
    matmul D none A B (constant (F := Ideal) ⟨2, ![M, N]⟩ .f32 0x00000000#32) (ix2 r c) = ∑ k : Fin K, A (ix2 r k) * B (ix2 k c) := by
  subst hD
  refine (Ideal.matmul_plain_apply none A B _ r c).trans ?_
  rw [constant_apply, Ideal.ofBits_zero_f32, zero_add]

/-- A sum over `n · m` terms, as `n` consecutive sums of `m` terms. -/
theorem sum_chunks {n m : ℕ} (f : ℕ → EReal) : ∑ k : Fin (n * m), f k = ∑ i : Fin n, ∑ k : Fin m, f (m * i + k) := by
  rw [← Equiv.sum_comp finProdFinEquiv, Fintype.sum_prod_type]
  refine Finset.sum_congr rfl fun i _ => Finset.sum_congr rfl fun k _ => ?_
  congr 1
  simp only [finProdFinEquiv_apply_val]
  omega

/-- Column `c` of the product's factors at contracted position `k`, continued by zero beyond the last position. -/
def term {M K N : ℕ} (A : (⟨2, ![M, K]⟩ : Shape).Idx → EReal) (B : (⟨2, ![K, N]⟩ : Shape).Idx → EReal) (r : Fin M) (c : Fin N) (k : ℕ) : EReal :=
  if h : k < K then A (ix2 r ⟨k, h⟩) * B (ix2 ⟨k, h⟩ c) else 0

theorem sum_term {M K N : ℕ} (A : (⟨2, ![M, K]⟩ : Shape).Idx → EReal) (B : (⟨2, ![K, N]⟩ : Shape).Idx → EReal) (r : Fin M) (c : Fin N) :
    ∑ k : Fin K, A (ix2 r k) * B (ix2 k c) = ∑ k : Fin K, term A B r c k :=
  Finset.sum_congr rfl fun k _ => by rw [term, dif_pos k.isLt]

/-- The entry of a product over one chunk of the contracted positions, `off ‥ off + m - 1`: its left factor is those
    columns of `A`, its right factor those rows of a matrix `W` of words, converted to numbers. -/
theorem chunk_entry {M K N m off : ℕ} (D : DotDims ⟨2, ![M, m]⟩ ⟨2, ![m, N]⟩ ⟨2, ![M, N]⟩) (hD : D = DotDims.plain M m N)
    (A : Vec Ideal ⟨2, ![M, K]⟩ .bf16) (W : Vec Ideal ⟨2, ![K, N]⟩ .i8)
    (hA : ∀ a : Fin 2, (![0, off] : Fin 2 → ℕ) a + (![M, m] : Fin 2 → ℕ) a ≤ (⟨2, ![M, K]⟩ : Shape).size a)
    (hW : ∀ a : Fin 2, (![off, 0] : Fin 2 → ℕ) a + (![m, N] : Fin 2 → ℕ) a ≤ (⟨2, ![K, N]⟩ : Shape).size a)
    (r : Fin M) (c : Fin N) :
    matmul (φ₁ := .bf16) (φ₂ := .bf16) D none (View.ld A (Rect.unit (s := ⟨2, ![M, K]⟩) ![0, off] ![M, m] hA) : FVec Ideal ⟨2, ![M, m]⟩ .bf16)
        (sitofp .bf16 (View.ld W (Rect.unit (s := ⟨2, ![K, N]⟩) ![off, 0] ![m, N] hW) : Vec Ideal ⟨2, ![m, N]⟩ .i8) : FVec Ideal ⟨2, ![m, N]⟩ .bf16)
        (constant (F := Ideal) ⟨2, ![M, N]⟩ .f32 0x00000000#32) (ix2 r c)
      = ∑ k : Fin m, term A (sitofp (F := Ideal) .bf16 W) r c (off + k) := by
  rw [matmul_entry D hD]
  refine Finset.sum_congr rfl fun k _ => ?_
  have hk : off + k.val < K := by have := hA 1; simp at this; omega
  rw [term, dif_pos hk, sitofp_apply, sitofp_apply]
  have eA : (Rect.unit (s := ⟨2, ![M, K]⟩) ![0, off] ![M, m] hA).idx (ix2 r k) = ix2 r ⟨off + k, hk⟩ := by
    funext a; apply Fin.ext
    match a with
    | ⟨0, _⟩ => show 0 + 1 * r.val = r.val; omega
    | ⟨1, _⟩ => show off + 1 * k.val = off + k.val; omega
  have eW : (Rect.unit (s := ⟨2, ![K, N]⟩) ![off, 0] ![m, N] hW).idx (ix2 k c) = ix2 ⟨off + k, hk⟩ c := by
    funext a; apply Fin.ext
    match a with
    | ⟨0, _⟩ => show off + 1 * k.val = off + k.val; omega
    | ⟨1, _⟩ => show 0 + 1 * c.val = c.val; omega
  exact congrArg₂ (· * ·) (congrArg A eA) (congrArg (fun w : BitVec 8 => (FloatOps.sitofp .bf16 w : Ideal .bf16)) (congrArg W eW))

theorem term_congr {M K N M' N' : ℕ} {A : (⟨2, ![M, K]⟩ : Shape).Idx → EReal} {B : (⟨2, ![K, N]⟩ : Shape).Idx → EReal}
    {A' : (⟨2, ![M', K]⟩ : Shape).Idx → EReal} {B' : (⟨2, ![K, N']⟩ : Shape).Idx → EReal} {r : Fin M} {c : Fin N} {r' : Fin M'} {c' : Fin N'}
    (hA : ∀ k, A (ix2 r k) = A' (ix2 r' k)) (hB : ∀ k, B (ix2 k c) = B' (ix2 k c')) (k : ℕ) : term A B r c k = term A' B' r' c' k := by
  unfold term
  split
  · rw [hA, hB]
  · rfl

theorem add_congr {a b c d : EReal} (h : a = b) (h' : c = d) : a + c = b + d := by rw [h, h']

/-- A column, repeated along every row. -/
theorem bcast_col {α : Type} {M N : ℕ} (x : (⟨2, ![M, 1]⟩ : Shape).Idx → α) (h : (⟨2, ![M, 1]⟩ : Shape).Broadcasts ⟨2, ![M, N]⟩) (r : Fin M) (c : Fin N) :
    broadcastTo ⟨2, ![M, N]⟩ x h (ix2 r c) = x (ix2 r (0 : Fin 1)) := by
  refine broadcastTo_apply x h (ix2 r c) (ix2 r (0 : Fin 1)) fun a => ?_
  match a with
  | ⟨0, _⟩ =>
    show r.val = if M = 1 then 0 else r.val
    split
    · have := r.isLt; omega
    · rfl
  | ⟨1, _⟩ => rfl

/-- A row, repeated along every column. -/
theorem bcast_row {α : Type} {M N : ℕ} (x : (⟨2, ![1, N]⟩ : Shape).Idx → α) (h : (⟨2, ![1, N]⟩ : Shape).Broadcasts ⟨2, ![M, N]⟩) (r : Fin M) (c : Fin N) :
    broadcastTo ⟨2, ![M, N]⟩ x h (ix2 r c) = x (ix2 (0 : Fin 1) c) := by
  refine broadcastTo_apply x h (ix2 r c) (ix2 (0 : Fin 1) c) fun a => ?_
  match a with
  | ⟨0, _⟩ => rfl
  | ⟨1, _⟩ =>
    show c.val = if N = 1 then 0 else c.val
    split
    · have := c.isLt; omega
    · rfl

/-- The first column of an array, cut out. -/
theorem slice_col {α : Type} {M K : ℕ} (x : (⟨2, ![M, K]⟩ : Shape).Idx → α) (h : (⟨2, ![M, K]⟩ : Shape).Slices ![0, 0] ⟨2, ![M, 1]⟩) (hK : 0 < K) (r : Fin M) :
    extractStridedSlice ⟨2, ![M, 1]⟩ ![0, 0] x h (ix2 r (0 : Fin 1)) = x (ix2 r ⟨0, hK⟩) := by
  refine extractStridedSlice_apply _ x h _ _ fun a => ?_
  match a with
  | ⟨0, _⟩ => show r.val = 0 + r.val; omega
  | ⟨1, _⟩ => rfl

/-- The first column of an array, loaded. -/
theorem ld_col {Val : EltTy → Type} {e : EltTy} {M K : ℕ} (x : (⟨2, ![M, K]⟩ : Shape).Idx → Val e)
    (h : ∀ a : Fin 2, (![0, 0] : Fin 2 → ℕ) a + (![M, 1] : Fin 2 → ℕ) a ≤ (⟨2, ![M, K]⟩ : Shape).size a) (hK : 0 < K) (r : Fin M) :
    View.ld x (Rect.unit (s := ⟨2, ![M, K]⟩) ![0, 0] ![M, 1] h) (ix2 r (0 : Fin 1)) = x (ix2 r ⟨0, hK⟩) := by
  refine congrArg x (funext fun a => Fin.ext ?_)
  match a with
  | ⟨0, _⟩ => show 0 + 1 * r.val = r.val; omega
  | ⟨1, _⟩ => rfl

end Cert.Proof.Products

end
-- ==== Proof.Quant.lean ====
/-
  The row quantiser over the extended reals, on a matrix with any number of rows: a row's scale and codes depend on that
  row alone, so cutting a matrix into blocks of rows changes neither.
-/
module

public import Idealize.ShloMosaic.Lib.ValueIdx
public import Idealize.ShloMosaic.Lib.Pipeline.Value
public import Idealize.ShloMosaic.PureOps.Ideal.Laws
public import proofs.«01_k».proof.Proof.Products

@[expose] public section

noncomputable section

namespace Cert.Proof.Quant

open Idealize.ShloMosaic Idealize.ShloMosaic.ValueIdx Cert.Proof.Products
open scoped BigOperators

variable {M K L : ℕ}

/-- The largest magnitude of a row. -/
def amaxOf (v : Fin K → EReal) : EReal :=
  (Finset.univ : Finset (Fin K)).fold max (FloatOps.ofBits (F := Ideal) .f32 0xFF800000#32) (fun k => FloatOps.absf (F := Ideal) (φ := .f32) (v k))

/-- A row's scale: its largest magnitude over 127, or one for a row of zeros. -/
def scaleOf (v : Fin K → EReal) : EReal :=
  Scalar.select (FloatOps.cmpf (F := Ideal) (φ := .f32) .ogt (amaxOf v) (Ideal.ofBits .f32 0x00000000#32))
    (Ideal.div (amaxOf v) (Ideal.ofBits .f32 0x42FE0000#32)) (Ideal.ofBits .f32 0x3F800000#32)

/-- A row's codes as numbers: divided by the scale, rounded to even, clipped to `-127 ‥ 127`. -/
def codeOf (v : Fin K → EReal) (j : Fin K) : EReal :=
  min (Ideal.ofBits .f32 0x42FE0000#32) (max (Ideal.ofBits .f32 0xC2FE0000#32)
    (FloatOps.roundeven (F := Ideal) (φ := .f32) (Ideal.div (v j) (scaleOf v))))

/-- A vector of row values, made a column. -/
theorem column_apply {α : Type} (x : (⟨1, ![M]⟩ : Shape).Idx → α) (h : (⟨1, ![M]⟩ : Shape).ShapeCasts ⟨2, ![M, 1]⟩) (r : Fin M) :
    shapeCast ⟨2, ![M, 1]⟩ x h (ix2 r (0 : Fin 1)) = x (ix1 r) := by
  refine shapeCast_apply x h _ _ ?_
  rw [Shape.rowMajor_val_one, Shape.rowMajor_val_two]
  show r.val = r.val * 1 + 0
  omega

/-- The sum of a row. -/
theorem rowSum_apply (x : FVec Ideal ⟨2, ![M, K]⟩ .f32) (h : (⟨2, ![M, K]⟩ : Shape).Reduces [1] ⟨1, ![M]⟩) (hφ) (hacc) (r : Fin M) :
    multiReduction .add [1] ⟨1, ![M]⟩ x 0x00000000#32 h hφ hacc (ix1 r) = ∑ k : Fin K, x (ix2 r k) := by
  refine (Ideal.multiReduction_add_single x _ h hφ hacc (ix1 r)).trans (Finset.sum_congr rfl fun k _ => congrArg x ?_)
  funext a
  match a with
  | ⟨0, _⟩ => rfl
  | ⟨1, _⟩ => rfl

/-- The largest magnitude of a row. -/
theorem rowMax_apply (x : FVec Ideal ⟨2, ![M, K]⟩ .f32) (h : (⟨2, ![M, K]⟩ : Shape).Reduces [1] ⟨1, ![M]⟩) (hφ) (hacc) (r : Fin M) :
    multiReduction .maximumf [1] ⟨1, ![M]⟩ (absf x) 0xFF800000#32 h hφ hacc (ix1 r) = amaxOf fun k => x (ix2 r k) := by
  refine (Ideal.multiReduction_maximumf_single (absf x) _ h hφ hacc (ix1 r)).trans ?_
  unfold amaxOf
  congr 1
  funext k
  show FloatOps.absf (x (h.lift (ix1 r) k)) = _
  congr 2
  funext a
  match a with
  | ⟨0, _⟩ => rfl
  | ⟨1, _⟩ => rfl

/-- The scale of row `r`, as the programs compute it. -/
theorem scale_apply (x : FVec Ideal ⟨2, ![M, K]⟩ .f32) (h : (⟨2, ![M, K]⟩ : Shape).Reduces [1] ⟨1, ![M]⟩) (hφ) (hacc)
    (hc : (⟨1, ![M]⟩ : Shape).ShapeCasts ⟨2, ![M, 1]⟩) (r : Fin M) :
    select (cmpf (F := Ideal) .ogt (shapeCast ⟨2, ![M, 1]⟩ (multiReduction .maximumf [1] ⟨1, ![M]⟩ (absf x) 0xFF800000#32 h hφ hacc) hc)
          (broadcast ⟨2, ![M, 1]⟩ (Scalar.ofBits (F := Ideal) .f32 0x00000000#32)))
        (divf (F := Ideal) (shapeCast ⟨2, ![M, 1]⟩ (multiReduction .maximumf [1] ⟨1, ![M]⟩ (absf x) 0xFF800000#32 h hφ hacc) hc)
          (broadcast ⟨2, ![M, 1]⟩ (Scalar.ofBits (F := Ideal) .f32 0x42FE0000#32)))
        (broadcast ⟨2, ![M, 1]⟩ (Scalar.ofBits (F := Ideal) .f32 0x3F800000#32)) (ix2 r (0 : Fin 1))
      = scaleOf fun k => x (ix2 r k) := by
  have e := (column_apply (multiReduction .maximumf [1] ⟨1, ![M]⟩ (absf x) 0xFF800000#32 h hφ hacc) hc r).trans (rowMax_apply x h hφ hacc r)
  unfold scaleOf
  rw [← e]
  rfl

/-- The code of entry `(r, j)`, as the programs compute it from the rows and the column of scales. -/
theorem code_apply (x : FVec Ideal ⟨2, ![M, K]⟩ .f32) (s : FVec Ideal ⟨2, ![M, 1]⟩ .f32) (hb : (⟨2, ![M, 1]⟩ : Shape).Broadcasts ⟨2, ![M, K]⟩)
    (r : Fin M) (hs : s (ix2 r (0 : Fin 1)) = scaleOf fun k => x (ix2 r k)) (j : Fin K) :
    minimumf (F := Ideal) (broadcast ⟨2, ![M, K]⟩ (Scalar.ofBits (F := Ideal) .f32 0x42FE0000#32))
        (maximumf (F := Ideal) (broadcast ⟨2, ![M, K]⟩ (Scalar.ofBits (F := Ideal) .f32 0xC2FE0000#32))
          (roundeven (F := Ideal) (divf (F := Ideal) x (broadcastTo ⟨2, ![M, K]⟩ s hb)))) (ix2 r j)
      = codeOf (fun k => x (ix2 r k)) j := by
  have e := (bcast_col s hb r j).trans hs
  unfold codeOf
  rw [← e]
  rfl

/-- A column, repeated along the lanes. -/
theorem lanes_apply (s : FVec Ideal ⟨2, ![M, 1]⟩ .f32) (hc : (⟨2, ![M, 1]⟩ : Shape).ShapeCasts ⟨2, ![M, 1]⟩)
    (hb : (⟨2, ![M, 1]⟩ : Shape).Broadcasts ⟨2, ![M, L]⟩) (r : Fin M) (j : Fin L) :
    broadcastTo ⟨2, ![M, L]⟩ (shapeCast ⟨2, ![M, 1]⟩ s hc) hb (ix2 r j) = s (ix2 r (0 : Fin 1)) :=
  (bcast_col _ hb r j).trans (shapeCast_apply s hc _ _ rfl)

theorem rsqrt_mul {s : Shape} (x : FVec Ideal s .f32) (b d : BitVec 32) (i : s.Idx) :
    rsqrt (F := Ideal) (addf (mulf x (broadcast s (Scalar.ofBits (F := Ideal) .f32 b))) (broadcast s (Scalar.ofBits (F := Ideal) .f32 d))) i
      = Ideal.rsqrt (x i * Ideal.ofBits .f32 b + Ideal.ofBits .f32 d) := rfl

theorem rsqrt_div {s : Shape} (x : FVec Ideal s .f32) (b d : BitVec 32) (i : s.Idx) :
    rsqrt (F := Ideal) (addf (divf x (broadcast s (Scalar.ofBits (F := Ideal) .f32 b))) (broadcast s (Scalar.ofBits (F := Ideal) .f32 d))) i
      = Ideal.rsqrt (Ideal.div (x i) (Ideal.ofBits .f32 b) + Ideal.ofBits .f32 d) := rfl

/-- A row divided by the root of its mean square (plus a small constant), times the weight. -/
def normOf (x : Fin 8192 → EReal) (w : EReal) (j : Fin 8192) : EReal :=
  x j * Ideal.rsqrt (Ideal.div (∑ k, x k * x k) (Ideal.ofBits .f32 0x46000000#32) + Ideal.ofBits .f32 0x358637BD#32) * w

/-- Dividing by 8192 is multiplying by its reciprocal, which the words encode exactly. -/
theorem div_8192 (s : EReal) : Ideal.div s (Ideal.ofBits .f32 0x46000000#32) = s * Ideal.ofBits .f32 0x39000000#32 := by
  have e1 : Ideal.ofBits .f32 0x46000000#32 = ((8192 : ℝ) : EReal) := by
    simp [Ideal.ofBits, Ideal.ieee, -EReal.coe_mul]; norm_num
  have e2 : Ideal.ofBits .f32 0x39000000#32 = ((1 / 8192 : ℝ) : EReal) := by
    simp [Ideal.ofBits, Ideal.ieee, -EReal.coe_mul]; norm_num
  rw [e1, e2, Ideal.div_coe (by norm_num)]

end Cert.Proof.Quant

end
-- ==== Proof.QuantIn.lean ====
/-
  The input quantiser: normalise each row, take its scale, round it to codes. The kernel takes 64 rows at a time and
  multiplies the sum of squares by 1/8192, which is dividing by 8192; everything else is the reference's formula, row
  by row.
-/
module

public import proofs.«01_k».proof.Defs
public import proofs.«01_k».proof.Proof.Gen.QuantInIdeal.Value
public import proofs.«01_k».proof.Proof.Gen.QuantInRefIdeal.Value
public import proofs.«01_k».proof.Proof.Quant

@[expose] public section

noncomputable section

namespace Cert.Proof.QuantIn

open Idealize.ShloMosaic Idealize.ShloMosaic.ValueIdx Idealize.ShloMosaic.TcCoe Idealize.SL.Sem
open Cert.Proof.Products Cert.Proof.Quant
open scoped BigOperators

/-- Row `r`, normalised and weighted. -/
def rowOf {M : ℕ} (a0 : Vec Ideal ⟨2, ![M, 8192]⟩ .bf16) (a1 : Vec Ideal ⟨2, ![1, 8192]⟩ .f32) (r : Fin M) : Fin 8192 → EReal := fun k =>
  normOf (fun k => a0 (ix2 r k)) (a1 (ix2 (0 : Fin 1) k)) k

/-- The codes on whole arrays, as bytes … -/
def codes8 (a0 : Vec Ideal ⟨2, ![320, 8192]⟩ .bf16) (a1 : Vec Ideal ⟨2, ![1, 8192]⟩ .f32) : Vec Ideal ⟨2, ![320, 8192]⟩ .i8 := fun i =>
  FloatOps.fptosi (F := Ideal) (φ := .f32) 8 (codeOf (rowOf a0 a1 (i 0)) (i 1))

/-- … the codes as numbers … -/
def codes (a0 : Vec Ideal ⟨2, ![320, 8192]⟩ .bf16) (a1 : Vec Ideal ⟨2, ![1, 8192]⟩ .f32) : Vec Ideal ⟨2, ![320, 8192]⟩ .bf16 := fun i => codeOf (rowOf a0 a1 (i 0)) (i 1)

/-- … and the scales, each row's along its lanes. -/
def scales (a0 : Vec Ideal ⟨2, ![320, 8192]⟩ .bf16) (a1 : Vec Ideal ⟨2, ![1, 8192]⟩ .f32) : Vec Ideal ⟨2, ![320, 128]⟩ .f32 := fun i => scaleOf (rowOf a0 a1 (i 0))

namespace Kernel

open Cert.QuantInIdeal Cert.QuantInIdeal.Gen

theorem norm_entry (a0 : Vec Ideal S64x8192 .bf16) (a1 : Vec Ideal S1x8192 .f32) (r : Fin 64) (j : Fin 8192) : k0_pay1 (F := Ideal) a0 a1 (ix2 r j) = rowOf a0 a1 r j := by
  have e := (column_apply _ shapeCasts_S64_S64x1 r).trans
    (rowSum_apply (mulf (extf .f32 a0 bitsLt_bf16_f32) (extf .f32 a0 bitsLt_bf16_f32)) reduces_S64x8192_S64 (.inl rfl) rfl r)
  simp only [k0_pay1]
  rw [mulf_apply, mulf_apply, extf_apply]
  rw [bcast_col, bcast_row, rsqrt_mul]
  simp only [mulf_apply, extf_apply] at e
  unfold rowOf normOf
  rw [div_8192, ← e]

theorem scale_entry (a0 : Vec Ideal S64x8192 .bf16) (a1 : Vec Ideal S1x8192 .f32) (r : Fin 64) : k0_pay2 (F := Ideal) a0 a1 (ix2 r (0 : Fin 1)) = scaleOf (rowOf a0 a1 r) :=
  (scale_apply (k0_pay1 (F := Ideal) a0 a1) reduces_S64x8192_S64 (.inl rfl) rfl shapeCasts_S64_S64x1 r).trans (congrArg scaleOf (funext fun k => norm_entry a0 a1 r k))

theorem code_entry (a0 : Vec Ideal S64x8192 .bf16) (a1 : Vec Ideal S1x8192 .f32) (r : Fin 64) (j : Fin 8192) : k0_pay3 (F := Ideal) a0 a1 (ix2 r j) = codeOf (rowOf a0 a1 r) j :=
  (code_apply (k0_pay1 (F := Ideal) a0 a1) (k0_pay2 (F := Ideal) a0 a1) broadcasts_S64x1_S64x8192 r ((scale_entry a0 a1 r).trans (congrArg scaleOf (funext fun k => (norm_entry a0 a1 r k).symm))) j).trans (congrArg (fun v => codeOf v j) (funext fun k => norm_entry a0 a1 r k))

theorem code8_entry (a0 : Vec Ideal S64x8192 .bf16) (a1 : Vec Ideal S1x8192 .f32) (r : Fin 64) (j : Fin 8192) :
    k0_pay4 (F := Ideal) a0 a1 (ix2 r j) = FloatOps.fptosi (F := Ideal) (φ := .f32) 8 (codeOf (rowOf a0 a1 r) j) :=
  congrArg (FloatOps.fptosi (F := Ideal) (φ := .f32) 8) (code_entry a0 a1 r j)

theorem codeb_entry (a0 : Vec Ideal S64x8192 .bf16) (a1 : Vec Ideal S1x8192 .f32) (r : Fin 64) (j : Fin 8192) : k0_pay5 (F := Ideal) a0 a1 (ix2 r j) = codeOf (rowOf a0 a1 r) j :=
  code_entry a0 a1 r j

theorem lanes_entry (a0 : Vec Ideal S64x8192 .bf16) (a1 : Vec Ideal S1x8192 .f32) (r : Fin 64) (j : Fin 128) : k0_pay6 (F := Ideal) a0 a1 (ix2 r j) = scaleOf (rowOf a0 a1 r) :=
  (lanes_apply (k0_pay2 (F := Ideal) a0 a1) shapeCasts_S64x1_S64x1 broadcasts_S64x1_S64x128 r j).trans (scale_entry a0 a1 r)

/-- The block of point `t` is rows `64 t ‥ 64 t + 63`, and all of the weights. -/
theorem index_facts : ∀ t : Fin cfg0.N, win0_0.index t (0 : Fin 2) = t.val ∧ win0_0.index t (1 : Fin 2) = 0 ∧ win0_2.index t (0 : Fin 2) = t.val ∧ win0_2.index t (1 : Fin 2) = 0 ∧ win0_3.index t (0 : Fin 2) = t.val ∧ win0_3.index t (1 : Fin 2) = 0 ∧ win0_4.index t (0 : Fin 2) = t.val ∧ win0_4.index t (1 : Fin 2) = 0 ∧ win0_1.index t (0 : Fin 2) = 0 ∧ win0_1.index t (1 : Fin 2) = 0 ∧ t.val < 5 :=
  (by decide +kernel : ∀ t : Fin grid0.N, _)

/-- Row `r` of block `t`, as a row of the array. -/
def row (t : Fin cfg0.N) (r : Fin 64) : Fin 320 := ⟨64 * t.val + r.val, by have := index_facts t; omega⟩

theorem emb0 (t : Fin cfg0.N) (r : Fin 64) (k : Fin 8192) : ((cfg0.win 0).blk t).view.emb (ix2 r k) = ix2 (row t r) k := by
  have e := index_facts t
  funext a; apply Fin.ext
  match a with
  | ⟨0, _⟩ => show win0_0.index t (0 : Fin 2) * 64 + 1 * r.val = 64 * t.val + r.val; omega
  | ⟨1, _⟩ => show win0_0.index t (1 : Fin 2) * 8192 + 1 * k.val = k.val; omega

theorem emb2 (t : Fin cfg0.N) (r : Fin 64) (k : Fin 8192) : ((cfg0.win 2).blk t).view.emb (ix2 r k) = ix2 (row t r) k := by
  have e := index_facts t
  funext a; apply Fin.ext
  match a with
  | ⟨0, _⟩ => show win0_2.index t (0 : Fin 2) * 64 + 1 * r.val = 64 * t.val + r.val; omega
  | ⟨1, _⟩ => show win0_2.index t (1 : Fin 2) * 8192 + 1 * k.val = k.val; omega

theorem emb3 (t : Fin cfg0.N) (r : Fin 64) (k : Fin 8192) : ((cfg0.win 3).blk t).view.emb (ix2 r k) = ix2 (row t r) k := by
  have e := index_facts t
  funext a; apply Fin.ext
  match a with
  | ⟨0, _⟩ => show win0_3.index t (0 : Fin 2) * 64 + 1 * r.val = 64 * t.val + r.val; omega
  | ⟨1, _⟩ => show win0_3.index t (1 : Fin 2) * 8192 + 1 * k.val = k.val; omega

theorem emb4 (t : Fin cfg0.N) (r : Fin 64) (k : Fin 128) : ((cfg0.win 4).blk t).view.emb (ix2 r k) = ix2 (row t r) k := by
  have e := index_facts t
  funext a; apply Fin.ext
  match a with
  | ⟨0, _⟩ => show win0_4.index t (0 : Fin 2) * 64 + 1 * r.val = 64 * t.val + r.val; omega
  | ⟨1, _⟩ => show win0_4.index t (1 : Fin 2) * 128 + 1 * k.val = k.val; omega

theorem emb1 (t : Fin cfg0.N) (r : Fin 1) (k : Fin 8192) : ((cfg0.win 1).blk t).view.emb (ix2 r k) = ix2 r k := by
  have e := index_facts t
  funext a; apply Fin.ext
  match a with
  | ⟨0, _⟩ => show win0_1.index t (0 : Fin 2) * 1 + 1 * r.val = r.val; omega
  | ⟨1, _⟩ => show win0_1.index t (1 : Fin 2) * 8192 + 1 * k.val = k.val; omega

variable (m : (ℓ : Loc nD τ sig) → Buf (Elt Ideal) ℓ)

theorem hz : (![0, 0] : Fin 2 → Nat) = fun _ => 0 := funext fun a => by fin_cases a <;> rfl

/-- A row of the block is that row of the array. -/
theorem rowOf_iblk (c : Dev nD) (t : Fin cfg0.N) (r : Fin 64) : rowOf (iblk m c 0 t) (iblk m c 1 t) r = rowOf (V m c main_arg0) (V m c main_arg1) (row t r) := by
  have e0 : (fun k : Fin 8192 => (iblk m c 0 t : Vec Ideal S64x8192 .bf16) (ix2 r k)) = fun k => V m c main_arg0 (ix2 (row t r) k) :=
    funext fun k => congrArg (V m c main_arg0) (emb0 t r k)
  have e1 : ∀ k : Fin 8192, (iblk m c 1 t : Vec Ideal S1x8192 .f32) (ix2 (0 : Fin 1) k) = V m c main_arg1 (ix2 (0 : Fin 1) k) :=
    fun k => congrArg (V m c main_arg1) (emb1 t 0 k)
  funext k
  show normOf (fun k : Fin 8192 => (iblk m c 0 t : Vec Ideal S64x8192 .bf16) (ix2 r k)) ((iblk m c 1 t : Vec Ideal S1x8192 .f32) (ix2 (0 : Fin 1) k)) k = _
  rw [e0, e1]
  rfl

/-- What point `t` writes back to window 2 is its rows of the whole result. -/
theorem flushed2_eq (c : Dev nD) (t : Fin cfg0.N) :
    (dats m 0 c).flushed 2 t = ((cfg0.win 2).blk t).view.read (Elt Ideal) (codes8 (V m c main_arg0) (V m c main_arg1)) := by
  rw [Cert.QuantInIdeal.Value.flushed2]
  funext j
  obtain ⟨r, j, rfl⟩ : ∃ (r : Fin 64) (j' : Fin 8192), j = ix2 r j' := ⟨j 0, j 1, eq_ix2 j⟩
  have hr : ∀ X : Vec Ideal S320x8192 .i8, ((cfg0.win 2).blk t).view.read (Elt Ideal) X (ix2 r j) = X (ix2 (row t r) j) :=
    fun X => congrArg X (emb2 t r j)
  refine Eq.trans ?_ (hr _).symm
  show out0_2 (iblk m c 0 t) (iblk m c 1 t) (ix2 r j) = _
  unfold out0_2
  rw [View.canon_unit_zero hz, View.ld_unit_zero (S := S64x8192) hz _ (iblk m c 0 t), View.ld_unit_zero (S := S1x8192) hz _ (iblk m c 1 t)]
  exact (code8_entry (iblk m c 0 t) (iblk m c 1 t) r j).trans (congrArg (fun v => FloatOps.fptosi (F := Ideal) (φ := .f32) 8 (codeOf v j)) (rowOf_iblk m c t r))

theorem mem_blk2 (t : Fin cfg0.N) (r : Fin 64) (j : Fin 8192) : ix2 (row t r) j ∈ ((cfg0.win 2).blk t).view.set :=
  emb2 t r j ▸ ((cfg0.win 2).blk t).view.emb_mem_set (ix2 r j)

theorem covered2 (i : S320x8192.Idx) : ∃ t : Fin cfg0.N, (cfg0.win 2).flush t = true ∧ i ∈ ((cfg0.win 2).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_2 _, ?_⟩
  rw [e]
  exact mem_blk2 _ _ _

theorem final2_eq (c : Dev nD) : (dats m 0 c).arrAt 2 cfg0.N = codes8 (m ((c : Thread nD τ).loc main_arg0)) (m ((c : Thread nD τ).loc main_arg1)) :=
  ((dats m 0 c).arrAt_eq_of_cover 2 _ (fun t _ => flushed2_eq m c t) covered2).trans (by rw [V_main_arg0, V_main_arg1])

/-- What point `t` writes back to window 3 is its rows of the whole result. -/
theorem flushed3_eq (c : Dev nD) (t : Fin cfg0.N) :
    (dats m 0 c).flushed 3 t = ((cfg0.win 3).blk t).view.read (Elt Ideal) (codes (V m c main_arg0) (V m c main_arg1)) := by
  rw [Cert.QuantInIdeal.Value.flushed3]
  funext j
  obtain ⟨r, j, rfl⟩ : ∃ (r : Fin 64) (j' : Fin 8192), j = ix2 r j' := ⟨j 0, j 1, eq_ix2 j⟩
  have hr : ∀ X : Vec Ideal S320x8192 .bf16, ((cfg0.win 3).blk t).view.read (Elt Ideal) X (ix2 r j) = X (ix2 (row t r) j) :=
    fun X => congrArg X (emb3 t r j)
  refine Eq.trans ?_ (hr _).symm
  show out0_3 (iblk m c 0 t) (iblk m c 1 t) (ix2 r j) = _
  unfold out0_3
  rw [View.canon_unit_zero hz, View.ld_unit_zero (S := S64x8192) hz _ (iblk m c 0 t), View.ld_unit_zero (S := S1x8192) hz _ (iblk m c 1 t)]
  exact (codeb_entry (iblk m c 0 t) (iblk m c 1 t) r j).trans (congrArg (fun v => codeOf v j) (rowOf_iblk m c t r))

theorem mem_blk3 (t : Fin cfg0.N) (r : Fin 64) (j : Fin 8192) : ix2 (row t r) j ∈ ((cfg0.win 3).blk t).view.set :=
  emb3 t r j ▸ ((cfg0.win 3).blk t).view.emb_mem_set (ix2 r j)

theorem covered3 (i : S320x8192.Idx) : ∃ t : Fin cfg0.N, (cfg0.win 3).flush t = true ∧ i ∈ ((cfg0.win 3).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_3 _, ?_⟩
  rw [e]
  exact mem_blk3 _ _ _

theorem final3_eq (c : Dev nD) : (dats m 0 c).arrAt 3 cfg0.N = codes (m ((c : Thread nD τ).loc main_arg0)) (m ((c : Thread nD τ).loc main_arg1)) :=
  ((dats m 0 c).arrAt_eq_of_cover 3 _ (fun t _ => flushed3_eq m c t) covered3).trans (by rw [V_main_arg0, V_main_arg1])

/-- What point `t` writes back to window 4 is its rows of the whole result. -/
theorem flushed4_eq (c : Dev nD) (t : Fin cfg0.N) :
    (dats m 0 c).flushed 4 t = ((cfg0.win 4).blk t).view.read (Elt Ideal) (scales (V m c main_arg0) (V m c main_arg1)) := by
  rw [Cert.QuantInIdeal.Value.flushed4]
  funext j
  obtain ⟨r, j, rfl⟩ : ∃ (r : Fin 64) (j' : Fin 128), j = ix2 r j' := ⟨j 0, j 1, eq_ix2 j⟩
  have hr : ∀ X : Vec Ideal S320x128 .f32, ((cfg0.win 4).blk t).view.read (Elt Ideal) X (ix2 r j) = X (ix2 (row t r) j) :=
    fun X => congrArg X (emb4 t r j)
  refine Eq.trans ?_ (hr _).symm
  show out0_4 (iblk m c 0 t) (iblk m c 1 t) (ix2 r j) = _
  unfold out0_4
  rw [View.canon_unit_zero hz, View.ld_unit_zero (S := S64x8192) hz _ (iblk m c 0 t), View.ld_unit_zero (S := S1x8192) hz _ (iblk m c 1 t)]
  exact (lanes_entry (iblk m c 0 t) (iblk m c 1 t) r j).trans (congrArg (scaleOf) (rowOf_iblk m c t r))

theorem mem_blk4 (t : Fin cfg0.N) (r : Fin 64) (j : Fin 128) : ix2 (row t r) j ∈ ((cfg0.win 4).blk t).view.set :=
  emb4 t r j ▸ ((cfg0.win 4).blk t).view.emb_mem_set (ix2 r j)

theorem covered4 (i : S320x128.Idx) : ∃ t : Fin cfg0.N, (cfg0.win 4).flush t = true ∧ i ∈ ((cfg0.win 4).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_4 _, ?_⟩
  rw [e]
  exact mem_blk4 _ _ _

theorem final4_eq (c : Dev nD) : (dats m 0 c).arrAt 4 cfg0.N = scales (m ((c : Thread nD τ).loc main_arg0)) (m ((c : Thread nD τ).loc main_arg1)) :=
  ((dats m 0 c).arrAt_eq_of_cover 4 _ (fun t _ => flushed4_eq m c t) covered4).trans (by rw [V_main_arg0, V_main_arg1])

end Kernel

namespace Reference

open Cert.QuantInRefIdeal Cert.QuantInRefIdeal.Gen

theorem norm_entry (a0 : Vec Ideal S320x8192 .bf16) (a1 : Vec Ideal S1x8192 .f32) (r : Fin 320) (j : Fin 8192) : k0_pay1 (F := Ideal) a0 a1 (ix2 r j) = rowOf a0 a1 r j := by
  have e := (column_apply _ shapeCasts_S320_S320x1 r).trans
    (rowSum_apply (mulf (extf .f32 a0 bitsLt_bf16_f32) (extf .f32 a0 bitsLt_bf16_f32)) reduces_S320x8192_S320 (.inl rfl) rfl r)
  simp only [k0_pay1]
  rw [mulf_apply, mulf_apply, extf_apply]
  rw [bcast_col, bcast_row, rsqrt_div]
  simp only [mulf_apply, extf_apply] at e
  unfold rowOf normOf
  rw [← e]

theorem scale_entry (a0 : Vec Ideal S320x8192 .bf16) (a1 : Vec Ideal S1x8192 .f32) (r : Fin 320) : k0_pay2 (F := Ideal) a0 a1 (ix2 r (0 : Fin 1)) = scaleOf (rowOf a0 a1 r) :=
  (scale_apply (k0_pay1 (F := Ideal) a0 a1) reduces_S320x8192_S320 (.inl rfl) rfl shapeCasts_S320_S320x1 r).trans (congrArg scaleOf (funext fun k => norm_entry a0 a1 r k))

theorem code_entry (a0 : Vec Ideal S320x8192 .bf16) (a1 : Vec Ideal S1x8192 .f32) (r : Fin 320) (j : Fin 8192) : k0_pay3 (F := Ideal) a0 a1 (ix2 r j) = codeOf (rowOf a0 a1 r) j :=
  (code_apply (k0_pay1 (F := Ideal) a0 a1) (k0_pay2 (F := Ideal) a0 a1) broadcasts_S320x1_S320x8192 r ((scale_entry a0 a1 r).trans (congrArg scaleOf (funext fun k => (norm_entry a0 a1 r k).symm))) j).trans (congrArg (fun v => codeOf v j) (funext fun k => norm_entry a0 a1 r k))

theorem code8_entry (a0 : Vec Ideal S320x8192 .bf16) (a1 : Vec Ideal S1x8192 .f32) (r : Fin 320) (j : Fin 8192) :
    k0_pay4 (F := Ideal) a0 a1 (ix2 r j) = FloatOps.fptosi (F := Ideal) (φ := .f32) 8 (codeOf (rowOf a0 a1 r) j) :=
  congrArg (FloatOps.fptosi (F := Ideal) (φ := .f32) 8) (code_entry a0 a1 r j)

theorem codeb_entry (a0 : Vec Ideal S320x8192 .bf16) (a1 : Vec Ideal S1x8192 .f32) (r : Fin 320) (j : Fin 8192) : k0_pay5 (F := Ideal) a0 a1 (ix2 r j) = codeOf (rowOf a0 a1 r) j :=
  code_entry a0 a1 r j

theorem lanes_entry (a0 : Vec Ideal S320x8192 .bf16) (a1 : Vec Ideal S1x8192 .f32) (r : Fin 320) (j : Fin 128) : k0_pay6 (F := Ideal) a0 a1 (ix2 r j) = scaleOf (rowOf a0 a1 r) :=
  (lanes_apply (k0_pay2 (F := Ideal) a0 a1) shapeCasts_S320x1_S320x1 broadcasts_S320x1_S320x128 r j).trans (scale_entry a0 a1 r)

theorem codes8_eq (a0 : Vec Ideal S320x8192 .bf16) (a1 : Vec Ideal S1x8192 .f32) : QuantInRefIdeal.Value.G2 (F := Ideal) a0 a1 = codes8 a0 a1 := by
  funext i
  obtain ⟨r, j, rfl⟩ : ∃ (r : Fin 320) (j' : Fin 8192), i = ix2 r j' := ⟨i 0, i 1, eq_ix2 i⟩
  exact code8_entry a0 a1 r j

theorem codes_eq (a0 : Vec Ideal S320x8192 .bf16) (a1 : Vec Ideal S1x8192 .f32) : QuantInRefIdeal.Value.G3 (F := Ideal) a0 a1 = codes a0 a1 := by
  funext i
  obtain ⟨r, j, rfl⟩ : ∃ (r : Fin 320) (j' : Fin 8192), i = ix2 r j' := ⟨i 0, i 1, eq_ix2 i⟩
  exact codeb_entry a0 a1 r j

theorem scales_eq (a0 : Vec Ideal S320x8192 .bf16) (a1 : Vec Ideal S1x8192 .f32) : QuantInRefIdeal.Value.G4 (F := Ideal) a0 a1 = scales a0 a1 := by
  funext i
  obtain ⟨r, j, rfl⟩ : ∃ (r : Fin 320) (j' : Fin 128), i = ix2 r j' := ⟨i 0, i 1, eq_ix2 i⟩
  exact lanes_entry a0 a1 r j

end Reference

/-- Kernel and reference end with the same codes and the same scales. -/
theorem algebraic : Cert.algebraic_QuantInIdeal_QuantInRefIdeal := by
  intro m g m' g' _ hagree
  refine ⟨fun c => codes8 (m ((c.tc : Thread QuantInIdeal.nD QuantInIdeal.τ).loc QuantInIdeal.main_arg0)) (m ((c.tc : Thread QuantInIdeal.nD QuantInIdeal.τ).loc QuantInIdeal.main_arg1)), fun c => codes (m ((c.tc : Thread QuantInIdeal.nD QuantInIdeal.τ).loc QuantInIdeal.main_arg0)) (m ((c.tc : Thread QuantInIdeal.nD QuantInIdeal.τ).loc QuantInIdeal.main_arg1)), fun c => scales (m ((c.tc : Thread QuantInIdeal.nD QuantInIdeal.τ).loc QuantInIdeal.main_arg0)) (m ((c.tc : Thread QuantInIdeal.nD QuantInIdeal.τ).loc QuantInIdeal.main_arg1)), ?_, ?_⟩
  · exact (θ_run (QuantInIdeal.defs (F := Ideal)) _ _).mono
      (fun r h c => ⟨(h c).1.trans (Kernel.final2_eq m c), (h c).2.1.trans (Kernel.final3_eq m c), (h c).2.2.1.trans (Kernel.final4_eq m c), (h c).2.2.2⟩)
      (QuantInIdeal.Value.run_blocks m g)
  · refine (θ_run (QuantInRefIdeal.defs (F := Ideal)) _ _).mono
      (fun r h c => ⟨(h c).1.trans ?_, (h c).2.1.trans ?_, (h c).2.2.1.trans ?_, (h c).2.2.2⟩) (QuantInRefIdeal.Value.run m' g')
    · rw [Reference.codes8_eq, (hagree c).1, (hagree c).2]
    · rw [Reference.codes_eq, (hagree c).1, (hagree c).2]
    · rw [Reference.scales_eq, (hagree c).1, (hagree c).2]

end Cert.Proof.QuantIn

end
-- ==== Proof.GatesSpec.lean ====
/-
  The gates of the recurrence, entry by entry: what kernel and reference both compute, and the facts of the extended reals
  by which their two ways of computing it agree.
-/
module

public import Idealize.ShloMosaic.PureOps
public import Idealize.ShloMosaic.PureOps.Ideal
public import Idealize.ShloMosaic.Lib.Pointwise.Tactic

@[expose] public section

noncomputable section

namespace Cert.Proof.GatesSpec

open Idealize.ShloMosaic Idealize.ShloMosaic.TcCoe
open scoped BigOperators

/-- `log (1 + exp v)`, as it is computed: `max v 0` and a correction. -/
def soft (v : EReal) : EReal := max v 0 + Ideal.log1p (Ideal.exp (0 - FloatOps.absf (F := Ideal) (φ := .f32) v))

theorem exp_nonneg (v : EReal) : 0 ≤ Ideal.exp v := by
  induction v with
  | bot => exact le_refl _
  | top => exact le_top
  | coe r => exact EReal.coe_nonneg.mpr (Real.exp_nonneg r)

theorem log1p_nonneg (v : EReal) (h : 0 ≤ v) : 0 ≤ Ideal.log1p v := by
  induction v with
  | bot => exact absurd h (by simp)
  | top => exact le_top
  | coe r =>
    have hr : 0 ≤ r := EReal.coe_nonneg.mp h
    show 0 ≤ Ideal.log (((1 : ℝ) : EReal) + (r : EReal))
    rw [← EReal.coe_add]
    show (0 : EReal) ≤ if 1 + r ≤ 0 then ⊥ else ((Real.log (1 + r) : ℝ) : EReal)
    rw [if_neg (by linarith)]
    exact EReal.coe_nonneg.mpr (Real.log_nonneg (by linarith))

theorem soft_nonneg (v : EReal) : 0 ≤ soft v :=
  add_nonneg (le_max_right _ _) (log1p_nonneg _ (exp_nonneg _))

/-- The logarithm of one step's decay. -/
def step (a dt al : EReal) : EReal := (0 - Ideal.exp al) * soft (a + dt)

theorem step_nonpos (a dt al : EReal) : step a dt al ≤ 0 := by
  unfold step
  rw [zero_sub, EReal.neg_mul, EReal.neg_le, neg_zero]
  exact mul_nonneg (exp_nonneg al) (soft_nonneg _)

/-- The running sum of five terms. -/
def total (f : Fin 5 → EReal) : Fin 5 → EReal
  | 0 => f 0
  | 1 => f 0 + f 1
  | 2 => f 0 + f 1 + f 2
  | 3 => f 0 + f 1 + f 2 + f 3
  | 4 => f 0 + f 1 + f 2 + f 3 + f 4

theorem total_anti (f : Fin 5 → EReal) (h : ∀ t, f t ≤ 0) : Antitone (total f) := by
  have e : ∀ (a : EReal) (t : Fin 5), a + f t ≤ a := fun a t => by
    have := add_le_add (le_refl a) (h t); rwa [add_zero] at this
  refine Fin.antitone_iff_succ_le.mpr fun i => ?_
  match i with
  | 0 => exact e _ 1
  | 1 => exact e _ 2
  | 2 => exact e _ 3
  | 3 => exact e _ 4

/-- Over the extended reals a difference `a - b` with `a ≤ b` is at most zero, infinities included. -/
theorem sub_nonpos_of_le (a b : EReal) (h : a ≤ b) : a - b ≤ 0 := by
  induction a <;> induction b <;> simp_all [EReal.sub_nonpos]

/-- A sum of the terms up to `t`. -/
theorem sum_upto (f : Fin 5 → EReal) (t : Fin 5) : ∑ s : Fin 5, (if s ≤ t then f s else 0) = total f t := by
  fin_cases t <;> simp [Fin.sum_univ_five, total]

/-- A sum with one term kept. -/
theorem sum_only (f : Fin 5 → EReal) (l : Fin 5) : ∑ s : Fin 5, (if s = l then f s else 0) = f l := by
  simp

/-- A number of accepted tokens: one to five. -/
def Accepted (w : BitVec 32) : Prop := w = 1#32 ∨ w = 2#32 ∨ w = 3#32 ∨ w = 4#32 ∨ w = 5#32

/-- The last accepted token. -/
def last (w : BitVec 32) : Fin 5 := if w = 1#32 then 0 else if w = 2#32 then 1 else if w = 3#32 then 2 else if w = 4#32 then 3 else 4

/-- The comparisons of the precondition say just that. -/
theorem accepted_of (w : BitVec 32) (h : IntOp.cmpi .sge w 1#32 &&& IntOp.cmpi .sle w 5#32 = 1#1) : Accepted w := by
  have h1 : (1#32).sle w = true ∧ w.sle 5#32 = true := by
    simp only [IntOp.cmpi] at h
    revert h
    cases (1#32).sle w <;> cases w.sle 5#32 <;> decide
  have a1 := BitVec.sle_iff_toInt_le.mp h1.1
  have a2 := BitVec.sle_iff_toInt_le.mp h1.2
  have b1 : (1#32).toInt = 1 := by decide
  have b2 : (5#32).toInt = 5 := by decide
  rw [b1] at a1
  rw [b2] at a2
  have e : w = BitVec.ofInt 32 w.toInt := (BitVec.ofInt_toInt).symm
  unfold Accepted
  generalize w.toInt = z at a1 a2 e
  subst e
  rcases (by omega : z = 1 ∨ z = 2 ∨ z = 3 ∨ z = 4 ∨ z = 5) with rfl | rfl | rfl | rfl | rfl <;> decide

/-- Selecting the last accepted token's value, one token after the other. -/
theorem chain_last (w : BitVec 32) (h : Accepted w) (f : Fin 5 → EReal) :
    Scalar.select (IntOp.cmpi .eq (w - 1#32) 4#32) (f 4) (Scalar.select (IntOp.cmpi .eq (w - 1#32) 3#32) (f 3)
      (Scalar.select (IntOp.cmpi .eq (w - 1#32) 2#32) (f 2) (Scalar.select (IntOp.cmpi .eq (w - 1#32) 1#32) (f 1) (f 0)))) = f (last w) := by
  rcases h with rfl | rfl | rfl | rfl | rfl <;> rfl

/-- Selecting by whether a token is accepted, as the kernel compares. -/
theorem kernel_le (w : BitVec 32) (h : Accepted w) (t : Fin 5) (a b : EReal) :
    Scalar.select (IntOp.cmpi .sge (w - 1#32) (BitVec.ofNat 32 t.val)) a b = if t ≤ last w then a else b := by
  rcases h with rfl | rfl | rfl | rfl | rfl <;> fin_cases t <;> rfl

/-- Selecting by whether a token is accepted, as the reference compares. -/
theorem ref_le (w : BitVec 32) (h : Accepted w) (t : Fin 5) (a b : EReal) :
    Scalar.select (IntOp.cmpi .sle (BitVec.ofNat 32 t.val) (w - 1#32)) a b = if t ≤ last w then a else b := by
  rcases h with rfl | rfl | rfl | rfl | rfl <;> fin_cases t <;> rfl

/-- Selecting the last accepted token, as the reference compares. -/
theorem ref_eq (w : BitVec 32) (h : Accepted w) (t : Fin 5) (a b : EReal) :
    Scalar.select (IntOp.cmpi .eq (BitVec.ofNat 32 t.val) (w - 1#32)) a b = if t = last w then a else b := by
  rcases h with rfl | rfl | rfl | rfl | rfl <;> fin_cases t <;> rfl

/-- Selecting the steps up to one, as the reference compares. -/
theorem ref_upto (t s : Fin 5) (a b : EReal) :
    Scalar.select (IntOp.cmpi .sge (BitVec.ofNat 32 t.val) (BitVec.ofNat 32 s.val)) a b = if s ≤ t then a else b := by
  fin_cases t <;> fin_cases s <;> rfl

/-- Nothing compares unequal to itself over the extended reals. -/
theorem select_ne (v a b : EReal) : Scalar.select (FloatOps.cmpf (F := Ideal) (φ := .f32) .one v v) a b = b := by
  simp [Scalar.select, Ideal.cmpf_def, Ideal.cmp]

/-- A term of a decreasing sum needs no clamp. -/
theorem clamp (f : Fin 5 → EReal) (h : ∀ t, f t ≤ 0) (t l : Fin 5) :
    (if t ≤ l then Ideal.exp (min (total f l - total f t) 0) else 0) = if t ≤ l then Ideal.exp (total f l - total f t) else 0 := by
  by_cases e : t ≤ l
  · rw [if_pos e, if_pos e, min_eq_left (sub_nonpos_of_le _ _ (total_anti f h e))]
  · rw [if_neg e, if_neg e]

variable (ab : (⟨3, ![5, 64, 96]⟩ : Shape).Idx → EReal) (alog dt : (⟨2, ![1, 48]⟩ : Shape).Idx → EReal) (al : (⟨2, ![64, 1]⟩ : Shape).Idx → BitVec 32)

/-- The logarithms of the five steps' decays, of sequence `r` and head `j`. -/
def decay (r : Fin 64) (j : Fin 48) (t : Fin 5) : EReal :=
  step (ab (ix3 t r ⟨j.val, by omega⟩)) (dt (ix2 (0 : Fin 1) j)) (alog (ix2 (0 : Fin 1) j))

/-- The four gates of step `t`. -/
def entry (r : Fin 64) (j : Fin 48) (t : Fin 5) : Fin 4 → EReal
  | 0 => Ideal.logistic (ab (ix3 t r ⟨48 + j.val, by omega⟩))
  | 1 => Ideal.exp (total (decay ab alog dt r j) t)
  | 2 => if t ≤ last (al (ix2 r (0 : Fin 1))) then Ideal.exp (total (decay ab alog dt r j) (last (al (ix2 r (0 : Fin 1)))) - total (decay ab alog dt r j) t) else 0
  | 3 => total (decay ab alog dt r j) t

/-- The gates, filled out with zeros to eight steps. -/
def gates : (⟨4, ![4, 8, 64, 48]⟩ : Shape).Idx → EReal := fun i =>
  if h : (i 1).val < 5 then entry ab alog dt al (i 2) (i 3) ⟨(i 1).val, h⟩ (i 0) else 0

/-- The decay over all accepted steps. -/
def final : (⟨2, ![64, 48]⟩ : Shape).Idx → EReal := fun i =>
  Ideal.exp (total (decay ab alog dt (i 0) (i 1)) (last (al (ix2 (i 0) (0 : Fin 1)))))

end Cert.Proof.GatesSpec

end
-- ==== Proof.GatesKernel.lean ====
/-
  The gates' kernel: one grid point, a block of thirty-two stores, each a plane of the result, and the decay over all
  accepted steps.
-/
module

public import proofs.«01_k».proof.Proof.Gen.GatesIdeal.Frame
public import proofs.«01_k».proof.Proof.GatesSpec
public import Idealize.ShloMosaic.Lib.Pointwise.Tactic
public import Idealize.ShloMosaic.Lib.Pipeline.Value

@[expose] public section

set_option maxRecDepth 16384

noncomputable section

namespace Cert.Proof.GatesKernel

open Idealize.ShloMosaic Idealize.ShloMosaic.TcCoe Idealize.SL.Sem
open Idealize.ShloMosaic.Tactic
open Idealize.ShloMosaic.ValueIdx hiding ix1 ix2 ix3 ix4 eq_ix1 eq_ix2 eq_ix3 eq_ix4
open Cert.Proof.GatesSpec
open Cert.GatesIdeal Cert.GatesIdeal.Gen
open scoped BigOperators

/-! ### The loads and the stores, entry by entry -/

/-- A load of one step's half of the rows. -/
theorem slab (X : Vec Ideal S5x64x96 .bf16) (t o : Nat) (ht : t < 5) (ho : o + 48 ≤ 96)
    (inb : ∀ a, (![t, 0, o] : Fin 3 → Nat) a + S1x64x48.size a ≤ S5x64x96.size a) (r : Fin 64) (j : Fin 48) :
    shapeCast S64x48 (View.ld X (Rect.unit (s := S5x64x96) ![t, 0, o] S1x64x48.size inb)) shapeCasts_S1x64x48_S64x48 (ix2 r j)
      = X (ix3 ⟨t, ht⟩ r ⟨o + j.val, by omega⟩) := by
  refine (shapeCast_apply _ shapeCasts_S1x64x48_S64x48 _ (ix3 (0 : Fin 1) r j) ?_).trans ?_
  · rw [Shape.rowMajor_val_three, Shape.rowMajor_val_two]
    show (0 * 64 + r.val) * 48 + j.val = r.val * 48 + j.val
    omega
  · refine congrArg X (funext fun a => Fin.ext ?_)
    match a with
    | ⟨0, _⟩ => show t + 1 * 0 = t; omega
    | ⟨1, _⟩ => show 0 + 1 * r.val = r.val; omega
    | ⟨2, _⟩ => show o + 1 * j.val = o + j.val; omega

/-- A load of one step's first half of the rows. -/
theorem slab₀ (X : Vec Ideal S5x64x96 .bf16) (t : Nat) (ht : t < 5)
    (inb : ∀ a, (![t, 0, 0] : Fin 3 → Nat) a + S1x64x48.size a ≤ S5x64x96.size a) (r : Fin 64) (j : Fin 48) :
    shapeCast S64x48 (View.ld X (Rect.unit (s := S5x64x96) ![t, 0, 0] S1x64x48.size inb)) shapeCasts_S1x64x48_S64x48 (ix2 r j)
      = X (ix3 ⟨t, ht⟩ r ⟨j.val, by omega⟩) :=
  (slab X t 0 ht (by omega) inb r j).trans (congrArg (fun k => X (ix3 ⟨t, ht⟩ r k)) (Fin.ext (Nat.zero_add _)))

/-- A plane, as it is stored. -/
theorem plane (v : FVec Ideal S64x48 .f32) (a b : Fin 1) (r : Fin 64) (j : Fin 48) :
    shapeCast S1x1x64x48 v shapeCasts_S64x48_S1x1x64x48 (ix4 a b r j) = v (ix2 r j) := by
  refine shapeCast_apply v shapeCasts_S64x48_S1x1x64x48 _ _ ?_
  rw [Shape.rowMajor_val_two, Shape.rowMajor_val_four]
  show r.val * 48 + j.val = ((a.val * 1 + b.val) * 64 + r.val) * 48 + j.val
  omega

/-- Where a store of one plane puts an entry. -/
theorem place (p t : Nat) (hp : p < 4) (ht : t < 8)
    (inb : ∀ a, (![p, t, 0, 0] : Fin 4 → Nat) a + S1x1x64x48.size a ≤ S4x8x64x48.size a) (a b : Fin 1) (r : Fin 64) (j : Fin 48) :
    (Rect.unit (s := S4x8x64x48) ![p, t, 0, 0] S1x1x64x48.size inb).emb (ix4 a b r j) = ix4 (⟨p, hp⟩ : Fin 4) (⟨t, ht⟩ : Fin 8) r j := by
  refine funext fun k => Fin.ext ?_
  match k with
  | ⟨0, _⟩ => show p + 1 * a.val = p; omega
  | ⟨1, _⟩ => show t + 1 * b.val = t; omega
  | ⟨2, _⟩ => show 0 + 1 * r.val = r.val; omega
  | ⟨3, _⟩ => show 0 + 1 * j.val = j.val; omega

theorem hz : (![0, 0] : Fin 2 → Nat) = fun _ => 0 := funext fun a => by fin_cases a <;> rfl

/-! ### The running sums -/

variable (x0 : Vec Ideal S5x64x96 .bf16) (x1 x2 : Vec Ideal S1x48 .f32) (x3 : Vec Ideal S64x1 .i32) (r : Fin 64) (j : Fin 48)

theorem rows_eq (X : Vec Ideal S1x48 .f32) : View.ld X r0_0 = X := View.ld_unit_zero (S := S1x48) hz _ X
theorem column_eq (X : Vec Ideal S64x1 .i32) : View.ld X r0_16 = X := View.ld_unit_zero (S := S64x1) hz _ X

theorem sum0 : k0_pay53 (F := Ideal) x0 x1 x2 x3 (ix2 r j) = total (decay x0 x1 x2 r j) 0 := by
  unfold k0_pay53 k0_pay7 k0_pay5
  simp only [rows_eq]
  pointwise
  rw [select_ne, slab₀ x0 0 (by omega)]
  rfl

theorem sum1 : k0_pay54 (F := Ideal) x0 x1 x2 x3 (ix2 r j) = total (decay x0 x1 x2 r j) 1 := by
  unfold k0_pay54 k0_pay10 k0_pay8 k0_pay52 k0_pay5
  simp only [rows_eq]
  pointwise
  rw [select_ne, slab₀ x0 1 (by omega), sum0]
  rfl

theorem sum2 : k0_pay55 (F := Ideal) x0 x1 x2 x3 (ix2 r j) = total (decay x0 x1 x2 r j) 2 := by
  unfold k0_pay55 k0_pay13 k0_pay11 k0_pay52 k0_pay5
  simp only [rows_eq]
  pointwise
  rw [select_ne, slab₀ x0 2 (by omega), sum1]
  rfl

theorem sum3 : k0_pay56 (F := Ideal) x0 x1 x2 x3 (ix2 r j) = total (decay x0 x1 x2 r j) 3 := by
  unfold k0_pay56 k0_pay19 k0_pay18 k0_pay17 k0_pay16 k0_pay15 k0_pay52 k0_pay5
  simp only [rows_eq]
  pointwise
  rw [select_ne, slab₀ x0 3 (by omega), sum2]
  rfl

theorem sum4 : k0_pay59 (F := Ideal) x0 x1 x2 x3 (ix2 r j) = total (decay x0 x1 x2 r j) 4 := by
  unfold k0_pay59 k0_pay23 k0_pay57 k0_pay58 k0_pay21 k0_pay22 k0_pay52 k0_pay5
  simp only [rows_eq]
  pointwise
  rw [select_ne, slab₀ x0 4 (by omega), sum3]
  rfl

/-- The sum up to the last accepted step. -/
theorem last_sum (h : Accepted (x3 (ix2 r (0 : Fin 1)))) :
    k0_pay61 (F := Ideal) x0 x1 x2 x3 (ix2 r j) = total (decay x0 x1 x2 r j) (last (x3 (ix2 r (0 : Fin 1)))) := by
  unfold k0_pay61 k0_pay25 k0_pay24
  rw [column_eq]
  simp only [shapeCast_self]
  pointwise
  have e4 : k0_pay23 (F := Ideal) (k0_pay56 x0 x1 x2 x3) (k0_pay57 x0 x1 x2 x3) (k0_pay58 x0 x1 x2 x3) (ix2 r j) = total (decay x0 x1 x2 r j) 4 :=
    sum4 x0 x1 x2 x3 r j
  rw [e4, sum3, sum2, sum1, sum0]
  exact chain_last _ h (total (decay x0 x1 x2 r j))

/-! ### The planes -/

theorem beta0 (a b : Fin 1) : k0_pay6 (F := Ideal) (View.ld x0 r0_2) (ix4 a b r j) = entry x0 x1 x2 x3 r j 0 0 := by
  unfold k0_pay6
  rw [plane]
  pointwise
  rw [slab x0 0 48 (by omega) (by omega)]
  rfl

theorem beta1 (a b : Fin 1) : k0_pay9 (F := Ideal) (View.ld x0 r0_5) (ix4 a b r j) = entry x0 x1 x2 x3 r j 1 0 := by
  unfold k0_pay9
  rw [plane]
  pointwise
  rw [slab x0 1 48 (by omega) (by omega)]
  rfl

theorem beta2 (a b : Fin 1) : k0_pay12 (F := Ideal) (View.ld x0 r0_8) (ix4 a b r j) = entry x0 x1 x2 x3 r j 2 0 := by
  unfold k0_pay12
  rw [plane]
  pointwise
  rw [slab x0 2 48 (by omega) (by omega)]
  rfl

theorem beta3 (a b : Fin 1) : k0_pay14 (F := Ideal) (View.ld x0 r0_11) (ix4 a b r j) = entry x0 x1 x2 x3 r j 3 0 := by
  unfold k0_pay14
  rw [plane]
  pointwise
  rw [slab x0 3 48 (by omega) (by omega)]
  rfl

theorem beta4 (a b : Fin 1) : k0_pay20 (F := Ideal) (View.ld x0 r0_14) (ix4 a b r j) = entry x0 x1 x2 x3 r j 4 0 := by
  unfold k0_pay20
  rw [plane]
  pointwise
  rw [slab x0 4 48 (by omega) (by omega)]
  rfl

theorem grown0 (a b : Fin 1) : k0_pay27 (F := Ideal) (k0_pay53 x0 x1 x2 x3) (ix4 a b r j) = entry x0 x1 x2 x3 r j 0 1 := by
  unfold k0_pay27
  rw [plane]
  exact congrArg Ideal.exp (sum0 x0 x1 x2 x3 r j)

theorem log0 (a b : Fin 1) : k0_pay30 (F := Ideal) (k0_pay53 x0 x1 x2 x3) (ix4 a b r j) = entry x0 x1 x2 x3 r j 0 3 := by
  unfold k0_pay30
  rw [plane]
  exact sum0 x0 x1 x2 x3 r j

theorem weight0 (h : ∀ r : Fin 64, Accepted (x3 (ix2 r (0 : Fin 1)))) (a b : Fin 1) :
    k0_pay29 (F := Ideal) (k0_pay28 (k0_pay53 x0 x1 x2 x3) (k0_pay54 x0 x1 x2 x3) (k0_pay55 x0 x1 x2 x3) (k0_pay56 x0 x1 x2 x3) (k0_pay57 x0 x1 x2 x3)
      (k0_pay58 x0 x1 x2 x3) (View.ld x3 r0_16)) (ix4 a b r j) = entry x0 x1 x2 x3 r j 0 2 := by
  unfold k0_pay29 k0_pay28 k0_pay24
  rw [plane]
  have e : k0_pay25 (F := Ideal) (k0_pay53 x0 x1 x2 x3) (k0_pay54 x0 x1 x2 x3) (k0_pay55 x0 x1 x2 x3) (k0_pay56 x0 x1 x2 x3) (k0_pay57 x0 x1 x2 x3)
      (k0_pay58 x0 x1 x2 x3) (View.ld x3 r0_16) (ix2 r j) = total (decay x0 x1 x2 r j) (last (x3 (ix2 r (0 : Fin 1)))) :=
    last_sum x0 x1 x2 x3 r j (h _)
  simp only [column_eq, shapeCast_self] at e ⊢
  pointwise
  rw [e, sum0]
  exact (kernel_le _ (h _) 0 _ _).trans (clamp _ (fun s => step_nonpos _ _ _) 0 _)

theorem grown1 (a b : Fin 1) : k0_pay31 (F := Ideal) (k0_pay54 x0 x1 x2 x3) (ix4 a b r j) = entry x0 x1 x2 x3 r j 1 1 := by
  unfold k0_pay31
  rw [plane]
  exact congrArg Ideal.exp (sum1 x0 x1 x2 x3 r j)

theorem log1 (a b : Fin 1) : k0_pay33 (F := Ideal) (k0_pay54 x0 x1 x2 x3) (ix4 a b r j) = entry x0 x1 x2 x3 r j 1 3 := by
  unfold k0_pay33
  rw [plane]
  exact sum1 x0 x1 x2 x3 r j

theorem weight1 (h : ∀ r : Fin 64, Accepted (x3 (ix2 r (0 : Fin 1)))) (a b : Fin 1) :
    k0_pay32 (F := Ideal) (k0_pay54 x0 x1 x2 x3) (k0_pay60 x0 x1 x2 x3) (k0_pay61 x0 x1 x2 x3) (ix4 a b r j) = entry x0 x1 x2 x3 r j 1 2 := by
  unfold k0_pay32 k0_pay60 k0_pay24
  rw [plane, column_eq]
  simp only [shapeCast_self]
  pointwise
  rw [last_sum x0 x1 x2 x3 _ _ (h _), sum1]
  exact (kernel_le _ (h _) 1 _ _).trans (clamp _ (fun s => step_nonpos _ _ _) 1 _)

theorem grown2 (a b : Fin 1) : k0_pay34 (F := Ideal) (k0_pay55 x0 x1 x2 x3) (ix4 a b r j) = entry x0 x1 x2 x3 r j 2 1 := by
  unfold k0_pay34
  rw [plane]
  exact congrArg Ideal.exp (sum2 x0 x1 x2 x3 r j)

theorem log2 (a b : Fin 1) : k0_pay36 (F := Ideal) (k0_pay55 x0 x1 x2 x3) (ix4 a b r j) = entry x0 x1 x2 x3 r j 2 3 := by
  unfold k0_pay36
  rw [plane]
  exact sum2 x0 x1 x2 x3 r j

theorem weight2 (h : ∀ r : Fin 64, Accepted (x3 (ix2 r (0 : Fin 1)))) (a b : Fin 1) :
    k0_pay35 (F := Ideal) (k0_pay55 x0 x1 x2 x3) (k0_pay60 x0 x1 x2 x3) (k0_pay61 x0 x1 x2 x3) (ix4 a b r j) = entry x0 x1 x2 x3 r j 2 2 := by
  unfold k0_pay35 k0_pay60 k0_pay24
  rw [plane, column_eq]
  simp only [shapeCast_self]
  pointwise
  rw [last_sum x0 x1 x2 x3 _ _ (h _), sum2]
  exact (kernel_le _ (h _) 2 _ _).trans (clamp _ (fun s => step_nonpos _ _ _) 2 _)

theorem grown3 (a b : Fin 1) : k0_pay37 (F := Ideal) (k0_pay56 x0 x1 x2 x3) (ix4 a b r j) = entry x0 x1 x2 x3 r j 3 1 := by
  unfold k0_pay37
  rw [plane]
  exact congrArg Ideal.exp (sum3 x0 x1 x2 x3 r j)

theorem log3 (a b : Fin 1) : k0_pay39 (F := Ideal) (k0_pay56 x0 x1 x2 x3) (ix4 a b r j) = entry x0 x1 x2 x3 r j 3 3 := by
  unfold k0_pay39
  rw [plane]
  exact sum3 x0 x1 x2 x3 r j

theorem weight3 (h : ∀ r : Fin 64, Accepted (x3 (ix2 r (0 : Fin 1)))) (a b : Fin 1) :
    k0_pay38 (F := Ideal) (k0_pay56 x0 x1 x2 x3) (k0_pay60 x0 x1 x2 x3) (k0_pay61 x0 x1 x2 x3) (ix4 a b r j) = entry x0 x1 x2 x3 r j 3 2 := by
  unfold k0_pay38 k0_pay60 k0_pay24
  rw [plane, column_eq]
  simp only [shapeCast_self]
  pointwise
  rw [last_sum x0 x1 x2 x3 _ _ (h _), sum3]
  exact (kernel_le _ (h _) 3 _ _).trans (clamp _ (fun s => step_nonpos _ _ _) 3 _)

theorem grown4 (a b : Fin 1) : k0_pay40 (F := Ideal) (k0_pay59 x0 x1 x2 x3) (ix4 a b r j) = entry x0 x1 x2 x3 r j 4 1 := by
  unfold k0_pay40
  rw [plane]
  exact congrArg Ideal.exp (sum4 x0 x1 x2 x3 r j)

theorem log4 (a b : Fin 1) : k0_pay42 (F := Ideal) (k0_pay59 x0 x1 x2 x3) (ix4 a b r j) = entry x0 x1 x2 x3 r j 4 3 := by
  unfold k0_pay42
  rw [plane]
  exact sum4 x0 x1 x2 x3 r j

theorem weight4 (h : ∀ r : Fin 64, Accepted (x3 (ix2 r (0 : Fin 1)))) (a b : Fin 1) :
    k0_pay41 (F := Ideal) (k0_pay59 x0 x1 x2 x3) (k0_pay60 x0 x1 x2 x3) (k0_pay61 x0 x1 x2 x3) (ix4 a b r j) = entry x0 x1 x2 x3 r j 4 2 := by
  unfold k0_pay41 k0_pay60 k0_pay24
  rw [plane, column_eq]
  simp only [shapeCast_self]
  pointwise
  rw [last_sum x0 x1 x2 x3 _ _ (h _), sum4]
  exact (kernel_le _ (h _) 4 _ _).trans (clamp _ (fun s => step_nonpos _ _ _) 4 _)

/-- A plane of zeros. -/
theorem zeros (a b : Fin 1) : shapeCast S1x1x64x48 (k0_pay62 (F := Ideal) x0 x1 x2 x3) shapeCasts_S64x48_S1x1x64x48 (ix4 a b r j) = (0 : EReal) := by
  rw [plane]
  unfold k0_pay62 k0_pay26
  pointwise

/-- The result at an entry of one of the five steps. -/
theorem gates_lt (p : Fin 4) (t : Nat) (ht : t < 5) (r : Fin 64) (j : Fin 48) :
    gates x0 x1 x2 x3 (ix4 p (⟨t, by omega⟩ : Fin 8) r j) = entry x0 x1 x2 x3 r j ⟨t, ht⟩ p := dif_pos ht

/-- The result at an entry past them. -/
theorem gates_ge (p : Fin 4) (t : Nat) (h5 : 5 ≤ t) (h8 : t < 8) (r : Fin 64) (j : Fin 48) :
    gates x0 x1 x2 x3 (ix4 p (⟨t, h8⟩ : Fin 8) r j) = 0 := dif_neg (by show ¬ t < 5; omega)

/-- A plane's payload is the result's, where the store puts it. -/
theorem put (p t : Nat) (hp : p < 4) (ht : t < 5)
    (inb : ∀ a, (![p, t, 0, 0] : Fin 4 → Nat) a + S1x1x64x48.size a ≤ S4x8x64x48.size a) (W : FVec Ideal S1x1x64x48 .f32)
    (hw : ∀ (r : Fin 64) (j : Fin 48) (a b : Fin 1), W (ix4 a b r j) = entry x0 x1 x2 x3 r j ⟨t, ht⟩ ⟨p, hp⟩) (x : S1x1x64x48.Idx) :
    W x = gates x0 x1 x2 x3 ((Rect.unit (s := S4x8x64x48) ![p, t, 0, 0] S1x1x64x48.size inb).emb x) := by
  obtain ⟨a, b, r, j, rfl⟩ : ∃ (a b : Fin 1) (r : Fin 64) (j : Fin 48), x = ix4 a b r j := ⟨x 0, x 1, x 2, x 3, eq_ix4 x⟩
  rw [place p t hp (by omega) inb a b r j, hw]
  exact (gates_lt x0 x1 x2 x3 ⟨p, hp⟩ t ht r j).symm

/-- So is a plane of zeros past the five steps. -/
theorem put_zero (p t : Nat) (hp : p < 4) (h5 : 5 ≤ t) (h8 : t < 8)
    (inb : ∀ a, (![p, t, 0, 0] : Fin 4 → Nat) a + S1x1x64x48.size a ≤ S4x8x64x48.size a) (W : FVec Ideal S1x1x64x48 .f32)
    (hw : ∀ (r : Fin 64) (j : Fin 48) (a b : Fin 1), W (ix4 a b r j) = (0 : EReal)) (x : S1x1x64x48.Idx) :
    W x = gates x0 x1 x2 x3 ((Rect.unit (s := S4x8x64x48) ![p, t, 0, 0] S1x1x64x48.size inb).emb x) := by
  obtain ⟨a, b, r, j, rfl⟩ : ∃ (a b : Fin 1) (r : Fin 64) (j : Fin 48), x = ix4 a b r j := ⟨x 0, x 1, x 2, x 3, eq_ix4 x⟩
  rw [place p t hp h8 inb a b r j, hw]
  exact (gates_ge x0 x1 x2 x3 ⟨p, hp⟩ t h5 h8 r j).symm

theorem out4_eq (h : ∀ r : Fin 64, Accepted (x3 (ix2 r (0 : Fin 1)))) : out0_4 (F := Ideal) x0 x1 x2 x3 = gates x0 x1 x2 x3 := by
  funext y
  unfold out0_4
  refine View.canon_apply_of_pieces (Val := Elt Ideal) (e := .f32) (gates x0 x1 x2 x3 : Vec Ideal S4x8x64x48 .f32) _ ?_ y ?_
  · simp only [List.forall_mem_cons]
    refine ⟨put_zero x0 x1 x2 x3 3 7 (by omega) (by omega) (by omega) _ _ (zeros x0 x1 x2 x3),
      put_zero x0 x1 x2 x3 2 7 (by omega) (by omega) (by omega) _ _ (zeros x0 x1 x2 x3),
      put_zero x0 x1 x2 x3 1 7 (by omega) (by omega) (by omega) _ _ (zeros x0 x1 x2 x3),
      put_zero x0 x1 x2 x3 0 7 (by omega) (by omega) (by omega) _ _ (zeros x0 x1 x2 x3),
      put_zero x0 x1 x2 x3 3 6 (by omega) (by omega) (by omega) _ _ (zeros x0 x1 x2 x3),
      put_zero x0 x1 x2 x3 2 6 (by omega) (by omega) (by omega) _ _ (zeros x0 x1 x2 x3),
      put_zero x0 x1 x2 x3 1 6 (by omega) (by omega) (by omega) _ _ (zeros x0 x1 x2 x3),
      put_zero x0 x1 x2 x3 0 6 (by omega) (by omega) (by omega) _ _ (zeros x0 x1 x2 x3),
      put_zero x0 x1 x2 x3 3 5 (by omega) (by omega) (by omega) _ _ (zeros x0 x1 x2 x3),
      put_zero x0 x1 x2 x3 2 5 (by omega) (by omega) (by omega) _ _ (zeros x0 x1 x2 x3),
      put_zero x0 x1 x2 x3 1 5 (by omega) (by omega) (by omega) _ _ (zeros x0 x1 x2 x3),
      put_zero x0 x1 x2 x3 0 5 (by omega) (by omega) (by omega) _ _ (zeros x0 x1 x2 x3),
      put x0 x1 x2 x3 3 4 (by omega) (by omega) _ _ (log4 x0 x1 x2 x3),
      put x0 x1 x2 x3 2 4 (by omega) (by omega) _ _ (fun r j => weight4 x0 x1 x2 x3 r j h),
      put x0 x1 x2 x3 1 4 (by omega) (by omega) _ _ (grown4 x0 x1 x2 x3),
      put x0 x1 x2 x3 3 3 (by omega) (by omega) _ _ (log3 x0 x1 x2 x3),
      put x0 x1 x2 x3 2 3 (by omega) (by omega) _ _ (fun r j => weight3 x0 x1 x2 x3 r j h),
      put x0 x1 x2 x3 1 3 (by omega) (by omega) _ _ (grown3 x0 x1 x2 x3),
      put x0 x1 x2 x3 3 2 (by omega) (by omega) _ _ (log2 x0 x1 x2 x3),
      put x0 x1 x2 x3 2 2 (by omega) (by omega) _ _ (fun r j => weight2 x0 x1 x2 x3 r j h),
      put x0 x1 x2 x3 1 2 (by omega) (by omega) _ _ (grown2 x0 x1 x2 x3),
      put x0 x1 x2 x3 3 1 (by omega) (by omega) _ _ (log1 x0 x1 x2 x3),
      put x0 x1 x2 x3 2 1 (by omega) (by omega) _ _ (fun r j => weight1 x0 x1 x2 x3 r j h),
      put x0 x1 x2 x3 1 1 (by omega) (by omega) _ _ (grown1 x0 x1 x2 x3),
      put x0 x1 x2 x3 3 0 (by omega) (by omega) _ _ (log0 x0 x1 x2 x3),
      put x0 x1 x2 x3 2 0 (by omega) (by omega) _ _ (fun r j => weight0 x0 x1 x2 x3 r j h),
      put x0 x1 x2 x3 1 0 (by omega) (by omega) _ _ (grown0 x0 x1 x2 x3),
      put x0 x1 x2 x3 0 4 (by omega) (by omega) _ _ (beta4 x0 x1 x2 x3),
      put x0 x1 x2 x3 0 3 (by omega) (by omega) _ _ (beta3 x0 x1 x2 x3),
      put x0 x1 x2 x3 0 2 (by omega) (by omega) _ _ (beta2 x0 x1 x2 x3),
      put x0 x1 x2 x3 0 1 (by omega) (by omega) _ _ (beta1 x0 x1 x2 x3),
      put x0 x1 x2 x3 0 0 (by omega) (by omega) _ _ (beta0 x0 x1 x2 x3), fun q hq => absurd hq List.not_mem_nil⟩
  · exact cover0_4 _ _ _ _ _ _ _ _ _ _ _ _ _ _ _ _ _ _ _ _ _ _ _ _ _ _ _ _ _ _ _ _ y

theorem out5_eq (h : ∀ r : Fin 64, Accepted (x3 (ix2 r (0 : Fin 1)))) : out0_5 (F := Ideal) x0 x1 x2 x3 = final x0 x1 x2 x3 := by
  unfold out0_5
  rw [View.canon_unit_zero hz]
  funext i
  obtain ⟨r, j, rfl⟩ : ∃ (r : Fin 64) (j : Fin 48), i = ix2 r j := ⟨i 0, i 1, eq_ix2 i⟩
  exact congrArg Ideal.exp (last_sum x0 x1 x2 x3 r j (h r))

/-! ### At the one grid point every block is its array -/

/-- Every block's index is zero. -/
theorem index_facts : ∀ t : Fin cfg0.N, win0_0.index t (0 : Fin 3) = 0 ∧ win0_0.index t (1 : Fin 3) = 0 ∧ win0_0.index t (2 : Fin 3) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 4) = 0 ∧ win0_4.index t (1 : Fin 4) = 0 ∧ win0_4.index t (2 : Fin 4) = 0 ∧ win0_4.index t (3 : Fin 4) = 0 ∧ win0_5.index t (0 : Fin 2) = 0 ∧ win0_5.index t (1 : Fin 2) = 0 :=
  (by decide +kernel : ∀ t : Fin grid0.N, _)

variable (m : (ℓ : Loc nD τ sig) → Buf (Elt Ideal) ℓ) (ρ : Dev nD → PrngReg) (c : Dev nD)

theorem emb0 (t : Fin cfg0.N) (j : S5x64x96.Idx) : ((cfg0.win 0).blk t).view.emb j = j := by
  have e := index_facts t
  funext a; apply Fin.ext
  match a with
  | ⟨0, _⟩ => show win0_0.index t (0 : Fin 3) * 5 + 1 * (j 0).val = (j 0).val; omega
  | ⟨1, _⟩ => show win0_0.index t (1 : Fin 3) * 64 + 1 * (j 1).val = (j 1).val; omega
  | ⟨2, _⟩ => show win0_0.index t (2 : Fin 3) * 96 + 1 * (j 2).val = (j 2).val; omega

theorem iblk0_eq (t : Fin cfg0.N) : iblk m c 0 t = m ((c : Thread nD τ).loc main_arg0) := by
  funext j; show m ((c : Thread nD τ).loc main_arg0) (((cfg0.win 0).blk t).view.emb j) = m ((c : Thread nD τ).loc main_arg0) j; rw [emb0]

theorem emb1 (t : Fin cfg0.N) (j : S1x48.Idx) : ((cfg0.win 1).blk t).view.emb j = j := by
  have e := index_facts t
  funext a; apply Fin.ext
  match a with
  | ⟨0, _⟩ => show win0_1.index t (0 : Fin 2) * 1 + 1 * (j 0).val = (j 0).val; omega
  | ⟨1, _⟩ => show win0_1.index t (1 : Fin 2) * 48 + 1 * (j 1).val = (j 1).val; omega

theorem iblk1_eq (t : Fin cfg0.N) : iblk m c 1 t = m ((c : Thread nD τ).loc main_arg1) := by
  funext j; show m ((c : Thread nD τ).loc main_arg1) (((cfg0.win 1).blk t).view.emb j) = m ((c : Thread nD τ).loc main_arg1) j; rw [emb1]

theorem emb2 (t : Fin cfg0.N) (j : S1x48.Idx) : ((cfg0.win 2).blk t).view.emb j = j := by
  have e := index_facts t
  funext a; apply Fin.ext
  match a with
  | ⟨0, _⟩ => show win0_2.index t (0 : Fin 2) * 1 + 1 * (j 0).val = (j 0).val; omega
  | ⟨1, _⟩ => show win0_2.index t (1 : Fin 2) * 48 + 1 * (j 1).val = (j 1).val; omega

theorem iblk2_eq (t : Fin cfg0.N) : iblk m c 2 t = m ((c : Thread nD τ).loc main_arg2) := by
  funext j; show m ((c : Thread nD τ).loc main_arg2) (((cfg0.win 2).blk t).view.emb j) = m ((c : Thread nD τ).loc main_arg2) j; rw [emb2]

theorem emb3 (t : Fin cfg0.N) (j : S64x1.Idx) : ((cfg0.win 3).blk t).view.emb j = j := by
  have e := index_facts t
  funext a; apply Fin.ext
  match a with
  | ⟨0, _⟩ => show win0_3.index t (0 : Fin 2) * 64 + 1 * (j 0).val = (j 0).val; omega
  | ⟨1, _⟩ => show win0_3.index t (1 : Fin 2) * 1 + 1 * (j 1).val = (j 1).val; omega

theorem iblk3_eq (t : Fin cfg0.N) : iblk m c 3 t = m ((c : Thread nD τ).loc main_arg3) := by
  funext j; show m ((c : Thread nD τ).loc main_arg3) (((cfg0.win 3).blk t).view.emb j) = m ((c : Thread nD τ).loc main_arg3) j; rw [emb3]

theorem emb4 (t : Fin cfg0.N) (j : S4x8x64x48.Idx) : ((cfg0.win 4).blk t).view.emb j = j := by
  have e := index_facts t
  funext a; apply Fin.ext
  match a with
  | ⟨0, _⟩ => show win0_4.index t (0 : Fin 4) * 4 + 1 * (j 0).val = (j 0).val; omega
  | ⟨1, _⟩ => show win0_4.index t (1 : Fin 4) * 8 + 1 * (j 1).val = (j 1).val; omega
  | ⟨2, _⟩ => show win0_4.index t (2 : Fin 4) * 64 + 1 * (j 2).val = (j 2).val; omega
  | ⟨3, _⟩ => show win0_4.index t (3 : Fin 4) * 48 + 1 * (j 3).val = (j 3).val; omega

theorem cut4_eq (t : Fin cfg0.N) (X : Vec Ideal S4x8x64x48 .f32) : (cfg0.win 4).cut (grid0.coords t) X = ((cfg0.win 4).blk t).view.read (Elt Ideal) X := by
  funext j
  show X j = X (((cfg0.win 4).blk t).view.emb j)
  rw [emb4]

theorem flushed4_eq (h : ∀ r : Fin 64, Accepted ((m ((c : Thread nD τ).loc main_arg3) : Vec Ideal S64x1 .i32) (ix2 r (0 : Fin 1)))) (t : Fin cfg0.N) : (dats m 0 c).flushed 4 t
    = ((cfg0.win 4).blk t).view.read (Elt Ideal) (gates (m ((c : Thread nD τ).loc main_arg0)) (m ((c : Thread nD τ).loc main_arg1)) (m ((c : Thread nD τ).loc main_arg2)) (m ((c : Thread nD τ).loc main_arg3))) := by
  show (cfg0.win 4).cut (grid0.coords t) ((dats m 0 c).after 4 t) = _
  rw [after0_4, iblk0_eq, iblk1_eq, iblk2_eq, iblk3_eq]
  exact (congrArg _ (out4_eq _ _ _ _ h)).trans (cut4_eq t _)

theorem covered4 (i : S4x8x64x48.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem final4_eq (h : ∀ r : Fin 64, Accepted ((m ((c : Thread nD τ).loc main_arg3) : Vec Ideal S64x1 .i32) (ix2 r (0 : Fin 1)))) : (dats m 0 c).arrAt 4 cfg0.N = gates (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed4_eq m c h t) covered4

theorem emb5 (t : Fin cfg0.N) (j : S64x48.Idx) : ((cfg0.win 5).blk t).view.emb j = j := by
  have e := index_facts t
  funext a; apply Fin.ext
  match a with
  | ⟨0, _⟩ => show win0_5.index t (0 : Fin 2) * 64 + 1 * (j 0).val = (j 0).val; omega
  | ⟨1, _⟩ => show win0_5.index t (1 : Fin 2) * 48 + 1 * (j 1).val = (j 1).val; omega

theorem cut5_eq (t : Fin cfg0.N) (X : Vec Ideal S64x48 .f32) : (cfg0.win 5).cut (grid0.coords t) X = ((cfg0.win 5).blk t).view.read (Elt Ideal) X := by
  funext j
  show X j = X (((cfg0.win 5).blk t).view.emb j)
  rw [emb5]

theorem flushed5_eq (h : ∀ r : Fin 64, Accepted ((m ((c : Thread nD τ).loc main_arg3) : Vec Ideal S64x1 .i32) (ix2 r (0 : Fin 1)))) (t : Fin cfg0.N) : (dats m 0 c).flushed 5 t
    = ((cfg0.win 5).blk t).view.read (Elt Ideal) (final (m ((c : Thread nD τ).loc main_arg0)) (m ((c : Thread nD τ).loc main_arg1)) (m ((c : Thread nD τ).loc main_arg2)) (m ((c : Thread nD τ).loc main_arg3))) := by
  show (cfg0.win 5).cut (grid0.coords t) ((dats m 0 c).after 5 t) = _
  rw [after0_5, iblk0_eq, iblk1_eq, iblk2_eq, iblk3_eq]
  exact (congrArg _ (out5_eq _ _ _ _ h)).trans (cut5_eq t _)

theorem covered5 (i : S64x48.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem final5_eq (h : ∀ r : Fin 64, Accepted ((m ((c : Thread nD τ).loc main_arg3) : Vec Ideal S64x1 .i32) (ix2 r (0 : Fin 1)))) : (dats m 0 c).arrAt 5 cfg0.N = final (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c h t) covered5

/-- The run, its results read. -/
theorem run (ρ : Dev nD → PrngReg) (h : ∀ (c : Dev nD) (r : Fin 64), Accepted ((m ((c : Thread nD τ).loc main_arg3) : Vec Ideal S64x1 .i32) (ix2 r (0 : Fin 1)))) :
    θ_run (defs (F := Ideal)) (onTc (τ := τ) (main (F := Ideal))) ⟨m, fun _ => 0, ρ⟩ (fun r => ∀ c : Dev nD,
      r.2.mem ((c : Thread nD τ).loc main_v0_0) = gates (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = final (m ((c : Thread nD τ).loc main_arg0)) (m ((c : Thread nD τ).loc main_arg1)) (m ((c : Thread nD τ).loc main_arg2)) (m ((c : Thread nD τ).loc main_arg3))) :=
  (θ_run (defs (F := Ideal)) _ _).mono (fun _ hr c =>
    ⟨((hr c).1 4).trans (final4_eq m c (h c)), ((hr c).1 5).trans (final5_eq m c (h c))⟩) (run_main m ρ)

end Cert.Proof.GatesKernel

end
-- ==== Proof.GatesRef.lean ====
/-
  The gates' reference: at its one grid point every block is its array, and the five arrays it leaves are stacked and filled
  out with zeros.
-/
module

public import proofs.«01_k».proof.Proof.Gen.GatesRefIdeal.Frame
public import proofs.«01_k».proof.Proof.GatesSpec
public import Idealize.ShloMosaic.Lib.Pointwise.Tactic
public import Idealize.ShloMosaic.Lib.Pointwise.Reduce
public import Idealize.ShloMosaic.Lib.Pointwise.Select
public import Idealize.ShloMosaic.Lib.Pipeline.Value

@[expose] public section

set_option maxRecDepth 16384

noncomputable section

namespace Cert.Proof.GatesRef

open Idealize.ShloMosaic Idealize.ShloMosaic.TcCoe Idealize.SL.Sem
open Idealize.ShloMosaic.Tactic
open Idealize.ShloMosaic.ValueIdx hiding ix1 ix2 ix3 ix4 eq_ix1 eq_ix2 eq_ix3 eq_ix4
open Cert.Proof.GatesSpec
open Cert.GatesRefIdeal Cert.GatesRefIdeal.Gen
open scoped BigOperators

/-! ### Entries of what the body computes -/

variable (x0 : Vec Ideal S5x64x96 .bf16) (x1 x2 : Vec Ideal S1x48 .f32) (x3 : Vec Ideal S64x1 .i32)

theorem hz2 : (![0, 0] : Fin 2 → Nat) = fun _ => 0 := funext fun a => by fin_cases a <;> rfl
theorem hz3 : (![0, 0, 0] : Fin 3 → Nat) = fun _ => 0 := funext fun a => by fin_cases a <;> rfl

theorem abs_eq (X : Vec Ideal S5x64x96 .bf16) : View.ld X r0_0 = X := View.ld_unit_zero (S := S5x64x96) hz3 _ X
theorem rows_eq (X : Vec Ideal S1x48 .f32) : View.ld X r0_1 = X := View.ld_unit_zero (S := S1x48) hz2 _ X
theorem column_eq (X : Vec Ideal S64x1 .i32) : View.ld X r0_2 = X := View.ld_unit_zero (S := S64x1) hz2 _ X

/-- One of the four arrays of the five steps. -/
def steps (p : Fin 4) : S5x64x48.Idx → EReal := fun i => entry x0 x1 x2 x3 (i 1) (i 2) (i 0) p

theorem row_cast (v : FVec Ideal S1x48 .f32) (a b : Fin 1) (k : Fin 48) : shapeCast S1x1x48 v shapeCasts_S1x48_S1x1x48 (ix3 a b k) = v (ix2 (0 : Fin 1) k) := by
  refine shapeCast_apply v shapeCasts_S1x48_S1x1x48 _ _ ?_
  rw [Shape.rowMajor_val_two, Shape.rowMajor_val_three]
  show 0 * 48 + k.val = (a.val * 1 + b.val) * 48 + k.val
  omega

theorem column_cast (v : IVec S64x1 32) (a b : Fin 1) (r : Fin 64) : shapeCast S1x64x1 v shapeCasts_S64x1_S1x64x1 (ix3 a r b) = v (ix2 r (0 : Fin 1)) := by
  refine shapeCast_apply v shapeCasts_S64x1_S1x64x1 _ _ ?_
  rw [Shape.rowMajor_val_two, Shape.rowMajor_val_three]
  show r.val * 1 + 0 = (a.val * 64 + r.val) * 1 + b.val
  omega

theorem plane_cast (v : FVec Ideal S64x48 .f32) (a : Fin 1) (r : Fin 64) (j : Fin 48) :
    shapeCast S1x64x48 v shapeCasts_S64x48_S1x64x48 (ix3 a r j) = v (ix2 r j) := by
  refine shapeCast_apply v shapeCasts_S64x48_S1x64x48 _ _ ?_
  rw [Shape.rowMajor_val_two, Shape.rowMajor_val_three]
  show r.val * 48 + j.val = (a.val * 64 + r.val) * 48 + j.val
  omega

theorem steps_cast (v : FVec Ideal S5x64x48 .f32) (a : Fin 1) (t : Fin 5) (r : Fin 64) (j : Fin 48) :
    shapeCast S1x5x64x48 v shapeCasts_S5x64x48_S1x5x64x48 (ix4 a t r j) = v (ix3 t r j) := by
  refine shapeCast_apply v shapeCasts_S5x64x48_S1x5x64x48 _ _ ?_
  rw [Shape.rowMajor_val_three, Shape.rowMajor_val_four]
  show (t.val * 64 + r.val) * 48 + j.val = ((a.val * 5 + t.val) * 64 + r.val) * 48 + j.val
  omega

theorem sum_entry (t : Fin 5) (r : Fin 64) (j : Fin 48) :
    k0_pay10 (F := Ideal) x0 x1 x2 x3 (ix3 t r j) = total (decay x0 x1 x2 r j) t := by
  unfold k0_pay10 k0_pay7 k0_pay6
  rw [abs_eq, rows_eq, rows_eq]
  simp only [shapeCast_self]
  pointwise
  refine (Finset.sum_congr rfl fun s _ => ?_).trans (sum_upto (decay x0 x1 x2 r j) t)
  rw [ref_upto, steps_cast]
  refine congrArg (fun v : EReal => if s ≤ t then v else 0) ?_
  pointwise
  refine congrArg₂ (· * ·) (row_cast _ 0 0 j) ?_
  refine (if_neg (fun hne => hne rfl)).trans ?_
  exact congrArg (fun z : EReal => soft (x0 (ix3 s r ⟨j.val, by omega⟩) + z)) (row_cast x2 0 0 j)

theorem last_entry (h : ∀ r : Fin 64, Accepted (x3 (ix2 r (0 : Fin 1)))) (r : Fin 64) (j : Fin 48) :
    k0_pay1 (F := Ideal) (k0_pay10 x0 x1 x2 x3) (k0_pay11 x0 x1 x2 x3) (Scalar.ofBits .f32 0x00000000#32) (ix2 r j)
      = total (decay x0 x1 x2 r j) (last (x3 (ix2 r (0 : Fin 1)))) := by
  unfold k0_pay1 k0_pay11 k0_pay9 k0_pay8
  rw [column_eq]
  pointwise
  refine (Finset.sum_congr rfl fun s _ => ?_).trans (sum_only (total (decay x0 x1 x2 r j)) (last (x3 (ix2 r (0 : Fin 1)))))
  rw [column_cast, sum_entry]
  exact ref_eq _ (h r) s _ _

/-- The most negative word is the bottom of the extended reals, and its exponential is zero. -/
theorem exp_bottom : Ideal.exp (Ideal.ofBits .f32 0xFF800000#32) = 0 := by
  simp [Ideal.ofBits, Ideal.ieee]

theorem weight_entry (h : ∀ r : Fin 64, Accepted (x3 (ix2 r (0 : Fin 1)))) (t : Fin 5) (r : Fin 64) (j : Fin 48) :
    k0_pay4 (F := Ideal) (k0_pay10 x0 x1 x2 x3) (iota .tc S5x64x48 32 [0] iota_S5x64x48_d0_w32) (k0_pay8 (View.ld x3 r0_2)) (k0_pay11 x0 x1 x2 x3)
      (Scalar.ofBits .f32 0x00000000#32) (ix3 t r j) = entry x0 x1 x2 x3 r j t 2 := by
  have e := last_entry x0 x1 x2 x3 h r j
  unfold k0_pay4 k0_pay8
  rw [column_eq]
  pointwise
  pointwise at e
  rw [plane_cast, column_cast, e, sum_entry]
  refine (congrArg Ideal.exp (ref_le _ (h r) t _ _)).trans ?_
  refine (apply_ite Ideal.exp _ _ _).trans ?_
  rw [exp_bottom]
  rfl

theorem beta_entry (t : Fin 5) (r : Fin 64) (j : Fin 48) : k0_pay2 (F := Ideal) (k0_pay6 x0) (ix3 t r j) = entry x0 x1 x2 x3 r j t 0 := by
  unfold k0_pay2 k0_pay6
  pointwise
  rfl

theorem out4_eq : out0_4 (F := Ideal) x0 x1 x2 x3 = steps x0 x1 x2 x3 0 := by
  unfold out0_4
  rw [View.canon_unit_zero hz3, abs_eq]
  funext i
  obtain ⟨t, r, j, rfl⟩ : ∃ (t : Fin 5) (r : Fin 64) (j : Fin 48), i = ix3 t r j := ⟨i 0, i 1, i 2, eq_ix3 i⟩
  exact beta_entry x0 x1 x2 x3 t r j

theorem out5_eq : out0_5 (F := Ideal) x0 x1 x2 x3 = steps x0 x1 x2 x3 1 := by
  unfold out0_5
  rw [View.canon_unit_zero hz3]
  funext i
  obtain ⟨t, r, j, rfl⟩ : ∃ (t : Fin 5) (r : Fin 64) (j : Fin 48), i = ix3 t r j := ⟨i 0, i 1, i 2, eq_ix3 i⟩
  exact congrArg Ideal.exp (sum_entry x0 x1 x2 x3 t r j)

theorem out6_eq (h : ∀ r : Fin 64, Accepted (x3 (ix2 r (0 : Fin 1)))) : out0_6 (F := Ideal) x0 x1 x2 x3 = steps x0 x1 x2 x3 2 := by
  unfold out0_6
  rw [View.canon_unit_zero hz3]
  funext i
  obtain ⟨t, r, j, rfl⟩ : ∃ (t : Fin 5) (r : Fin 64) (j : Fin 48), i = ix3 t r j := ⟨i 0, i 1, i 2, eq_ix3 i⟩
  exact weight_entry x0 x1 x2 x3 h t r j

theorem out7_eq : out0_7 (F := Ideal) x0 x1 x2 x3 = steps x0 x1 x2 x3 3 := by
  unfold out0_7
  rw [View.canon_unit_zero hz3]
  funext i
  obtain ⟨t, r, j, rfl⟩ : ∃ (t : Fin 5) (r : Fin 64) (j : Fin 48), i = ix3 t r j := ⟨i 0, i 1, i 2, eq_ix3 i⟩
  exact sum_entry x0 x1 x2 x3 t r j

theorem out8_eq (h : ∀ r : Fin 64, Accepted (x3 (ix2 r (0 : Fin 1)))) : out0_8 (F := Ideal) x0 x1 x2 x3 = final x0 x1 x2 x3 := by
  unfold out0_8
  rw [View.canon_unit_zero hz2]
  funext i
  obtain ⟨r, j, rfl⟩ : ∃ (r : Fin 64) (j : Fin 48), i = ix2 r j := ⟨i 0, i 1, eq_ix2 i⟩
  exact congrArg Ideal.exp (last_entry x0 x1 x2 x3 h r j)

/-! ### The stack -/

/-- The four arrays stacked, and filled out with zeros from five steps to eight. -/
def stack (A0 A1 A2 A3 : Vec Ideal S5x64x48 .f32) : Vec Ideal S4x8x64x48 .f32 :=
  pad S4x8x64x48 ![0, 0, 0, 0] ![0, 3, 0, 0] ![0, 0, 0, 0]
    (concatenate S4x5x64x48 0 [⟨S1x5x64x48, broadcastInDim S1x5x64x48 ![1, 2, 3] bcast_S5x64x48_S1x5x64x48_1_2_3 A0⟩,
      ⟨S1x5x64x48, broadcastInDim S1x5x64x48 ![1, 2, 3] bcast_S5x64x48_S1x5x64x48_1_2_3 A1⟩,
      ⟨S1x5x64x48, broadcastInDim S1x5x64x48 ![1, 2, 3] bcast_S5x64x48_S1x5x64x48_1_2_3 A2⟩,
      ⟨S1x5x64x48, broadcastInDim S1x5x64x48 ![1, 2, 3] bcast_S5x64x48_S1x5x64x48_1_2_3 A3⟩]
      concatenates_S1x5x64x48_S1x5x64x48_S1x5x64x48_S1x5x64x48_S4x5x64x48_d0)
    (sitofp (F := Ideal) .f32 (constantI S_ 32 0#32)) pads_S4x5x64x48_S4x8x64x48_000_030_000_000 h_S_

/-- Of the four arrays of the call they are the gates. -/
theorem stack_eq (A0 A1 A2 A3 : Vec Ideal S5x64x48 .f32) (e0 : A0 = steps x0 x1 x2 x3 0) (e1 : A1 = steps x0 x1 x2 x3 1) (e2 : A2 = steps x0 x1 x2 x3 2)
    (e3 : A3 = steps x0 x1 x2 x3 3) :
    stack A0 A1 A2 A3 = gates x0 x1 x2 x3 := by
  subst e0 e1 e2 e3
  funext i
  obtain ⟨p, t, r, j, rfl⟩ : ∃ (p : Fin 4) (t : Fin 8) (r : Fin 64) (j : Fin 48), i = ix4 p t r j := ⟨i 0, i 1, i 2, i 3, eq_ix4 i⟩
  unfold stack
  pointwise
  by_cases ht : t.val < 5
  · refine (dif_pos ht).trans (Eq.trans ?_ (dif_pos ht).symm)
    fin_cases p <;> rfl
  · refine (dif_neg ht).trans (Eq.trans ?_ (dif_neg ht).symm)
    simp [FloatOps.sitofp]

/-! ### At the one grid point every block is its array -/

/-- Every block's index is zero. -/
theorem index_facts : ∀ t : Fin cfg0.N, win0_0.index t (0 : Fin 3) = 0 ∧ win0_0.index t (1 : Fin 3) = 0 ∧ win0_0.index t (2 : Fin 3) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 3) = 0 ∧ win0_4.index t (1 : Fin 3) = 0 ∧ win0_4.index t (2 : Fin 3) = 0 ∧ win0_5.index t (0 : Fin 3) = 0 ∧ win0_5.index t (1 : Fin 3) = 0 ∧ win0_5.index t (2 : Fin 3) = 0 ∧ win0_6.index t (0 : Fin 3) = 0 ∧ win0_6.index t (1 : Fin 3) = 0 ∧ win0_6.index t (2 : Fin 3) = 0 ∧ win0_7.index t (0 : Fin 3) = 0 ∧ win0_7.index t (1 : Fin 3) = 0 ∧ win0_7.index t (2 : Fin 3) = 0 ∧ win0_8.index t (0 : Fin 2) = 0 ∧ win0_8.index t (1 : Fin 2) = 0 :=
  (by decide +kernel : ∀ t : Fin grid0.N, _)

variable (m : (ℓ : Loc nD τ sig) → Buf (Elt Ideal) ℓ) (ρ : Dev nD → PrngReg) (c : Dev nD)

theorem emb0 (t : Fin cfg0.N) (j : S5x64x96.Idx) : ((cfg0.win 0).blk t).view.emb j = j := by
  have e := index_facts t
  funext a; apply Fin.ext
  match a with
  | ⟨0, _⟩ => show win0_0.index t (0 : Fin 3) * 5 + 1 * (j 0).val = (j 0).val; omega
  | ⟨1, _⟩ => show win0_0.index t (1 : Fin 3) * 64 + 1 * (j 1).val = (j 1).val; omega
  | ⟨2, _⟩ => show win0_0.index t (2 : Fin 3) * 96 + 1 * (j 2).val = (j 2).val; omega

theorem iblk0_eq (t : Fin cfg0.N) : iblk m c 0 t = m ((c : Thread nD τ).loc main_arg0) := by
  funext j; show m ((c : Thread nD τ).loc main_arg0) (((cfg0.win 0).blk t).view.emb j) = m ((c : Thread nD τ).loc main_arg0) j; rw [emb0]

theorem emb1 (t : Fin cfg0.N) (j : S1x48.Idx) : ((cfg0.win 1).blk t).view.emb j = j := by
  have e := index_facts t
  funext a; apply Fin.ext
  match a with
  | ⟨0, _⟩ => show win0_1.index t (0 : Fin 2) * 1 + 1 * (j 0).val = (j 0).val; omega
  | ⟨1, _⟩ => show win0_1.index t (1 : Fin 2) * 48 + 1 * (j 1).val = (j 1).val; omega

theorem iblk1_eq (t : Fin cfg0.N) : iblk m c 1 t = m ((c : Thread nD τ).loc main_arg1) := by
  funext j; show m ((c : Thread nD τ).loc main_arg1) (((cfg0.win 1).blk t).view.emb j) = m ((c : Thread nD τ).loc main_arg1) j; rw [emb1]

theorem emb2 (t : Fin cfg0.N) (j : S1x48.Idx) : ((cfg0.win 2).blk t).view.emb j = j := by
  have e := index_facts t
  funext a; apply Fin.ext
  match a with
  | ⟨0, _⟩ => show win0_2.index t (0 : Fin 2) * 1 + 1 * (j 0).val = (j 0).val; omega
  | ⟨1, _⟩ => show win0_2.index t (1 : Fin 2) * 48 + 1 * (j 1).val = (j 1).val; omega

theorem iblk2_eq (t : Fin cfg0.N) : iblk m c 2 t = m ((c : Thread nD τ).loc main_arg2) := by
  funext j; show m ((c : Thread nD τ).loc main_arg2) (((cfg0.win 2).blk t).view.emb j) = m ((c : Thread nD τ).loc main_arg2) j; rw [emb2]

theorem emb3 (t : Fin cfg0.N) (j : S64x1.Idx) : ((cfg0.win 3).blk t).view.emb j = j := by
  have e := index_facts t
  funext a; apply Fin.ext
  match a with
  | ⟨0, _⟩ => show win0_3.index t (0 : Fin 2) * 64 + 1 * (j 0).val = (j 0).val; omega
  | ⟨1, _⟩ => show win0_3.index t (1 : Fin 2) * 1 + 1 * (j 1).val = (j 1).val; omega

theorem iblk3_eq (t : Fin cfg0.N) : iblk m c 3 t = m ((c : Thread nD τ).loc main_arg3) := by
  funext j; show m ((c : Thread nD τ).loc main_arg3) (((cfg0.win 3).blk t).view.emb j) = m ((c : Thread nD τ).loc main_arg3) j; rw [emb3]

theorem emb4 (t : Fin cfg0.N) (j : S5x64x48.Idx) : ((cfg0.win 4).blk t).view.emb j = j := by
  have e := index_facts t
  funext a; apply Fin.ext
  match a with
  | ⟨0, _⟩ => show win0_4.index t (0 : Fin 3) * 5 + 1 * (j 0).val = (j 0).val; omega
  | ⟨1, _⟩ => show win0_4.index t (1 : Fin 3) * 64 + 1 * (j 1).val = (j 1).val; omega
  | ⟨2, _⟩ => show win0_4.index t (2 : Fin 3) * 48 + 1 * (j 2).val = (j 2).val; omega

theorem cut4_eq (t : Fin cfg0.N) (X : Vec Ideal S5x64x48 .f32) : (cfg0.win 4).cut (grid0.coords t) X = ((cfg0.win 4).blk t).view.read (Elt Ideal) X := by
  funext j
  show X j = X (((cfg0.win 4).blk t).view.emb j)
  rw [emb4]

theorem flushed4_eq (t : Fin cfg0.N) : (dats m 0 c).flushed 4 t
    = ((cfg0.win 4).blk t).view.read (Elt Ideal) (steps (m ((c : Thread nD τ).loc main_arg0)) (m ((c : Thread nD τ).loc main_arg1)) (m ((c : Thread nD τ).loc main_arg2)) (m ((c : Thread nD τ).loc main_arg3)) 0) := by
  show (cfg0.win 4).cut (grid0.coords t) ((dats m 0 c).after 4 t) = _
  rw [after0_4, iblk0_eq, iblk1_eq, iblk2_eq, iblk3_eq]
  exact (congrArg _ (out4_eq _ _ _ _)).trans (cut4_eq t _)

theorem covered4 (i : S5x64x48.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem final4_eq : (dats m 0 c).arrAt 4 cfg0.N = steps (m ((c : Thread nD τ).loc main_arg0)) (m ((c : Thread nD τ).loc main_arg1)) (m ((c : Thread nD τ).loc main_arg2)) (m ((c : Thread nD τ).loc main_arg3)) 0 :=
  (dats m 0 c).arrAt_eq_of_cover 4 _ (fun t _ => flushed4_eq m c t) covered4

theorem emb5 (t : Fin cfg0.N) (j : S5x64x48.Idx) : ((cfg0.win 5).blk t).view.emb j = j := by
  have e := index_facts t
  funext a; apply Fin.ext
  match a with
  | ⟨0, _⟩ => show win0_5.index t (0 : Fin 3) * 5 + 1 * (j 0).val = (j 0).val; omega
  | ⟨1, _⟩ => show win0_5.index t (1 : Fin 3) * 64 + 1 * (j 1).val = (j 1).val; omega
  | ⟨2, _⟩ => show win0_5.index t (2 : Fin 3) * 48 + 1 * (j 2).val = (j 2).val; omega

theorem cut5_eq (t : Fin cfg0.N) (X : Vec Ideal S5x64x48 .f32) : (cfg0.win 5).cut (grid0.coords t) X = ((cfg0.win 5).blk t).view.read (Elt Ideal) X := by
  funext j
  show X j = X (((cfg0.win 5).blk t).view.emb j)
  rw [emb5]

theorem flushed5_eq (t : Fin cfg0.N) : (dats m 0 c).flushed 5 t
    = ((cfg0.win 5).blk t).view.read (Elt Ideal) (steps (m ((c : Thread nD τ).loc main_arg0)) (m ((c : Thread nD τ).loc main_arg1)) (m ((c : Thread nD τ).loc main_arg2)) (m ((c : Thread nD τ).loc main_arg3)) 1) := by
  show (cfg0.win 5).cut (grid0.coords t) ((dats m 0 c).after 5 t) = _
  rw [after0_5, iblk0_eq, iblk1_eq, iblk2_eq, iblk3_eq]
  exact (congrArg _ (out5_eq _ _ _ _)).trans (cut5_eq t _)

theorem covered5 (i : S5x64x48.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem final5_eq : (dats m 0 c).arrAt 5 cfg0.N = steps (m ((c : Thread nD τ).loc main_arg0)) (m ((c : Thread nD τ).loc main_arg1)) (m ((c : Thread nD τ).loc main_arg2)) (m ((c : Thread nD τ).loc main_arg3)) 1 :=
  (dats m 0 c).arrAt_eq_of_cover 5 _ (fun t _ => flushed5_eq m c t) covered5

theorem emb6 (t : Fin cfg0.N) (j : S5x64x48.Idx) : ((cfg0.win 6).blk t).view.emb j = j := by
  have e := index_facts t
  funext a; apply Fin.ext
  match a with
  | ⟨0, _⟩ => show win0_6.index t (0 : Fin 3) * 5 + 1 * (j 0).val = (j 0).val; omega
  | ⟨1, _⟩ => show win0_6.index t (1 : Fin 3) * 64 + 1 * (j 1).val = (j 1).val; omega
  | ⟨2, _⟩ => show win0_6.index t (2 : Fin 3) * 48 + 1 * (j 2).val = (j 2).val; omega

theorem cut6_eq (t : Fin cfg0.N) (X : Vec Ideal S5x64x48 .f32) : (cfg0.win 6).cut (grid0.coords t) X = ((cfg0.win 6).blk t).view.read (Elt Ideal) X := by
  funext j
  show X j = X (((cfg0.win 6).blk t).view.emb j)
  rw [emb6]

theorem flushed6_eq (h : ∀ r : Fin 64, Accepted ((m ((c : Thread nD τ).loc main_arg3) : Vec Ideal S64x1 .i32) (ix2 r (0 : Fin 1)))) (t : Fin cfg0.N) : (dats m 0 c).flushed 6 t
    = ((cfg0.win 6).blk t).view.read (Elt Ideal) (steps (m ((c : Thread nD τ).loc main_arg0)) (m ((c : Thread nD τ).loc main_arg1)) (m ((c : Thread nD τ).loc main_arg2)) (m ((c : Thread nD τ).loc main_arg3)) 2) := by
  show (cfg0.win 6).cut (grid0.coords t) ((dats m 0 c).after 6 t) = _
  rw [after0_6, iblk0_eq, iblk1_eq, iblk2_eq, iblk3_eq]
  exact (congrArg _ (out6_eq _ _ _ _ h)).trans (cut6_eq t _)

theorem covered6 (i : S5x64x48.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem final6_eq (h : ∀ r : Fin 64, Accepted ((m ((c : Thread nD τ).loc main_arg3) : Vec Ideal S64x1 .i32) (ix2 r (0 : Fin 1)))) : (dats m 0 c).arrAt 6 cfg0.N = steps (m ((c : Thread nD τ).loc main_arg0)) (m ((c : Thread nD τ).loc main_arg1)) (m ((c : Thread nD τ).loc main_arg2)) (m ((c : Thread nD τ).loc main_arg3)) 2 :=
  (dats m 0 c).arrAt_eq_of_cover 6 _ (fun t _ => flushed6_eq m c h t) covered6

theorem emb7 (t : Fin cfg0.N) (j : S5x64x48.Idx) : ((cfg0.win 7).blk t).view.emb j = j := by
  have e := index_facts t
  funext a; apply Fin.ext
  match a with
  | ⟨0, _⟩ => show win0_7.index t (0 : Fin 3) * 5 + 1 * (j 0).val = (j 0).val; omega
  | ⟨1, _⟩ => show win0_7.index t (1 : Fin 3) * 64 + 1 * (j 1).val = (j 1).val; omega
  | ⟨2, _⟩ => show win0_7.index t (2 : Fin 3) * 48 + 1 * (j 2).val = (j 2).val; omega

theorem cut7_eq (t : Fin cfg0.N) (X : Vec Ideal S5x64x48 .f32) : (cfg0.win 7).cut (grid0.coords t) X = ((cfg0.win 7).blk t).view.read (Elt Ideal) X := by
  funext j
  show X j = X (((cfg0.win 7).blk t).view.emb j)
  rw [emb7]

theorem flushed7_eq (t : Fin cfg0.N) : (dats m 0 c).flushed 7 t
    = ((cfg0.win 7).blk t).view.read (Elt Ideal) (steps (m ((c : Thread nD τ).loc main_arg0)) (m ((c : Thread nD τ).loc main_arg1)) (m ((c : Thread nD τ).loc main_arg2)) (m ((c : Thread nD τ).loc main_arg3)) 3) := by
  show (cfg0.win 7).cut (grid0.coords t) ((dats m 0 c).after 7 t) = _
  rw [after0_7, iblk0_eq, iblk1_eq, iblk2_eq, iblk3_eq]
  exact (congrArg _ (out7_eq _ _ _ _)).trans (cut7_eq t _)

theorem covered7 (i : S5x64x48.Idx) : ∃ t : Fin cfg0.N, (cfg0.win 7).flush t = true ∧ i ∈ ((cfg0.win 7).blk t).view.set :=
  ⟨(⟨0, by decide⟩ : Fin cfg0.N), flush0_7 _, by
    have h := ((cfg0.win 7).blk (⟨0, by decide⟩ : Fin cfg0.N)).view.emb_mem_set i; rwa [emb7] at h⟩

theorem final7_eq : (dats m 0 c).arrAt 7 cfg0.N = steps (m ((c : Thread nD τ).loc main_arg0)) (m ((c : Thread nD τ).loc main_arg1)) (m ((c : Thread nD τ).loc main_arg2)) (m ((c : Thread nD τ).loc main_arg3)) 3 :=
  (dats m 0 c).arrAt_eq_of_cover 7 _ (fun t _ => flushed7_eq m c t) covered7

theorem emb8 (t : Fin cfg0.N) (j : S64x48.Idx) : ((cfg0.win 8).blk t).view.emb j = j := by
  have e := index_facts t
  funext a; apply Fin.ext
  match a with
  | ⟨0, _⟩ => show win0_8.index t (0 : Fin 2) * 64 + 1 * (j 0).val = (j 0).val; omega
  | ⟨1, _⟩ => show win0_8.index t (1 : Fin 2) * 48 + 1 * (j 1).val = (j 1).val; omega

theorem cut8_eq (t : Fin cfg0.N) (X : Vec Ideal S64x48 .f32) : (cfg0.win 8).cut (grid0.coords t) X = ((cfg0.win 8).blk t).view.read (Elt Ideal) X := by
  funext j
  show X j = X (((cfg0.win 8).blk t).view.emb j)
  rw [emb8]

theorem flushed8_eq (h : ∀ r : Fin 64, Accepted ((m ((c : Thread nD τ).loc main_arg3) : Vec Ideal S64x1 .i32) (ix2 r (0 : Fin 1)))) (t : Fin cfg0.N) : (dats m 0 c).flushed 8 t
    = ((cfg0.win 8).blk t).view.read (Elt Ideal) (final (m ((c : Thread nD τ).loc main_arg0)) (m ((c : Thread nD τ).loc main_arg1)) (m ((c : Thread nD τ).loc main_arg2)) (m ((c : Thread nD τ).loc main_arg3))) := by
  show (cfg0.win 8).cut (grid0.coords t) ((dats m 0 c).after 8 t) = _
  rw [after0_8, iblk0_eq, iblk1_eq, iblk2_eq, iblk3_eq]
  exact (congrArg _ (out8_eq _ _ _ _ h)).trans (cut8_eq t _)

theorem covered8 (i : S64x48.Idx) : ∃ t : Fin cfg0.N, (cfg0.win 8).flush t = true ∧ i ∈ ((cfg0.win 8).blk t).view.set :=
  ⟨(⟨0, by decide⟩ : Fin cfg0.N), flush0_8 _, by
    have h := ((cfg0.win 8).blk (⟨0, by decide⟩ : Fin cfg0.N)).view.emb_mem_set i; rwa [emb8] at h⟩

theorem final8_eq (h : ∀ r : Fin 64, Accepted ((m ((c : Thread nD τ).loc main_arg3) : Vec Ideal S64x1 .i32) (ix2 r (0 : Fin 1)))) : (dats m 0 c).arrAt 8 cfg0.N = final (m ((c : Thread nD τ).loc main_arg0)) (m ((c : Thread nD τ).loc main_arg1)) (m ((c : Thread nD τ).loc main_arg2)) (m ((c : Thread nD τ).loc main_arg3)) :=
  (dats m 0 c).arrAt_eq_of_cover 8 _ (fun t _ => flushed8_eq m c h t) covered8

/-! ### The results -/

theorem left6 : (Pipeline.afterTail₀ cfgs (dats m) 0 (V0 m) [hostOps1, hostOps1_1] c main_v6 : Vec Ideal S4x8x64x48 .f32)
    = stack ((dats m 0 c).arrAt 4 cfg0.N) ((dats m 0 c).arrAt 5 cfg0.N) ((dats m 0 c).arrAt 6 cfg0.N) ((dats m 0 c).arrAt 7 cfg0.N) := by
  have e : StableHlo.after hostOps1_1 (StableHlo.after hostOps1 (Pipeline.withArrays (cfgs 0).spec c (V0 m c) fun w => (dats m 0 c).arrAt w (cfgs 0).N)) (Proc.devRef .tc main_v6)
      = stack (Pipeline.withArrays (cfgs 0).spec c (V0 m c) (fun w => (dats m 0 c).arrAt w (cfgs 0).N) (Proc.devRef .tc main_v0_0) : Vec Ideal S5x64x48 .f32)
        (Pipeline.withArrays (cfgs 0).spec c (V0 m c) (fun w => (dats m 0 c).arrAt w (cfgs 0).N) (Proc.devRef .tc main_v0_1) : Vec Ideal S5x64x48 .f32)
        (Pipeline.withArrays (cfgs 0).spec c (V0 m c) (fun w => (dats m 0 c).arrAt w (cfgs 0).N) (Proc.devRef .tc main_v0_2) : Vec Ideal S5x64x48 .f32)
        (Pipeline.withArrays (cfgs 0).spec c (V0 m c) (fun w => (dats m 0 c).arrAt w (cfgs 0).N) (Proc.devRef .tc main_v0_3) : Vec Ideal S5x64x48 .f32) := by
    after_results
    rfl
  have e0 := Pipeline.withArrays_arr spec0 launch0.win.arr_inj c (V0 m c) (fun w => (dats m 0 c).arrAt w (cfgs 0).N) 4
  have e1 := Pipeline.withArrays_arr spec0 launch0.win.arr_inj c (V0 m c) (fun w => (dats m 0 c).arrAt w (cfgs 0).N) 5
  have e2 := Pipeline.withArrays_arr spec0 launch0.win.arr_inj c (V0 m c) (fun w => (dats m 0 c).arrAt w (cfgs 0).N) 6
  have e3 := Pipeline.withArrays_arr spec0 launch0.win.arr_inj c (V0 m c) (fun w => (dats m 0 c).arrAt w (cfgs 0).N) 7
  exact Eq.trans e (congr (congr (congr (congrArg stack e0) e1) e2) e3)

/-- The run, its results read. -/
theorem run (h : ∀ (c : Dev nD) (r : Fin 64), Accepted ((m ((c : Thread nD τ).loc main_arg3) : Vec Ideal S64x1 .i32) (ix2 r (0 : Fin 1)))) :
    θ_run (defs (F := Ideal)) (onTc (τ := τ) (main (F := Ideal))) ⟨m, fun _ => 0, ρ⟩ (fun r => ∀ c : Dev nD,
      r.2.mem ((c : Thread nD τ).loc main_v6) = gates (m ((c : Thread nD τ).loc main_arg0)) (m ((c : Thread nD τ).loc main_arg1)) (m ((c : Thread nD τ).loc main_arg2)) (m ((c : Thread nD τ).loc main_arg3))
      ∧ r.2.mem ((c : Thread nD τ).loc main_v0_4) = final (m ((c : Thread nD τ).loc main_arg0)) (m ((c : Thread nD τ).loc main_arg1)) (m ((c : Thread nD τ).loc main_arg2)) (m ((c : Thread nD τ).loc main_arg3))) :=
  (θ_run (defs (F := Ideal)) _ _).mono (fun r hr c =>
    ⟨((hr c).2 main_v6 (Pipeline.mem_restRefs_of main_v6 (by decide) (by decide))).trans ((left6 m c).trans
        (stack_eq _ _ _ _ _ _ _ _ (final4_eq m c) (final5_eq m c) (final6_eq m c (h c)) (final7_eq m c))),
      ((hr c).1 8).trans (final8_eq m c (h c))⟩) (run_main m ρ)

end Cert.Proof.GatesRef

end
-- ==== Proof.Gates.lean ====
/-
  The call `gates`: kernel and reference give equal results wherever every row has between one and five accepted steps.
-/
module

public import proofs.«01_k».proof.Defs
public import proofs.«01_k».proof.Proof.GatesKernel
public import proofs.«01_k».proof.Proof.GatesRef

@[expose] public section

noncomputable section

namespace Cert.Proof.Gates

open Idealize.ShloMosaic Idealize.ShloMosaic.TcCoe Idealize.SL.Sem

/-- The side conditions of the precondition. -/
theorem preFacts : Cert.Pre_some_accepted.Facts where
  bcast_S_S64x1 := ⟨by decide, by decide⟩

instance : Cert.Pre_some_accepted.Facts := preFacts

/-- Under the precondition every row's number of steps is one of one to five. -/
theorem accepted (m : (ℓ : Loc GatesIdeal.nD GatesIdeal.τ GatesIdeal.sig) → Buf (Elt Ideal) ℓ) (hpre : Cert.Pre_GatesIdeal_some_accepted m)
    (c : Dev GatesIdeal.nD) (r : Fin 64) :
    GatesSpec.Accepted ((m ((c.tc : Thread GatesIdeal.nD GatesIdeal.τ).loc GatesIdeal.main_arg3) : Vec Ideal GatesIdeal.S64x1 .i32) (ix2 r (0 : Fin 1))) :=
  GatesSpec.accepted_of _ (congrFun (hpre c) (ix2 r (0 : Fin 1)))

/-- Kernel and reference end with the same two arrays. -/
theorem algebraic : Cert.algebraic_GatesIdeal_GatesRefIdeal_pre_some_accepted := by
  intro m g m' g' hpre hagree
  refine ⟨fun c => GatesSpec.gates (m ((c.tc : Thread GatesIdeal.nD GatesIdeal.τ).loc GatesIdeal.main_arg0)) (m ((c.tc : Thread GatesIdeal.nD GatesIdeal.τ).loc GatesIdeal.main_arg1))
      (m ((c.tc : Thread GatesIdeal.nD GatesIdeal.τ).loc GatesIdeal.main_arg2)) (m ((c.tc : Thread GatesIdeal.nD GatesIdeal.τ).loc GatesIdeal.main_arg3)),
    fun c => GatesSpec.final (m ((c.tc : Thread GatesIdeal.nD GatesIdeal.τ).loc GatesIdeal.main_arg0)) (m ((c.tc : Thread GatesIdeal.nD GatesIdeal.τ).loc GatesIdeal.main_arg1))
      (m ((c.tc : Thread GatesIdeal.nD GatesIdeal.τ).loc GatesIdeal.main_arg2)) (m ((c.tc : Thread GatesIdeal.nD GatesIdeal.τ).loc GatesIdeal.main_arg3)), ?_, ?_⟩
  · exact (θ_run (GatesIdeal.defs (F := Ideal)) _ _).mono (fun r h c => ⟨(h.1 c).1, (h.1 c).2, h.2 c⟩)
      (θ_run_and (GatesKernel.run m g (accepted m hpre)) (GatesIdeal.Gen.unchanged m g))
  · have hacc : ∀ (c : Dev GatesRefIdeal.nD) (r : Fin 64), GatesSpec.Accepted
        ((m' ((c.tc : Thread GatesRefIdeal.nD GatesRefIdeal.τ).loc GatesRefIdeal.main_arg3) : Vec Ideal GatesRefIdeal.S64x1 .i32) (ix2 r (0 : Fin 1))) := by
      intro c r
      rw [(hagree c).2.2.2]
      exact accepted m hpre c r
    refine (θ_run (GatesRefIdeal.defs (F := Ideal)) _ _).mono (fun r h c => ?_) (θ_run_and (GatesRef.run m' g' hacc) (GatesRefIdeal.Gen.unchanged m' g'))
    have e0 := (hagree c).1
    have e1 := (hagree c).2.1
    have e2 := (hagree c).2.2.1
    have e3 := (hagree c).2.2.2
    obtain ⟨h4, h5⟩ := h.1 c
    refine ⟨h4.trans ?_, h5.trans ?_, h.2 c⟩
    · rw [e0, e1, e2, e3]
    · rw [e0, e1, e2, e3]

end Cert.Proof.Gates

end
-- ==== Proof.QuantOut.lean ====
/-
  The output quantiser: each row's scale and codes. The kernel takes 64 rows at a time; the formula is the reference's,
  row by row.
-/
module

public import proofs.«01_k».proof.Defs
public import proofs.«01_k».proof.Proof.Gen.QuantOutIdeal.Value
public import proofs.«01_k».proof.Proof.Gen.QuantOutRefIdeal.Value
public import proofs.«01_k».proof.Proof.Quant

@[expose] public section

noncomputable section

namespace Cert.Proof.QuantOut

open Idealize.ShloMosaic Idealize.ShloMosaic.ValueIdx Idealize.ShloMosaic.TcCoe Idealize.SL.Sem
open Cert.Proof.Products Cert.Proof.Quant
open scoped BigOperators

/-- Row `r`. -/
def rowOf {M : ℕ} (a0 : Vec Ideal ⟨2, ![M, 9216]⟩ .f32) (r : Fin M) : Fin 9216 → EReal := fun k => a0 (ix2 r k)

/-- The codes on whole arrays, as bytes … -/
def codes8 (a0 : Vec Ideal ⟨2, ![320, 9216]⟩ .f32) : Vec Ideal ⟨2, ![320, 9216]⟩ .i8 := fun i =>
  FloatOps.fptosi (F := Ideal) (φ := .f32) 8 (codeOf (rowOf a0 (i 0)) (i 1))

/-- … the codes as numbers … -/
def codes (a0 : Vec Ideal ⟨2, ![320, 9216]⟩ .f32) : Vec Ideal ⟨2, ![320, 9216]⟩ .bf16 := fun i => codeOf (rowOf a0 (i 0)) (i 1)

/-- … and the scales, each row's along its lanes. -/
def scales (a0 : Vec Ideal ⟨2, ![320, 9216]⟩ .f32) : Vec Ideal ⟨2, ![320, 128]⟩ .f32 := fun i => scaleOf (rowOf a0 (i 0))

namespace Kernel

open Cert.QuantOutIdeal Cert.QuantOutIdeal.Gen

theorem scale_entry (a0 : Vec Ideal S64x9216 .f32) (r : Fin 64) : k0_pay1 (F := Ideal) a0 (ix2 r (0 : Fin 1)) = scaleOf (rowOf a0 r) :=
  (scale_apply (a0) reduces_S64x9216_S64 (.inl rfl) rfl shapeCasts_S64_S64x1 r)

theorem code_entry (a0 : Vec Ideal S64x9216 .f32) (r : Fin 64) (j : Fin 9216) : k0_pay2 (F := Ideal) a0 (ix2 r j) = codeOf (rowOf a0 r) j :=
  (code_apply (a0) (k0_pay1 (F := Ideal) a0) broadcasts_S64x1_S64x9216 r (scale_entry a0 r) j)

theorem code8_entry (a0 : Vec Ideal S64x9216 .f32) (r : Fin 64) (j : Fin 9216) :
    k0_pay3 (F := Ideal) a0 (ix2 r j) = FloatOps.fptosi (F := Ideal) (φ := .f32) 8 (codeOf (rowOf a0 r) j) :=
  congrArg (FloatOps.fptosi (F := Ideal) (φ := .f32) 8) (code_entry a0 r j)

theorem codeb_entry (a0 : Vec Ideal S64x9216 .f32) (r : Fin 64) (j : Fin 9216) : k0_pay4 (F := Ideal) a0 (ix2 r j) = codeOf (rowOf a0 r) j :=
  code_entry a0 r j

theorem lanes_entry (a0 : Vec Ideal S64x9216 .f32) (r : Fin 64) (j : Fin 128) : k0_pay5 (F := Ideal) a0 (ix2 r j) = scaleOf (rowOf a0 r) :=
  (lanes_apply (k0_pay1 (F := Ideal) a0) shapeCasts_S64x1_S64x1 broadcasts_S64x1_S64x128 r j).trans (scale_entry a0 r)

/-- The block of point `t` is rows `64 t ‥ 64 t + 63`. -/
theorem index_facts : ∀ t : Fin cfg0.N, win0_0.index t (0 : Fin 2) = t.val ∧ win0_0.index t (1 : Fin 2) = 0 ∧ win0_1.index t (0 : Fin 2) = t.val ∧ win0_1.index t (1 : Fin 2) = 0 ∧ win0_2.index t (0 : Fin 2) = t.val ∧ win0_2.index t (1 : Fin 2) = 0 ∧ win0_3.index t (0 : Fin 2) = t.val ∧ win0_3.index t (1 : Fin 2) = 0 ∧ t.val < 5 :=
  (by decide +kernel : ∀ t : Fin grid0.N, _)

/-- Row `r` of block `t`, as a row of the array. -/
def row (t : Fin cfg0.N) (r : Fin 64) : Fin 320 := ⟨64 * t.val + r.val, by have := index_facts t; omega⟩

theorem emb0 (t : Fin cfg0.N) (r : Fin 64) (k : Fin 9216) : ((cfg0.win 0).blk t).view.emb (ix2 r k) = ix2 (row t r) k := by
  have e := index_facts t
  funext a; apply Fin.ext
  match a with
  | ⟨0, _⟩ => show win0_0.index t (0 : Fin 2) * 64 + 1 * r.val = 64 * t.val + r.val; omega
  | ⟨1, _⟩ => show win0_0.index t (1 : Fin 2) * 9216 + 1 * k.val = k.val; omega

theorem emb1 (t : Fin cfg0.N) (r : Fin 64) (k : Fin 9216) : ((cfg0.win 1).blk t).view.emb (ix2 r k) = ix2 (row t r) k := by
  have e := index_facts t
  funext a; apply Fin.ext
  match a with
  | ⟨0, _⟩ => show win0_1.index t (0 : Fin 2) * 64 + 1 * r.val = 64 * t.val + r.val; omega
  | ⟨1, _⟩ => show win0_1.index t (1 : Fin 2) * 9216 + 1 * k.val = k.val; omega

theorem emb2 (t : Fin cfg0.N) (r : Fin 64) (k : Fin 9216) : ((cfg0.win 2).blk t).view.emb (ix2 r k) = ix2 (row t r) k := by
  have e := index_facts t
  funext a; apply Fin.ext
  match a with
  | ⟨0, _⟩ => show win0_2.index t (0 : Fin 2) * 64 + 1 * r.val = 64 * t.val + r.val; omega
  | ⟨1, _⟩ => show win0_2.index t (1 : Fin 2) * 9216 + 1 * k.val = k.val; omega

theorem emb3 (t : Fin cfg0.N) (r : Fin 64) (k : Fin 128) : ((cfg0.win 3).blk t).view.emb (ix2 r k) = ix2 (row t r) k := by
  have e := index_facts t
  funext a; apply Fin.ext
  match a with
  | ⟨0, _⟩ => show win0_3.index t (0 : Fin 2) * 64 + 1 * r.val = 64 * t.val + r.val; omega
  | ⟨1, _⟩ => show win0_3.index t (1 : Fin 2) * 128 + 1 * k.val = k.val; omega

variable (m : (ℓ : Loc nD τ sig) → Buf (Elt Ideal) ℓ)

theorem hz : (![0, 0] : Fin 2 → Nat) = fun _ => 0 := funext fun a => by fin_cases a <;> rfl

/-- A row of the block is that row of the array. -/
theorem rowOf_iblk (c : Dev nD) (t : Fin cfg0.N) (r : Fin 64) : rowOf (iblk m c 0 t) r = rowOf (V m c main_arg0) (row t r) := by
  exact funext fun k => congrArg (V m c main_arg0) (emb0 t r k)

/-- What point `t` writes back to window 1 is its rows of the whole result. -/
theorem flushed1_eq (c : Dev nD) (t : Fin cfg0.N) :
    (dats m 0 c).flushed 1 t = ((cfg0.win 1).blk t).view.read (Elt Ideal) (codes8 (V m c main_arg0)) := by
  rw [Cert.QuantOutIdeal.Value.flushed1]
  funext j
  obtain ⟨r, j, rfl⟩ : ∃ (r : Fin 64) (j' : Fin 9216), j = ix2 r j' := ⟨j 0, j 1, eq_ix2 j⟩
  have hr : ∀ X : Vec Ideal S320x9216 .i8, ((cfg0.win 1).blk t).view.read (Elt Ideal) X (ix2 r j) = X (ix2 (row t r) j) :=
    fun X => congrArg X (emb1 t r j)
  refine Eq.trans ?_ (hr _).symm
  show out0_1 (iblk m c 0 t) (ix2 r j) = _
  unfold out0_1
  rw [View.canon_unit_zero hz, View.ld_unit_zero (S := S64x9216) hz _ (iblk m c 0 t)]
  exact (code8_entry (iblk m c 0 t) r j).trans (congrArg (fun v => FloatOps.fptosi (F := Ideal) (φ := .f32) 8 (codeOf v j)) (rowOf_iblk m c t r))

theorem mem_blk1 (t : Fin cfg0.N) (r : Fin 64) (j : Fin 9216) : ix2 (row t r) j ∈ ((cfg0.win 1).blk t).view.set :=
  emb1 t r j ▸ ((cfg0.win 1).blk t).view.emb_mem_set (ix2 r j)

theorem covered1 (i : S320x9216.Idx) : ∃ t : Fin cfg0.N, (cfg0.win 1).flush t = true ∧ i ∈ ((cfg0.win 1).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_1 _, ?_⟩
  rw [e]
  exact mem_blk1 _ _ _

theorem final1_eq (c : Dev nD) : (dats m 0 c).arrAt 1 cfg0.N = codes8 (m ((c : Thread nD τ).loc main_arg0)) :=
  ((dats m 0 c).arrAt_eq_of_cover 1 _ (fun t _ => flushed1_eq m c t) covered1).trans (by rw [V_main_arg0])

/-- What point `t` writes back to window 2 is its rows of the whole result. -/
theorem flushed2_eq (c : Dev nD) (t : Fin cfg0.N) :
    (dats m 0 c).flushed 2 t = ((cfg0.win 2).blk t).view.read (Elt Ideal) (codes (V m c main_arg0)) := by
  rw [Cert.QuantOutIdeal.Value.flushed2]
  funext j
  obtain ⟨r, j, rfl⟩ : ∃ (r : Fin 64) (j' : Fin 9216), j = ix2 r j' := ⟨j 0, j 1, eq_ix2 j⟩
  have hr : ∀ X : Vec Ideal S320x9216 .bf16, ((cfg0.win 2).blk t).view.read (Elt Ideal) X (ix2 r j) = X (ix2 (row t r) j) :=
    fun X => congrArg X (emb2 t r j)
  refine Eq.trans ?_ (hr _).symm
  show out0_2 (iblk m c 0 t) (ix2 r j) = _
  unfold out0_2
  rw [View.canon_unit_zero hz, View.ld_unit_zero (S := S64x9216) hz _ (iblk m c 0 t)]
  exact (codeb_entry (iblk m c 0 t) r j).trans (congrArg (fun v => codeOf v j) (rowOf_iblk m c t r))

theorem mem_blk2 (t : Fin cfg0.N) (r : Fin 64) (j : Fin 9216) : ix2 (row t r) j ∈ ((cfg0.win 2).blk t).view.set :=
  emb2 t r j ▸ ((cfg0.win 2).blk t).view.emb_mem_set (ix2 r j)

theorem covered2 (i : S320x9216.Idx) : ∃ t : Fin cfg0.N, (cfg0.win 2).flush t = true ∧ i ∈ ((cfg0.win 2).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_2 _, ?_⟩
  rw [e]
  exact mem_blk2 _ _ _

theorem final2_eq (c : Dev nD) : (dats m 0 c).arrAt 2 cfg0.N = codes (m ((c : Thread nD τ).loc main_arg0)) :=
  ((dats m 0 c).arrAt_eq_of_cover 2 _ (fun t _ => flushed2_eq m c t) covered2).trans (by rw [V_main_arg0])

/-- What point `t` writes back to window 3 is its rows of the whole result. -/
theorem flushed3_eq (c : Dev nD) (t : Fin cfg0.N) :
    (dats m 0 c).flushed 3 t = ((cfg0.win 3).blk t).view.read (Elt Ideal) (scales (V m c main_arg0)) := by
  rw [Cert.QuantOutIdeal.Value.flushed3]
  funext j
  obtain ⟨r, j, rfl⟩ : ∃ (r : Fin 64) (j' : Fin 128), j = ix2 r j' := ⟨j 0, j 1, eq_ix2 j⟩
  have hr : ∀ X : Vec Ideal S320x128 .f32, ((cfg0.win 3).blk t).view.read (Elt Ideal) X (ix2 r j) = X (ix2 (row t r) j) :=
    fun X => congrArg X (emb3 t r j)
  refine Eq.trans ?_ (hr _).symm
  show out0_3 (iblk m c 0 t) (ix2 r j) = _
  unfold out0_3
  rw [View.canon_unit_zero hz, View.ld_unit_zero (S := S64x9216) hz _ (iblk m c 0 t)]
  exact (lanes_entry (iblk m c 0 t) r j).trans (congrArg (scaleOf) (rowOf_iblk m c t r))

theorem mem_blk3 (t : Fin cfg0.N) (r : Fin 64) (j : Fin 128) : ix2 (row t r) j ∈ ((cfg0.win 3).blk t).view.set :=
  emb3 t r j ▸ ((cfg0.win 3).blk t).view.emb_mem_set (ix2 r j)

theorem covered3 (i : S320x128.Idx) : ∃ t : Fin cfg0.N, (cfg0.win 3).flush t = true ∧ i ∈ ((cfg0.win 3).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_3 _, ?_⟩
  rw [e]
  exact mem_blk3 _ _ _

theorem final3_eq (c : Dev nD) : (dats m 0 c).arrAt 3 cfg0.N = scales (m ((c : Thread nD τ).loc main_arg0)) :=
  ((dats m 0 c).arrAt_eq_of_cover 3 _ (fun t _ => flushed3_eq m c t) covered3).trans (by rw [V_main_arg0])

end Kernel

namespace Reference

open Cert.QuantOutRefIdeal Cert.QuantOutRefIdeal.Gen

theorem scale_entry (a0 : Vec Ideal S320x9216 .f32) (r : Fin 320) : k0_pay1 (F := Ideal) a0 (ix2 r (0 : Fin 1)) = scaleOf (rowOf a0 r) :=
  (scale_apply (a0) reduces_S320x9216_S320 (.inl rfl) rfl shapeCasts_S320_S320x1 r)

theorem code_entry (a0 : Vec Ideal S320x9216 .f32) (r : Fin 320) (j : Fin 9216) : k0_pay2 (F := Ideal) a0 (ix2 r j) = codeOf (rowOf a0 r) j :=
  (code_apply (a0) (k0_pay1 (F := Ideal) a0) broadcasts_S320x1_S320x9216 r (scale_entry a0 r) j)

theorem code8_entry (a0 : Vec Ideal S320x9216 .f32) (r : Fin 320) (j : Fin 9216) :
    k0_pay3 (F := Ideal) a0 (ix2 r j) = FloatOps.fptosi (F := Ideal) (φ := .f32) 8 (codeOf (rowOf a0 r) j) :=
  congrArg (FloatOps.fptosi (F := Ideal) (φ := .f32) 8) (code_entry a0 r j)

theorem codeb_entry (a0 : Vec Ideal S320x9216 .f32) (r : Fin 320) (j : Fin 9216) : k0_pay4 (F := Ideal) a0 (ix2 r j) = codeOf (rowOf a0 r) j :=
  code_entry a0 r j

theorem lanes_entry (a0 : Vec Ideal S320x9216 .f32) (r : Fin 320) (j : Fin 128) : k0_pay5 (F := Ideal) a0 (ix2 r j) = scaleOf (rowOf a0 r) :=
  (lanes_apply (k0_pay1 (F := Ideal) a0) shapeCasts_S320x1_S320x1 broadcasts_S320x1_S320x128 r j).trans (scale_entry a0 r)

theorem codes8_eq (a0 : Vec Ideal S320x9216 .f32) : QuantOutRefIdeal.Value.G1 (F := Ideal) a0 = codes8 a0 := by
  funext i
  obtain ⟨r, j, rfl⟩ : ∃ (r : Fin 320) (j' : Fin 9216), i = ix2 r j' := ⟨i 0, i 1, eq_ix2 i⟩
  exact code8_entry a0 r j

theorem codes_eq (a0 : Vec Ideal S320x9216 .f32) : QuantOutRefIdeal.Value.G2 (F := Ideal) a0 = codes a0 := by
  funext i
  obtain ⟨r, j, rfl⟩ : ∃ (r : Fin 320) (j' : Fin 9216), i = ix2 r j' := ⟨i 0, i 1, eq_ix2 i⟩
  exact codeb_entry a0 r j

theorem scales_eq (a0 : Vec Ideal S320x9216 .f32) : QuantOutRefIdeal.Value.G3 (F := Ideal) a0 = scales a0 := by
  funext i
  obtain ⟨r, j, rfl⟩ : ∃ (r : Fin 320) (j' : Fin 128), i = ix2 r j' := ⟨i 0, i 1, eq_ix2 i⟩
  exact lanes_entry a0 r j

end Reference

/-- Kernel and reference end with the same codes and the same scales. -/
theorem algebraic : Cert.algebraic_QuantOutIdeal_QuantOutRefIdeal := by
  intro m g m' g' _ hagree
  refine ⟨fun c => codes8 (m ((c.tc : Thread QuantOutIdeal.nD QuantOutIdeal.τ).loc QuantOutIdeal.main_arg0)), fun c => codes (m ((c.tc : Thread QuantOutIdeal.nD QuantOutIdeal.τ).loc QuantOutIdeal.main_arg0)), fun c => scales (m ((c.tc : Thread QuantOutIdeal.nD QuantOutIdeal.τ).loc QuantOutIdeal.main_arg0)), ?_, ?_⟩
  · exact (θ_run (QuantOutIdeal.defs (F := Ideal)) _ _).mono
      (fun r h c => ⟨(h c).1.trans (Kernel.final1_eq m c), (h c).2.1.trans (Kernel.final2_eq m c), (h c).2.2.1.trans (Kernel.final3_eq m c), (h c).2.2.2⟩)
      (QuantOutIdeal.Value.run_blocks m g)
  · refine (θ_run (QuantOutRefIdeal.defs (F := Ideal)) _ _).mono
      (fun r h c => ⟨(h c).1.trans ?_, (h c).2.1.trans ?_, (h c).2.2.1.trans ?_, (h c).2.2.2⟩) (QuantOutRefIdeal.Value.run m' g')
    · rw [Reference.codes8_eq, hagree c]
    · rw [Reference.codes_eq, hagree c]
    · rw [Reference.scales_eq, hagree c]

end Cert.Proof.QuantOut

end
-- ==== Proof.InProjFrame.lean ====
/-
  The input projection at the machine's own words: sixty-one blocks of 512 columns, the last of which overhangs the weight
  array, so that 416 columns of its buffers hold words that nothing names. The run's frame: it ends, its arguments are as
  they were, and every counter is at zero. Of the output it says nothing here: at the machine's words a product's column is
  not known to be independent of the other columns.
-/
module

public import proofs.«01_k».proof.Defs
public import proofs.«01_k».proof.Proof.Gen.InProj.Frame
public import proofs.«01_k».proof.Proof.Gen.InProj.Skeleton
public import Idealize.ShloMosaic.Lib.Pipeline.FrameBody

@[expose] public section

set_option maxRecDepth 16384

noncomputable section

namespace Cert.Proof.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.InProj Cert.InProj.Gen

variable {F : FTy → Type} [FloatOps F]

local notation "𝕄" => MT nD τ sig Unit (Elt F) ℕ (UR sig nD τ) ℕ

/-! ## The body's accesses: eight chunks of codes and weights, the two scales, the whole output block -/

abbrev r0 : Rect S320x8192 := Rect.unit (s := S320x8192) ![0, 0] S320x1024.size inb_S320x8192_S320x1024_0_0
abbrev r1 : Rect S8192x512 := Rect.unit (s := S8192x512) ![0, 0] S1024x512.size inb_S8192x512_S1024x512_0_0
abbrev r2 : Rect S320x8192 := Rect.unit (s := S320x8192) ![0, 1024] S320x1024.size inb_S320x8192_S320x1024_0_1024
abbrev r3 : Rect S8192x512 := Rect.unit (s := S8192x512) ![1024, 0] S1024x512.size inb_S8192x512_S1024x512_1024_0
abbrev r4 : Rect S320x8192 := Rect.unit (s := S320x8192) ![0, 2048] S320x1024.size inb_S320x8192_S320x1024_0_2048
abbrev r5 : Rect S8192x512 := Rect.unit (s := S8192x512) ![2048, 0] S1024x512.size inb_S8192x512_S1024x512_2048_0
abbrev r6 : Rect S320x8192 := Rect.unit (s := S320x8192) ![0, 3072] S320x1024.size inb_S320x8192_S320x1024_0_3072
abbrev r7 : Rect S8192x512 := Rect.unit (s := S8192x512) ![3072, 0] S1024x512.size inb_S8192x512_S1024x512_3072_0
abbrev r8 : Rect S320x8192 := Rect.unit (s := S320x8192) ![0, 4096] S320x1024.size inb_S320x8192_S320x1024_0_4096
abbrev r9 : Rect S8192x512 := Rect.unit (s := S8192x512) ![4096, 0] S1024x512.size inb_S8192x512_S1024x512_4096_0
abbrev r10 : Rect S320x8192 := Rect.unit (s := S320x8192) ![0, 5120] S320x1024.size inb_S320x8192_S320x1024_0_5120
abbrev r11 : Rect S8192x512 := Rect.unit (s := S8192x512) ![5120, 0] S1024x512.size inb_S8192x512_S1024x512_5120_0
abbrev r12 : Rect S320x8192 := Rect.unit (s := S320x8192) ![0, 6144] S320x1024.size inb_S320x8192_S320x1024_0_6144
abbrev r13 : Rect S8192x512 := Rect.unit (s := S8192x512) ![6144, 0] S1024x512.size inb_S8192x512_S1024x512_6144_0
abbrev r14 : Rect S320x8192 := Rect.unit (s := S320x8192) ![0, 7168] S320x1024.size inb_S320x8192_S320x1024_0_7168
abbrev r15 : Rect S8192x512 := Rect.unit (s := S8192x512) ![7168, 0] S1024x512.size inb_S8192x512_S1024x512_7168_0
abbrev r16 : Rect S320x128 := Rect.unit (s := S320x128) ![0, 0] S320x1.size inb_S320x128_S320x1_0_0
abbrev r17 : Rect S1x512 := Rect.unit (s := S1x512) ![0, 0] S1x512.size inb_S1x512_S1x512_0_0
abbrev r18 : Rect S320x512 := Rect.unit (s := S320x512) ![0, 0] S320x512.size inb_S320x512_S320x512_0_0

/-- What the body stores in the output block, from the four input blocks. -/
def out (x0 : Vec F S320x8192 .bf16) (x1 : Vec F S320x128 .f32) (x2 : Vec F S8192x512 .i8) (x3 : Vec F S1x512 .f32) : Vec F S320x512 .bf16 :=
  View.canon [⟨r18, k0_pay1 (k0_pay2 (View.ld x0 r0) (View.ld x2 r1) (View.ld x0 r2) (View.ld x2 r3) (View.ld x0 r4) (View.ld x2 r5) (View.ld x0 r6) (View.ld x2 r7) (View.ld x0 r8) (View.ld x2 r9) (View.ld x0 r10) (View.ld x2 r11)) (View.ld x0 r12) (View.ld x2 r13) (View.ld x0 r14) (View.ld x2 r15) (View.ld x1 r16) (View.ld x3 r17)⟩]

/-- The one store covers the block. -/
theorem cover (p0 : Vec F S320x512 .bf16) (y : S320x512.Idx) :
    ∃ pc ∈ ([⟨r18, p0⟩] : List (View.Piece (Elt F) S320x512 .bf16)), y ∈ pc.1.set :=
  View.cover_of_tiled [⟨r18, p0⟩] S320x512.size (by rfl) y

set_option maxHeartbeats 1000000 in
/-- The body on whole buffers, the inputs' at contents `x0 ‥ x3` and the output's at anything: it leaves the inputs as they
    were and the output at `out` of them. -/
theorem sound_kernel (c : Dev nD) (E : Set ℕ) (i : grid0.Coords) (arg1 : Memref sig .tc .vmem S320x8192 .bf16) (harg1 : arg1.IsWhole) (arg2 : Memref sig .tc .vmem S320x128 .f32) (harg2 : arg2.IsWhole) (arg3 : Memref sig .tc .vmem S8192x512 .i8) (harg3 : arg3.IsWhole) (arg4 : Memref sig .tc .vmem S1x512 .f32) (harg4 : arg4.IsWhole) (arg5 : Memref sig .tc .vmem S320x512 .bf16) (harg5 : arg5.IsWhole)
    (x0 : Vec F S320x8192 .bf16) (x1 : Vec F S320x128 .f32) (x2 : Vec F S8192x512 .i8) (x3 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out x0 x1 x2 x3)) -∗ K ⟨⟩))
      ⊢ wp frame (wpE (defs₀ (F := F)) Variants.none c none) E (cc0_in_proj i arg1 harg1 arg2 harg2 arg3 harg3 arg4 harg4 arg5 harg5) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

variable (m : (ℓ : Loc nD τ sig) → Buf (Elt F) ℓ) (ρ : Dev nD → PrngReg)

/-! ## The proof data -/

/-- Only the output's window is left unstated. -/
def forgets : Fin 5 → Bool := fun | 0 => false | 1 => false | 2 => false | 3 => false | 4 => true | ⟨_ + 5, h⟩ => absurd h (Nat.not_lt.2 (Nat.le_add_left _ _))

/-- Buffer contents that nobody reads. -/
def filler2 : Vec F S8192x512 .i8 := fun _ => 0#8
def filler3 : Vec F S1x512 .f32 := fun _ => Scalar.ofBits .f32 0#32

/-- After the body each input's buffer holds its block, the weights' and their scales' filled out past the array's end. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) filler2 (iblk m c 2 t)
    | ⟨3, _⟩ => win0_3.fill (grid0.coords t) filler3 (iblk m c 3 t)
    | ⟨4, _⟩ => Dat.unnamed (cfg := cfg0) 4 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = win0_2.fill (grid0.coords t) filler2 (iblk m c 2 t) := by dsimp only [dats]
theorem after3 (c : Dev nD) (t : Fin cfg0.N) : (dats m 0 c).after 3 t = win0_3.fill (grid0.coords t) filler3 (iblk m c 3 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- The weights' buffer is fetched anew at every point: its block inside the array, anything past the end. -/
theorem before2 (c : Dev nD) (t : Fin cfg0.N) (d) : (dats m 0 c).before 2 t d = win0_2.fill (grid0.coords t) d (iblk m c 2 t) := by
  unfold Dat.before; rw [if_pos (fetch0_2 t)]; rfl
theorem before3 (c : Dev nD) (t : Fin cfg0.N) (d) : (dats m 0 c).before 3 t d = win0_3.fill (grid0.coords t) d (iblk m c 3 t) := by
  unfold Dat.before; rw [if_pos (fetch0_3 t)]; rfl

/-- The body at any point, as the pipeline asks for it. -/
theorem body_obligation (c : Dev nD) : BodyObligationLoose (dats (F := F) m 0 c) (defs₀ (F := F)) Variants.none () Set.univ forgets := fun t => by
  rw [bigSep_W0, bigSep_W0, defs₀_row]
  simp only [forgets]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0 m c t d0, before1 m c t d1, before2 m c t d2, before3 m c t d3]
  unfold bodyAt0
  iapply (sound_kernel c Set.univ (grid0.coords t) _ _ _ _ _ _ _ _ _ _ (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  have h2 : win0_2.cut (grid0.coords t) (win0_2.fill (grid0.coords t) filler2 (iblk m c 2 t)) = iblk m c 2 t := win0_2.cut_fill _ _ _
  have h3 : win0_3.cut (grid0.coords t) (win0_3.fill (grid0.coords t) filler3 (iblk m c 3 t)) = iblk m c 3 t := win0_3.cut_fill _ _ _
  isplitl [HΦ]; · iexact HΦ
  isplitl [Ho]; · iexact Ho
  isplitl [H0]; · rw [after0]; iexact H0
  isplitl [H1]; · rw [after1]; iexact H1
  isplitl [H2]
  · iexists d2
    rw [after2]
    change _ ⊢ owns (c : Thread nD τ) (st0_2 t) fullShare (win0_2.fill (grid0.coords t) d2 (win0_2.cut (grid0.coords t) (win0_2.fill (grid0.coords t) filler2 (iblk m c 2 t))))
    rw [h2]
  isplitl [H3]
  · iexists d3
    rw [after3]
    change _ ⊢ owns (c : Thread nD τ) (st0_3 t) fullShare (win0_3.fill (grid0.coords t) d3 (win0_3.cut (grid0.coords t) (win0_3.fill (grid0.coords t) filler3 (iblk m c 3 t))))
    rw [h3]
  iexists _; iexact H4

set_option backward.isDefEq.respectTransparency.types false in
set_option maxHeartbeats 800000 in
/-- The run: the input arrays unchanged, nothing said of the output, every counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => body_obligation m c) (hshare := fun c => (dats m 0 c).share_full fun _ => rfl)
    (howed := fun _ _ => rfl) (V := V m) (hmain := hmain m Variants.none) (hA := A_eq m) (hΦ := fun _ _ => rfl)

/-- The projection's program runs, leaves its arguments as they were, and ends with every counter at zero. -/
theorem frame : Cert.quiescent_InProj := by
  intro m ρ _
  refine (θ_run (defs (F := Bits)) _ _).mono (fun r h => ⟨fun c => ⟨?_, ?_, ?_, ?_⟩, h.2⟩) (run_main (F := Bits) m ρ)
  · exact (h.1.arr_in c 0 rfl).trans (A_eq m c 0)
  · exact (h.1.arr_in c 1 rfl).trans (A_eq m c 1)
  · exact (h.1.arr_in c 2 rfl).trans (A_eq m c 2)
  · exact (h.1.arr_in c 3 rfl).trans (A_eq m c 3)

end Cert.Proof.InProj

end
-- ==== Proof.InProj.lean ====
/-
  The input projection over the reals: sixty-one points, each summing eight products of 1024 contracted positions for 512
  columns; the last block overhangs the weight array by 416 columns. An entry of a product reads one column of the weights,
  so the columns inside the array do not depend on what the buffers hold past its end, and together they are the columns of
  the one product that the reference takes.
-/
module

public import proofs.«01_k».proof.Defs
public import proofs.«01_k».proof.Proof.Gen.InProjIdeal.Frame
public import proofs.«01_k».proof.Proof.Gen.InProjIdeal.Skeleton
public import proofs.«01_k».proof.Proof.Gen.InProjRefIdeal.Value
public import Idealize.ShloMosaic.Lib.Pipeline.FrameBody
public import proofs.«01_k».proof.Proof.Products

@[expose] public section

set_option maxRecDepth 16384

noncomputable section

namespace Cert.Proof.InProjIdeal

section Kernel

open Idealize.ShloMosaic.ValueIdx
open Cert.Proof.Products
open scoped BigOperators
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.InProjIdeal Cert.InProjIdeal.Gen

variable {F : FTy → Type} [FloatOps F]

local notation "𝕄" => MT nD τ sig Unit (Elt F) ℕ (UR sig nD τ) ℕ

/-! ## The body's accesses: eight chunks of codes and weights, the two scales, the whole output block -/

abbrev r0 : Rect S320x8192 := Rect.unit (s := S320x8192) ![0, 0] S320x1024.size inb_S320x8192_S320x1024_0_0
abbrev r1 : Rect S8192x512 := Rect.unit (s := S8192x512) ![0, 0] S1024x512.size inb_S8192x512_S1024x512_0_0
abbrev r2 : Rect S320x8192 := Rect.unit (s := S320x8192) ![0, 1024] S320x1024.size inb_S320x8192_S320x1024_0_1024
abbrev r3 : Rect S8192x512 := Rect.unit (s := S8192x512) ![1024, 0] S1024x512.size inb_S8192x512_S1024x512_1024_0
abbrev r4 : Rect S320x8192 := Rect.unit (s := S320x8192) ![0, 2048] S320x1024.size inb_S320x8192_S320x1024_0_2048
abbrev r5 : Rect S8192x512 := Rect.unit (s := S8192x512) ![2048, 0] S1024x512.size inb_S8192x512_S1024x512_2048_0
abbrev r6 : Rect S320x8192 := Rect.unit (s := S320x8192) ![0, 3072] S320x1024.size inb_S320x8192_S320x1024_0_3072
abbrev r7 : Rect S8192x512 := Rect.unit (s := S8192x512) ![3072, 0] S1024x512.size inb_S8192x512_S1024x512_3072_0
abbrev r8 : Rect S320x8192 := Rect.unit (s := S320x8192) ![0, 4096] S320x1024.size inb_S320x8192_S320x1024_0_4096
abbrev r9 : Rect S8192x512 := Rect.unit (s := S8192x512) ![4096, 0] S1024x512.size inb_S8192x512_S1024x512_4096_0
abbrev r10 : Rect S320x8192 := Rect.unit (s := S320x8192) ![0, 5120] S320x1024.size inb_S320x8192_S320x1024_0_5120
abbrev r11 : Rect S8192x512 := Rect.unit (s := S8192x512) ![5120, 0] S1024x512.size inb_S8192x512_S1024x512_5120_0
abbrev r12 : Rect S320x8192 := Rect.unit (s := S320x8192) ![0, 6144] S320x1024.size inb_S320x8192_S320x1024_0_6144
abbrev r13 : Rect S8192x512 := Rect.unit (s := S8192x512) ![6144, 0] S1024x512.size inb_S8192x512_S1024x512_6144_0
abbrev r14 : Rect S320x8192 := Rect.unit (s := S320x8192) ![0, 7168] S320x1024.size inb_S320x8192_S320x1024_0_7168
abbrev r15 : Rect S8192x512 := Rect.unit (s := S8192x512) ![7168, 0] S1024x512.size inb_S8192x512_S1024x512_7168_0
abbrev r16 : Rect S320x128 := Rect.unit (s := S320x128) ![0, 0] S320x1.size inb_S320x128_S320x1_0_0
abbrev r17 : Rect S1x512 := Rect.unit (s := S1x512) ![0, 0] S1x512.size inb_S1x512_S1x512_0_0
abbrev r18 : Rect S320x512 := Rect.unit (s := S320x512) ![0, 0] S320x512.size inb_S320x512_S320x512_0_0

/-- What the body stores in the output block, from the four input blocks. -/
def out (x0 : Vec F S320x8192 .bf16) (x1 : Vec F S320x128 .f32) (x2 : Vec F S8192x512 .i8) (x3 : Vec F S1x512 .f32) : Vec F S320x512 .bf16 :=
  View.canon [⟨r18, k0_pay1 (k0_pay2 (View.ld x0 r0) (View.ld x2 r1) (View.ld x0 r2) (View.ld x2 r3) (View.ld x0 r4) (View.ld x2 r5) (View.ld x0 r6) (View.ld x2 r7) (View.ld x0 r8) (View.ld x2 r9) (View.ld x0 r10) (View.ld x2 r11)) (View.ld x0 r12) (View.ld x2 r13) (View.ld x0 r14) (View.ld x2 r15) (View.ld x1 r16) (View.ld x3 r17)⟩]

/-- The one store covers the block. -/
theorem cover (p0 : Vec F S320x512 .bf16) (y : S320x512.Idx) :
    ∃ pc ∈ ([⟨r18, p0⟩] : List (View.Piece (Elt F) S320x512 .bf16)), y ∈ pc.1.set :=
  View.cover_of_tiled [⟨r18, p0⟩] S320x512.size (by rfl) y

set_option maxHeartbeats 1000000 in
/-- The body on whole buffers, the inputs' at contents `x0 ‥ x3` and the output's at anything: it leaves the inputs as they
    were and the output at `out` of them. -/
theorem sound_kernel (c : Dev nD) (E : Set ℕ) (i : grid0.Coords) (arg1 : Memref sig .tc .vmem S320x8192 .bf16) (harg1 : arg1.IsWhole) (arg2 : Memref sig .tc .vmem S320x128 .f32) (harg2 : arg2.IsWhole) (arg3 : Memref sig .tc .vmem S8192x512 .i8) (harg3 : arg3.IsWhole) (arg4 : Memref sig .tc .vmem S1x512 .f32) (harg4 : arg4.IsWhole) (arg5 : Memref sig .tc .vmem S320x512 .bf16) (harg5 : arg5.IsWhole)
    (x0 : Vec F S320x8192 .bf16) (x1 : Vec F S320x128 .f32) (x2 : Vec F S8192x512 .i8) (x3 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out x0 x1 x2 x3)) -∗ K ⟨⟩))
      ⊢ wp frame (wpE (defs₀ (F := F)) Variants.none c none) E (cc0_in_proj i arg1 harg1 arg2 harg2 arg3 harg3 arg4 harg4 arg5 harg5) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover _)

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

section Ideal

variable (m : (ℓ : Loc nD τ sig) → Buf (Elt Ideal) ℓ) (ρ : Dev nD → PrngReg)

/-! ## One entry of the product -/

theorem hz : (![0, 0] : Fin 2 → Nat) = fun _ => 0 := funext fun a => by fin_cases a <;> rfl

/-- An entry of the block that the body computes from its input blocks: it reads one column of the weights only. -/
theorem out_entry (x0 : Vec Ideal S320x8192 .bf16) (x1 : Vec Ideal S320x128 .f32) (x2 : Vec Ideal S8192x512 .i8) (x3 : Vec Ideal S1x512 .f32)
    (r : Fin 320) (j : Fin 512) :
    out (F := Ideal) x0 x1 x2 x3 (ix2 r j)
      = (∑ k : Fin 8192, term x0 (sitofp (F := Ideal) .bf16 x2) r j k) * (x1 (ix2 r (0 : Fin 128)) * x3 (ix2 (0 : Fin 1) j)) := by
  unfold out
  rw [View.canon_unit_zero hz]
  have e := sum_chunks (n := 8) (m := 1024) (term x0 (sitofp (F := Ideal) .bf16 x2) r j)
  simp only [k0_pay1, k0_pay2, truncf_apply, addf_apply, mulf_apply]
  rw [bcast_col, bcast_row, View.ld_unit_zero (S := S1x512) hz, ld_col _ _ (by decide)]
  rw [show (∑ k : Fin 8192, term x0 (sitofp (F := Ideal) .bf16 x2) r j k) = _ from e]
  rw [Fin.sum_univ_eight]
  exact congrArg (· * _) (add_congr (add_congr (add_congr (add_congr (add_congr (add_congr (add_congr (chunk_entry _ rfl x0 x2 _ _ r j) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j))

/-- The projection on whole arrays: the integer product times the two scales. -/
def result (a0 : Vec Ideal S320x8192 .bf16) (a1 : Vec Ideal S320x128 .f32) (a2 : Vec Ideal S8192x30816 .i8) (a3 : Vec Ideal S1x30816 .f32) :
    Vec Ideal S320x30816 .bf16 := fun i =>
  (∑ k : Fin 8192, term a0 (sitofp (F := Ideal) .bf16 a2) (i 0) (i 1) k) * (a1 (ix2 (i 0) (0 : Fin 128)) * a3 (ix2 (0 : Fin 1) (i 1)))

/-! ## Where the blocks lie -/

/-- Block `t` of the weights, their scales and the output starts at column `512 t`; -/
theorem index_facts : ∀ t : Fin cfg0.N, win0_0.index t (0 : Fin 2) = 0 ∧ win0_0.index t (1 : Fin 2) = 0 ∧ win0_1.index t (0 : Fin 2) = 0
    ∧ win0_1.index t (1 : Fin 2) = 0 ∧ win0_2.index t (0 : Fin 2) = 0 ∧ win0_2.index t (1 : Fin 2) = t.val ∧ win0_3.index t (0 : Fin 2) = 0
    ∧ win0_3.index t (1 : Fin 2) = t.val ∧ win0_4.index t (0 : Fin 2) = 0 ∧ win0_4.index t (1 : Fin 2) = t.val ∧ t.val < 61 :=
  (by decide +kernel : ∀ t : Fin grid0.N, _)

/-- and its transfers move the columns that lie inside the array. -/
theorem size_facts : ∀ t : Fin cfg0.N, win0_2.xsize (grid0.coords t) (0 : Fin 2) = 8192 ∧ win0_2.xsize (grid0.coords t) (1 : Fin 2) = min 512 (30816 - 512 * t.val)
    ∧ win0_3.xsize (grid0.coords t) (0 : Fin 2) = 1 ∧ win0_3.xsize (grid0.coords t) (1 : Fin 2) = min 512 (30816 - 512 * t.val)
    ∧ win0_4.xsize (grid0.coords t) (0 : Fin 2) = 320 ∧ win0_4.xsize (grid0.coords t) (1 : Fin 2) = min 512 (30816 - 512 * t.val) :=
  (by decide +kernel : ∀ t : Fin grid0.N, _)

theorem emb0 (t : Fin cfg0.N) (r : Fin 320) (k : Fin 8192) : ((cfg0.win 0).blk t).view.emb (ix2 r k) = ix2 r k := by
  have e := index_facts t
  funext a; apply Fin.ext
  match a with
  | ⟨0, _⟩ => show win0_0.index t (0 : Fin 2) * 320 + 1 * r.val = r.val; omega
  | ⟨1, _⟩ => show win0_0.index t (1 : Fin 2) * 8192 + 1 * k.val = k.val; omega

theorem emb1 (t : Fin cfg0.N) (r : Fin 320) (k : Fin 128) : ((cfg0.win 1).blk t).view.emb (ix2 r k) = ix2 r k := by
  have e := index_facts t
  funext a; apply Fin.ext
  match a with
  | ⟨0, _⟩ => show win0_1.index t (0 : Fin 2) * 320 + 1 * r.val = r.val; omega
  | ⟨1, _⟩ => show win0_1.index t (1 : Fin 2) * 128 + 1 * k.val = k.val; omega

/-- A column of the weights' buffer that lies inside the array, whatever the rest of the buffer holds. -/
theorem fill2 (t : Fin cfg0.N) (d : Vec Ideal S8192x512 .i8) (X : Vec Ideal S8192x30816 .i8) (k : Fin 8192) (j : Fin 512) (q : Fin 30816)
    (hq : q.val = 512 * t.val + j.val) :
    win0_2.fill (grid0.coords t) d (((cfg0.win 2).blk t).view.read (Elt Ideal) X) (ix2 k j) = X (ix2 k q) := by
  have e := index_facts t
  have s := size_facts t
  have hk := k.isLt; have hj := j.isLt; have hq' := q.isLt
  have hm : win0_2.moved (grid0.coords t) (ix2 k j) = true := (win0_2.moved_iff _ _).mpr fun a => by
    match a with
    | ⟨0, _⟩ => show k.val < win0_2.xsize (grid0.coords t) (0 : Fin 2); omega
    | ⟨1, _⟩ => show j.val < win0_2.xsize (grid0.coords t) (1 : Fin 2); omega
  unfold Window.fill
  rw [dif_pos hm]
  refine congrArg X ?_
  funext a; apply Fin.ext
  match a with
  | ⟨0, _⟩ => show win0_2.index t (0 : Fin 2) * 8192 + 1 * k.val = k.val; omega
  | ⟨1, _⟩ => show win0_2.index t (1 : Fin 2) * 512 + 1 * j.val = q.val; omega

/-- The same of their scales. -/
theorem fill3 (t : Fin cfg0.N) (d : Vec Ideal S1x512 .f32) (X : Vec Ideal S1x30816 .f32) (k : Fin 1) (j : Fin 512) (q : Fin 30816)
    (hq : q.val = 512 * t.val + j.val) :
    win0_3.fill (grid0.coords t) d (((cfg0.win 3).blk t).view.read (Elt Ideal) X) (ix2 k j) = X (ix2 k q) := by
  have e := index_facts t
  have s := size_facts t
  have hk := k.isLt; have hj := j.isLt; have hq' := q.isLt
  have hm : win0_3.moved (grid0.coords t) (ix2 k j) = true := (win0_3.moved_iff _ _).mpr fun a => by
    match a with
    | ⟨0, _⟩ => show k.val < win0_3.xsize (grid0.coords t) (0 : Fin 2); omega
    | ⟨1, _⟩ => show j.val < win0_3.xsize (grid0.coords t) (1 : Fin 2); omega
  unfold Window.fill
  rw [dif_pos hm]
  refine congrArg X ?_
  funext a; apply Fin.ext
  match a with
  | ⟨0, _⟩ => show win0_3.index t (0 : Fin 2) * 1 + 1 * k.val = k.val; omega
  | ⟨1, _⟩ => show win0_3.index t (1 : Fin 2) * 512 + 1 * j.val = q.val; omega

/-- The whole-array result on core `c`. -/
abbrev resultAt (c : Dev nD) : Vec Ideal S320x30816 .bf16 := result (V m c main_arg0) (V m c main_arg1) (V m c main_arg2) (V m c main_arg3)

/-- Block `t` of the whole result, its part inside the array. -/
def oblk (c : Dev nD) (t : Fin cfg0.N) : (win0_4.xblock (grid0.coords t)).Idx → Elt Ideal .bf16 :=
  ((cfg0.win 4).blk t).view.read (Elt Ideal) (resultAt m c)

/-- On the columns inside the array what the body stores is block `t` of the whole result, whatever the weights' and scales'
    buffers hold past the array's end. -/
theorem cut_out (c : Dev nD) (t : Fin cfg0.N) (d2 : Vec Ideal S8192x512 .i8) (d3 : Vec Ideal S1x512 .f32) :
    win0_4.cut (grid0.coords t) (out (F := Ideal) (iblk m c 0 t) (iblk m c 1 t) (win0_2.fill (grid0.coords t) d2 (iblk m c 2 t)) (win0_3.fill (grid0.coords t) d3 (iblk m c 3 t)))
      = oblk m c t := by
  have e := index_facts t
  have s := size_facts t
  funext j
  have h0 : (j 0).val < win0_4.xsize (grid0.coords t) (0 : Fin 2) := (j 0).isLt
  have h1 : (j 1).val < win0_4.xsize (grid0.coords t) (1 : Fin 2) := (j 1).isLt
  obtain ⟨r, hr⟩ : ∃ r : Fin 320, r.val = (j 0).val := ⟨⟨(j 0).val, by omega⟩, rfl⟩
  obtain ⟨l, hl⟩ : ∃ l : Fin 512, l.val = (j 1).val := ⟨⟨(j 1).val, by omega⟩, rfl⟩
  obtain ⟨q, hq⟩ : ∃ q : Fin 30816, q.val = 512 * t.val + l.val := ⟨⟨512 * t.val + l.val, by omega⟩, rfl⟩
  have hx : win0_4.xinj (grid0.coords t) j = ix2 r l := by
    funext a; apply Fin.ext
    match a with
    | ⟨0, _⟩ => exact hr.symm
    | ⟨1, _⟩ => exact hl.symm
  have hy : ((cfg0.win 4).blk t).view.emb j = ix2 r q := by
    funext a; apply Fin.ext
    match a with
    | ⟨0, _⟩ => show win0_4.index t (0 : Fin 2) * 320 + 1 * (j 0).val = r.val; omega
    | ⟨1, _⟩ => show win0_4.index t (1 : Fin 2) * 512 + 1 * (j 1).val = q.val; omega
  have hread : ∀ X : Vec Ideal S320x30816 .bf16, ((cfg0.win 4).blk t).view.read (Elt Ideal) X j = X (ix2 r q) := fun X => congrArg X hy
  unfold oblk
  rw [hread]
  show out (F := Ideal) _ _ _ _ (win0_4.xinj (grid0.coords t) j) = _
  rw [hx, out_entry]
  refine congrArg₂ (· * ·) (Finset.sum_congr rfl fun k _ => term_congr (fun k => ?_) (fun k => ?_) k) (congrArg₂ (· * ·) ?_ ?_)
  · exact congrArg (V m c main_arg0) (emb0 t r k)
  · exact congrArg (fun w : BitVec 8 => (FloatOps.sitofp .bf16 w : Ideal .bf16)) (fill2 t d2 (V m c main_arg2) k l q hq)
  · exact congrArg (V m c main_arg1) (emb1 t r 0)
  · exact fill3 t d3 (V m c main_arg3) 0 l q hq

/-! ## The proof data -/

/-- Buffer contents that nobody reads. -/
def filler2 : Vec Ideal S8192x512 .i8 := fun _ => 0#8
def filler3 : Vec Ideal S1x512 .f32 := fun _ => (0 : EReal)
def filler4 : Vec Ideal S320x512 .bf16 := fun _ => (0 : EReal)

/-- After the body each input's buffer holds its block and the output's the block of the whole result, filled out past the
    arrays' end. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) filler2 (iblk m c 2 t)
    | ⟨3, _⟩ => win0_3.fill (grid0.coords t) filler3 (iblk m c 3 t)
    | ⟨4, _⟩ => win0_4.fill (grid0.coords t) filler4 (oblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = win0_2.fill (grid0.coords t) filler2 (iblk m c 2 t) := by dsimp only [dats]
theorem after3 (c : Dev nD) (t : Fin cfg0.N) : (dats m 0 c).after 3 t = win0_3.fill (grid0.coords t) filler3 (iblk m c 3 t) := by dsimp only [dats]
theorem after4 (c : Dev nD) (t : Fin cfg0.N) : (dats m 0 c).after 4 t = win0_4.fill (grid0.coords t) filler4 (oblk m c t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
/-- The weights' buffer is fetched anew at every point: its block inside the array, anything past the end. -/
theorem before2 (c : Dev nD) (t : Fin cfg0.N) (d) : (dats m 0 c).before 2 t d = win0_2.fill (grid0.coords t) d (iblk m c 2 t) := by
  unfold Dat.before; rw [if_pos (fetch0_2 t)]; rfl
theorem before3 (c : Dev nD) (t : Fin cfg0.N) (d) : (dats m 0 c).before 3 t d = win0_3.fill (grid0.coords t) d (iblk m c 3 t) := by
  unfold Dat.before; rw [if_pos (fetch0_3 t)]; rfl

/-- The body at any point, as the pipeline asks for it. -/
theorem body_obligation (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0 m c t d0, before1 m c t d1, before2 m c t d2, before3 m c t d3]
  unfold bodyAt0
  iapply (sound_kernel c Set.univ (grid0.coords t) _ _ _ _ _ _ _ _ _ _ (iblk m c 0 t) (iblk m c 1 t)
    (win0_2.fill (grid0.coords t) d2 (iblk m c 2 t)) (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  have h2 : win0_2.cut (grid0.coords t) (win0_2.fill (grid0.coords t) filler2 (iblk m c 2 t)) = iblk m c 2 t := win0_2.cut_fill _ _ _
  have h3 : win0_3.cut (grid0.coords t) (win0_3.fill (grid0.coords t) filler3 (iblk m c 3 t)) = iblk m c 3 t := win0_3.cut_fill _ _ _
  have h4 : win0_4.cut (grid0.coords t) (win0_4.fill (grid0.coords t) filler4 (oblk m c t)) = oblk m c t := win0_4.cut_fill _ _ _
  have h4' := win0_4.fill_congr_cut (grid0.coords t) ((cut_out m c t d2 d3).trans h4.symm)
  isplitl [HΦ]; · iexact HΦ
  isplitl [Ho]; · iexact Ho
  isplitl [H0]; · rw [after0]; iexact H0
  isplitl [H1]; · rw [after1]; iexact H1
  isplitl [H2]
  · iexists d2
    rw [after2]
    change _ ⊢ owns (c : Thread nD τ) (st0_2 t) fullShare (win0_2.fill (grid0.coords t) d2 (win0_2.cut (grid0.coords t) (win0_2.fill (grid0.coords t) filler2 (iblk m c 2 t))))
    rw [h2]
  isplitl [H3]
  · iexists d3
    rw [after3]
    change _ ⊢ owns (c : Thread nD τ) (st0_3 t) fullShare (win0_3.fill (grid0.coords t) d3 (win0_3.cut (grid0.coords t) (win0_3.fill (grid0.coords t) filler3 (iblk m c 3 t))))
    rw [h3]
  iexists (out (F := Ideal) (iblk m c 0 t) (iblk m c 1 t) (win0_2.fill (grid0.coords t) d2 (iblk m c 2 t)) (win0_3.fill (grid0.coords t) d3 (iblk m c 3 t)))
  rw [after4]
  change _ ⊢ owns (c : Thread nD τ) (st0_4 t) fullShare (win0_4.fill (grid0.coords t) (out (F := Ideal) (iblk m c 0 t) (iblk m c 1 t) (win0_2.fill (grid0.coords t) d2 (iblk m c 2 t)) (win0_3.fill (grid0.coords t) d3 (iblk m c 3 t))) (win0_4.cut (grid0.coords t) (win0_4.fill (grid0.coords t) filler4 (oblk m c t))))
  rw [h4']

set_option backward.isDefEq.respectTransparency.types false in
set_option maxHeartbeats 800000 in
/-- The run: every array ends at what the write-backs leave in it, and every counter at zero. -/
theorem run_main : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The output array -/

/-- What point `t` writes back is block `t` of the whole result. -/
theorem flushed_eq (c : Dev nD) (t : Fin cfg0.N) : (dats m 0 c).flushed 4 t = ((cfg0.win 4).blk t).view.read (Elt Ideal) (resultAt m c) := by
  unfold Dat.flushed
  rw [after4]
  exact win0_4.cut_fill _ _ _

theorem mem_blk (t : Fin cfg0.N) (j : (win0_4.xblock (grid0.coords t)).Idx) (i : S320x30816.Idx) (h : ((cfg0.win 4).blk t).view.emb j = i) :
    i ∈ ((cfg0.win 4).blk t).view.set :=
  h ▸ ((cfg0.win 4).blk t).view.emb_mem_set j

/-- Every entry lies in the block of the point that its column belongs to. -/
theorem covered (i : S320x30816.Idx) : ∃ t : Fin cfg0.N, (cfg0.win 4).flush t = true ∧ i ∈ ((cfg0.win 4).blk t).view.set := by
  have h0 : (i 0).val < 320 := (i 0).isLt
  have h1 : (i 1).val < 30816 := (i 1).isLt
  have hN : cfg0.N = 61 := N_0
  obtain ⟨t, ht⟩ : ∃ t : Fin cfg0.N, t.val = (i 1).val / 512 := ⟨⟨(i 1).val / 512, by omega⟩, rfl⟩
  have e := index_facts t
  have s := size_facts t
  refine ⟨t, flush0_4 _, mem_blk t (fun a => match a with
    | ⟨0, _⟩ => ⟨(i 0).val, show (i 0).val < win0_4.xsize (grid0.coords t) (0 : Fin 2) by omega⟩
    | ⟨1, _⟩ => ⟨(i 1).val % 512, show (i 1).val % 512 < win0_4.xsize (grid0.coords t) (1 : Fin 2) by omega⟩) i ?_⟩
  funext a; apply Fin.ext
  match a with
  | ⟨0, _⟩ => show win0_4.index t (0 : Fin 2) * 320 + 1 * (i 0).val = (i 0).val; omega
  | ⟨1, _⟩ => show win0_4.index t (1 : Fin 2) * 512 + 1 * ((i 1).val % 512) = (i 1).val; omega

/-- The output array after the run. -/
theorem final_eq (c : Dev nD) : (dats m 0 c).arrAt 4 cfg0.N = resultAt m c :=
  (dats m 0 c).arrAt_eq_of_cover 4 _ (fun t _ => flushed_eq m c t) covered

/-- The run with its arrays read: the result, the arguments, the counters. -/
theorem run : θ_run (defs (F := Ideal)) (onTc (τ := τ) (main (F := Ideal))) ⟨m, fun _ => 0, ρ⟩ (fun r => (∀ c : Dev nD,
      r.2.mem ((c.tc : Thread nD τ).loc main_v0) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run (defs (F := Ideal)) _ _).mono (fun _ h => ⟨fun c => ⟨((h.1 c).1 4).trans (final_eq m c),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_main m ρ)

end Ideal

end Kernel

open Idealize.ShloMosaic Idealize.ShloMosaic.ValueIdx Idealize.ShloMosaic.TcCoe Idealize.SL.Sem
open Cert.Proof.Products
open scoped BigOperators

/-- The reference's one product gives the same entries. -/
theorem ref_eq (a0 : Vec Ideal InProjRefIdeal.S320x8192 .bf16) (a1 : Vec Ideal InProjRefIdeal.S320x128 .f32)
    (a2 : Vec Ideal InProjRefIdeal.S8192x30816 .i8) (a3 : Vec Ideal InProjRefIdeal.S1x30816 .f32) :
    InProjRefIdeal.Value.G4 (F := Ideal) a0 a1 a2 a3 = result a0 a1 a2 a3 := by
  funext i
  obtain ⟨r, j, rfl⟩ : ∃ (r : Fin 320) (j' : Fin 30816), i = ix2 r j' := ⟨i 0, i 1, eq_ix2 i⟩
  simp only [InProjRefIdeal.Value.G4, InProjRefIdeal.Gen.k0_pay1, truncf_apply, mulf_apply]
  rw [bcast_col, bcast_row, slice_col _ _ (by decide)]
  have e := (matmul_entry InProjRefIdeal.dot_S320x8192_S8192x30816_S320x30816_1_0_0_1_n_n rfl a0 (sitofp (F := Ideal) .bf16 a2) r j).trans (sum_term _ _ r j)
  show (_ * (a1 (ix2 r (0 : Fin 128)) * a3 (ix2 (0 : Fin 1) j)) : EReal)
    = (∑ k : Fin 8192, term a0 (sitofp (F := Ideal) .bf16 a2) r j k) * (a1 (ix2 r (0 : Fin 128)) * a3 (ix2 (0 : Fin 1) j))
  rw [← e]
  rfl

/-- The projection's reading over the reals runs, leaves its arguments as they were, and ends with every counter at zero. -/
theorem frame : Cert.quiescent_InProjIdeal := by
  intro m ρ _
  exact (θ_run (InProjIdeal.defs (F := Ideal)) _ _).mono (fun r h => ⟨fun c => (h.1 c).2, h.2⟩) (run m ρ)

/-- Kernel and reference end with the same output array. -/
theorem algebraic : Cert.algebraic_InProjIdeal_InProjRefIdeal := by
  intro m g m' g' _ hagree
  refine ⟨fun c => result (m ((c.tc : Thread InProjIdeal.nD InProjIdeal.τ).loc InProjIdeal.main_arg0))
    (m ((c.tc : Thread InProjIdeal.nD InProjIdeal.τ).loc InProjIdeal.main_arg1)) (m ((c.tc : Thread InProjIdeal.nD InProjIdeal.τ).loc InProjIdeal.main_arg2))
    (m ((c.tc : Thread InProjIdeal.nD InProjIdeal.τ).loc InProjIdeal.main_arg3)), ?_, ?_⟩
  · exact (θ_run (InProjIdeal.defs (F := Ideal)) _ _).mono (fun r h c => h.1 c) (run m g)
  · refine (θ_run (InProjRefIdeal.defs (F := Ideal)) _ _).mono (fun r h c => ⟨(h c).1.trans ?_, (h c).2⟩) (InProjRefIdeal.Value.run m' g')
    rw [ref_eq, (hagree c).1, (hagree c).2.1, (hagree c).2.2.1, (hagree c).2.2.2]

end Cert.Proof.InProjIdeal

end
-- ==== Proof.OutProj.lean ====
/-
  The output projection: at each of its sixteen points the kernel sums nine products of 1024 contracted positions each
  for 512 columns; together they are the columns of the one product that the reference takes.
-/
module

public import proofs.«01_k».proof.Defs
public import proofs.«01_k».proof.Proof.Gen.OutProjIdeal.Value
public import proofs.«01_k».proof.Proof.Gen.OutProjRefIdeal.Value
public import proofs.«01_k».proof.Proof.Products

@[expose] public section

noncomputable section

namespace Cert.Proof.OutProj

open Idealize.ShloMosaic Idealize.ShloMosaic.ValueIdx Idealize.ShloMosaic.TcCoe Idealize.SL.Sem
open Cert.Proof.Products
open scoped BigOperators

section Kernel
open Cert.OutProjIdeal Cert.OutProjIdeal.Gen

theorem hz : (![0, 0] : Fin 2 → Nat) = fun _ => 0 := funext fun a => by fin_cases a <;> rfl

/-- An entry of the block that the kernel computes from its input blocks. -/
theorem out_entry (x0 : Vec Ideal S320x9216 .bf16) (x1 : Vec Ideal S320x128 .f32) (x2 : Vec Ideal S9216x512 .i8) (x3 : Vec Ideal S1x512 .f32)
    (x4 : Vec Ideal S320x512 .bf16) (r : Fin 320) (j : Fin 512) :
    out0_5 (F := Ideal) x0 x1 x2 x3 x4 (ix2 r j)
      = (∑ k : Fin 9216, term x0 (sitofp (F := Ideal) .bf16 x2) r j k) * (x1 (ix2 r (0 : Fin 128)) * x3 (ix2 (0 : Fin 1) j)) + x4 (ix2 r j) := by
  unfold out0_5
  rw [View.canon_unit_zero hz]
  have e := sum_chunks (n := 9) (m := 1024) (term x0 (sitofp (F := Ideal) .bf16 x2) r j)
  simp only [k0_pay1, k0_pay2, truncf_apply, addf_apply, mulf_apply, extf_apply]
  rw [bcast_col, bcast_row, View.ld_unit_zero (S := S1x512) hz, View.ld_unit_zero (S := S320x512) hz, ld_col _ _ (by decide)]
  rw [show (∑ k : Fin 9216, term x0 (sitofp (F := Ideal) .bf16 x2) r j k) = _ from e]
  rw [Fin.sum_univ_castSucc, Fin.sum_univ_eight]
  exact add_congr (congrArg (· * _) (add_congr (add_congr (add_congr (add_congr (add_congr (add_congr (add_congr (add_congr (chunk_entry _ rfl x0 x2 _ _ r j) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j))) rfl

/-- The output projection on whole arrays: the integer product, times the two scales, plus the residual. -/
def result (a0 : Vec Ideal S320x9216 .bf16) (a1 : Vec Ideal S320x128 .f32) (a2 : Vec Ideal S9216x8192 .i8) (a3 : Vec Ideal S1x8192 .f32)
    (a4 : Vec Ideal S320x8192 .bf16) : Vec Ideal S320x8192 .bf16 := fun i =>
  (∑ k : Fin 9216, term a0 (sitofp (F := Ideal) .bf16 a2) (i 0) (i 1) k) * (a1 (ix2 (i 0) (0 : Fin 128)) * a3 (ix2 (0 : Fin 1) (i 1))) + a4 i

/-- Where each window's block lies at point `t`: the first two are the whole arrays, the others columns `512 t ‥ 512 t + 511`. -/
theorem index_facts : ∀ t : Fin cfg0.N, win0_0.index t (0 : Fin 2) = 0 ∧ win0_0.index t (1 : Fin 2) = 0 ∧ win0_1.index t (0 : Fin 2) = 0
    ∧ win0_1.index t (1 : Fin 2) = 0 ∧ win0_2.index t (0 : Fin 2) = 0 ∧ win0_2.index t (1 : Fin 2) = t.val ∧ win0_3.index t (0 : Fin 2) = 0
    ∧ win0_3.index t (1 : Fin 2) = t.val ∧ win0_4.index t (0 : Fin 2) = 0 ∧ win0_4.index t (1 : Fin 2) = t.val ∧ win0_5.index t (0 : Fin 2) = 0
    ∧ win0_5.index t (1 : Fin 2) = t.val ∧ t.val < 16 :=
  (by decide +kernel : ∀ t : Fin grid0.N, _)

variable (m : (ℓ : Loc nD τ sig) → Buf (Elt Ideal) ℓ)

theorem emb0 (t : Fin cfg0.N) (r : Fin 320) (k : Fin 9216) : ((cfg0.win 0).blk t).view.emb (ix2 r k) = ix2 r k := by
  have e := index_facts t
  funext a; apply Fin.ext
  match a with
  | ⟨0, _⟩ => show win0_0.index t (0 : Fin 2) * 320 + 1 * r.val = r.val; omega
  | ⟨1, _⟩ => show win0_0.index t (1 : Fin 2) * 9216 + 1 * k.val = k.val; omega

theorem emb1 (t : Fin cfg0.N) (r : Fin 320) (k : Fin 128) : ((cfg0.win 1).blk t).view.emb (ix2 r k) = ix2 r k := by
  have e := index_facts t
  funext a; apply Fin.ext
  match a with
  | ⟨0, _⟩ => show win0_1.index t (0 : Fin 2) * 320 + 1 * r.val = r.val; omega
  | ⟨1, _⟩ => show win0_1.index t (1 : Fin 2) * 128 + 1 * k.val = k.val; omega

/-- Column `j` of block `t`, as a column of the array. -/
def col (t : Fin cfg0.N) (j : Fin 512) : Fin 8192 := ⟨512 * t.val + j.val, by have := index_facts t; omega⟩

theorem emb2 (t : Fin cfg0.N) (k : Fin 9216) (j : Fin 512) : ((cfg0.win 2).blk t).view.emb (ix2 k j) = ix2 k (col t j) := by
  have e := index_facts t
  funext a; apply Fin.ext
  match a with
  | ⟨0, _⟩ => show win0_2.index t (0 : Fin 2) * 9216 + 1 * k.val = k.val; omega
  | ⟨1, _⟩ => show win0_2.index t (1 : Fin 2) * 512 + 1 * j.val = 512 * t.val + j.val; omega

theorem emb3 (t : Fin cfg0.N) (k : Fin 1) (j : Fin 512) : ((cfg0.win 3).blk t).view.emb (ix2 k j) = ix2 k (col t j) := by
  have e := index_facts t
  funext a; apply Fin.ext
  match a with
  | ⟨0, _⟩ => show win0_3.index t (0 : Fin 2) * 1 + 1 * k.val = k.val; omega
  | ⟨1, _⟩ => show win0_3.index t (1 : Fin 2) * 512 + 1 * j.val = 512 * t.val + j.val; omega

theorem emb4 (t : Fin cfg0.N) (r : Fin 320) (j : Fin 512) : ((cfg0.win 4).blk t).view.emb (ix2 r j) = ix2 r (col t j) := by
  have e := index_facts t
  funext a; apply Fin.ext
  match a with
  | ⟨0, _⟩ => show win0_4.index t (0 : Fin 2) * 320 + 1 * r.val = r.val; omega
  | ⟨1, _⟩ => show win0_4.index t (1 : Fin 2) * 512 + 1 * j.val = 512 * t.val + j.val; omega

theorem emb5 (t : Fin cfg0.N) (r : Fin 320) (j : Fin 512) : ((cfg0.win 5).blk t).view.emb (ix2 r j) = ix2 r (col t j) := by
  have e := index_facts t
  funext a; apply Fin.ext
  match a with
  | ⟨0, _⟩ => show win0_5.index t (0 : Fin 2) * 320 + 1 * r.val = r.val; omega
  | ⟨1, _⟩ => show win0_5.index t (1 : Fin 2) * 512 + 1 * j.val = 512 * t.val + j.val; omega

/-- What point `t` writes back is block `t` of the whole result. -/
theorem flushed_eq (c : Dev nD) (t : Fin cfg0.N) : (dats m 0 c).flushed 5 t
    = ((cfg0.win 5).blk t).view.read (Elt Ideal) (result (V m c main_arg0) (V m c main_arg1) (V m c main_arg2) (V m c main_arg3) (V m c main_arg4)) := by
  rw [Cert.OutProjIdeal.Value.flushed5]
  funext j
  obtain ⟨r, j, rfl⟩ : ∃ (r : Fin 320) (j' : Fin 512), j = ix2 r j' := ⟨j 0, j 1, eq_ix2 j⟩
  show out0_5 (iblk m c 0 t) (iblk m c 1 t) (iblk m c 2 t) (iblk m c 3 t) (iblk m c 4 t) (ix2 r j)
    = result (V m c main_arg0) (V m c main_arg1) (V m c main_arg2) (V m c main_arg3) (V m c main_arg4) (((cfg0.win 5).blk t).view.emb (ix2 r j))
  rw [out_entry, emb5]
  refine add_congr (congrArg₂ (· * ·) (Finset.sum_congr rfl fun k _ => term_congr (fun k => ?_) (fun k => ?_) k) (congrArg₂ (· * ·) ?_ ?_)) ?_
  · exact congrArg (V m c main_arg0) (emb0 t r k)
  · exact congrArg (fun w : BitVec 8 => (FloatOps.sitofp .bf16 w : Ideal .bf16)) (congrArg (V m c main_arg2) (emb2 t k j))
  · exact congrArg (V m c main_arg1) (emb1 t r 0)
  · exact congrArg (V m c main_arg3) (emb3 t 0 j)
  · exact congrArg (V m c main_arg4) (emb4 t r j)

theorem mem_blk (t : Fin cfg0.N) (r : Fin 320) (j : Fin 512) : ix2 r (col t j) ∈ ((cfg0.win 5).blk t).view.set :=
  emb5 t r j ▸ ((cfg0.win 5).blk t).view.emb_mem_set (ix2 r j)

/-- Every entry lies in the block of the point that its column belongs to. -/
theorem covered (i : S320x8192.Idx) : ∃ t : Fin cfg0.N, (cfg0.win 5).flush t = true ∧ i ∈ ((cfg0.win 5).blk t).view.set := by
  have h1 : (i 1).val < 8192 := (i 1).isLt
  have hN : cfg0.N = 16 := N_0
  obtain ⟨t, ht⟩ : ∃ t : Fin cfg0.N, t.val = (i 1).val / 512 := ⟨⟨(i 1).val / 512, by omega⟩, rfl⟩
  have e : i = ix2 (i 0) (col t ⟨(i 1).val % 512, by omega⟩) := by
    refine (eq_ix2 i).trans (congrArg (ix2 (i 0)) (Fin.ext ?_))
    show (i 1).val = 512 * t.val + (i 1).val % 512
    omega
  refine ⟨t, flush0_5 _, ?_⟩
  rw [e]
  exact mem_blk _ _ _

/-- The output array after the run. -/
theorem final_eq (c : Dev nD) : (dats m 0 c).arrAt 5 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5 _ (fun t _ => flushed_eq m c t) covered).trans
    (by rw [V_main_arg0, V_main_arg1, V_main_arg2, V_main_arg3, V_main_arg4])

end Kernel

/-- The reference's one product gives the same entries. -/
theorem ref_eq (a0 : Vec Ideal OutProjRefIdeal.S320x9216 .bf16) (a1 : Vec Ideal OutProjRefIdeal.S320x128 .f32)
    (a2 : Vec Ideal OutProjRefIdeal.S9216x8192 .i8) (a3 : Vec Ideal OutProjRefIdeal.S1x8192 .f32) (a4 : Vec Ideal OutProjRefIdeal.S320x8192 .bf16) :
    OutProjRefIdeal.Value.G5 (F := Ideal) a0 a1 a2 a3 a4 = result a0 a1 a2 a3 a4 := by
  funext i
  obtain ⟨r, j, rfl⟩ : ∃ (r : Fin 320) (j' : Fin 8192), i = ix2 r j' := ⟨i 0, i 1, eq_ix2 i⟩
  simp only [OutProjRefIdeal.Value.G5, OutProjRefIdeal.Gen.k0_pay1, truncf_apply, addf_apply, mulf_apply, extf_apply]
  rw [bcast_col, bcast_row, slice_col _ _ (by decide)]
  have e := (matmul_entry OutProjRefIdeal.dot_S320x9216_S9216x8192_S320x8192_1_0_0_1_n_n rfl a0 (sitofp (F := Ideal) .bf16 a2) r j).trans (sum_term _ _ r j)
  show (_ * (a1 (ix2 r (0 : Fin 128)) * a3 (ix2 (0 : Fin 1) j)) + a4 (ix2 r j) : EReal)
    = (∑ k : Fin 9216, term a0 (sitofp (F := Ideal) .bf16 a2) r j k) * (a1 (ix2 r (0 : Fin 128)) * a3 (ix2 (0 : Fin 1) j)) + a4 (ix2 r j)
  rw [← e]
  rfl

/-- Kernel and reference end with the same output array. -/
theorem algebraic : Cert.algebraic_OutProjIdeal_OutProjRefIdeal := by
  intro m g m' g' _ hagree
  refine ⟨fun c => result (m ((c.tc : Thread OutProjIdeal.nD OutProjIdeal.τ).loc OutProjIdeal.main_arg0))
    (m ((c.tc : Thread OutProjIdeal.nD OutProjIdeal.τ).loc OutProjIdeal.main_arg1)) (m ((c.tc : Thread OutProjIdeal.nD OutProjIdeal.τ).loc OutProjIdeal.main_arg2))
    (m ((c.tc : Thread OutProjIdeal.nD OutProjIdeal.τ).loc OutProjIdeal.main_arg3)) (m ((c.tc : Thread OutProjIdeal.nD OutProjIdeal.τ).loc OutProjIdeal.main_arg4)), ?_, ?_⟩
  · exact (θ_run (OutProjIdeal.defs (F := Ideal)) _ _).mono (fun r h c => ⟨(h c).1.trans (final_eq m c), (h c).2⟩) (OutProjIdeal.Value.run_blocks m g)
  · refine (θ_run (OutProjRefIdeal.defs (F := Ideal)) _ _).mono (fun r h c => ⟨(h c).1.trans ?_, (h c).2⟩) (OutProjRefIdeal.Value.run m' g')
    rw [ref_eq, (hagree c).1, (hagree c).2.1, (hagree c).2.2.1, (hagree c).2.2.2.1, (hagree c).2.2.2.2]

end Cert.Proof.OutProj

end
-- ==== Proof.Layout.lean ====
/-
  Rows by batch and by time: reading an array with two leading axes that was reshaped from, or to, a matrix of rows, or
  whose two leading axes were exchanged.
-/
module

public import Idealize.ShloMosaic.Lib.ValueIdx
public import Idealize.ShloMosaic.Lib.Pipeline.Value

@[expose] public section

noncomputable section

namespace Cert.Proof.Layout

open Idealize.ShloMosaic Idealize.ShloMosaic.ValueIdx

variable {α : Type} {A B M N : ℕ}

/-- Row `(a, b)` of a matrix whose rows are counted along `b` first. -/
def rowAt (h : M = A * B) (a : Fin A) (b : Fin B) : Fin M :=
  ⟨B * a.val + b.val, by
    have ha := a.isLt; have hb := b.isLt
    calc B * a.val + b.val < B * a.val + B := by omega
      _ = B * (a.val + 1) := by ring
      _ ≤ B * A := Nat.mul_le_mul_left _ (by omega)
      _ = M := by rw [h, mul_comm]⟩

/-- Every row is one of these. -/
theorem exists_rowAt (h : M = A * B) (r : Fin M) : ∃ (a : Fin A) (b : Fin B), r = rowAt h a b := by
  have hB : 0 < B := by
    rcases Nat.eq_zero_or_pos B with h0 | h0
    · subst h0; have := r.isLt; simp at h; omega
    · exact h0
  refine ⟨⟨r.val / B, ?_⟩, ⟨r.val % B, Nat.mod_lt _ hB⟩, Fin.ext ?_⟩
  · rw [Nat.div_lt_iff_lt_mul hB, ← h]; exact r.isLt
  · exact (Nat.div_add_mod r.val B).symm

/-- A matrix, its rows split in two axes. -/
theorem split_apply (h : M = A * B) (x : (⟨2, ![M, N]⟩ : Shape).Idx → α) (hc : (⟨2, ![M, N]⟩ : Shape).ShapeCasts ⟨3, ![A, B, N]⟩)
    (a : Fin A) (b : Fin B) (k : Fin N) : shapeCast ⟨3, ![A, B, N]⟩ x hc (ix3 a b k) = x (ix2 (rowAt h a b) k) := by
  refine shapeCast_apply x hc _ _ ?_
  rw [Shape.rowMajor_val_two, Shape.rowMajor_val_three]
  show (B * a.val + b.val) * N + k.val = (a.val * B + b.val) * N + k.val
  ring

/-- An array of rows, its two leading axes joined. -/
theorem join_apply (h : M = A * B) (x : (⟨3, ![A, B, N]⟩ : Shape).Idx → α) (hc : (⟨3, ![A, B, N]⟩ : Shape).ShapeCasts ⟨2, ![M, N]⟩)
    (a : Fin A) (b : Fin B) (k : Fin N) : shapeCast ⟨2, ![M, N]⟩ x hc (ix2 (rowAt h a b) k) = x (ix3 a b k) := by
  refine shapeCast_apply x hc _ _ ?_
  rw [Shape.rowMajor_val_two, Shape.rowMajor_val_three]
  show (a.val * B + b.val) * N + k.val = (B * a.val + b.val) * N + k.val
  ring

/-- The two leading axes exchanged. -/
theorem swap_apply (x : (⟨3, ![A, B, N]⟩ : Shape).Idx → α) (ht : (⟨3, ![A, B, N]⟩ : Shape).Transposes [1, 0, 2] ⟨3, ![B, A, N]⟩)
    (b : Fin B) (a : Fin A) (k : Fin N) : transpose ⟨3, ![B, A, N]⟩ [1, 0, 2] x ht (ix3 b a k) = x (ix3 a b k) := by
  refine transpose_apply _ x ht _ _ fun c => ?_
  match c with
  | ⟨0, _⟩ => rfl
  | ⟨1, _⟩ => rfl
  | ⟨2, _⟩ => rfl

/-- The two axes of a matrix exchanged. -/
theorem swap2_apply (x : (⟨2, ![A, B]⟩ : Shape).Idx → α) (ht : (⟨2, ![A, B]⟩ : Shape).Transposes [1, 0] ⟨2, ![B, A]⟩)
    (b : Fin B) (a : Fin A) : transpose ⟨2, ![B, A]⟩ [1, 0] x ht (ix2 b a) = x (ix2 a b) := by
  refine transpose_apply _ x ht _ _ fun c => ?_
  match c with
  | ⟨0, _⟩ => rfl
  | ⟨1, _⟩ => rfl

/-- A vector, split in two axes. -/
theorem split1_apply (h : M = A * B) (x : (⟨1, ![M]⟩ : Shape).Idx → α) (hc : (⟨1, ![M]⟩ : Shape).ShapeCasts ⟨2, ![A, B]⟩)
    (a : Fin A) (b : Fin B) : shapeCast ⟨2, ![A, B]⟩ x hc (ix2 a b) = x (ix1 (rowAt h a b)) := by
  refine shapeCast_apply x hc _ _ ?_
  rw [Shape.rowMajor_val_one, Shape.rowMajor_val_two]
  show B * a.val + b.val = a.val * B + b.val
  ring

/-- A column, made a vector. -/
theorem flat_apply (x : (⟨2, ![M, 1]⟩ : Shape).Idx → α) (hc : (⟨2, ![M, 1]⟩ : Shape).ShapeCasts ⟨1, ![M]⟩) (r : Fin M) :
    shapeCast ⟨1, ![M]⟩ x hc (ix1 r) = x (ix2 r (0 : Fin 1)) := by
  refine shapeCast_apply x hc _ _ ?_
  rw [Shape.rowMajor_val_one, Shape.rowMajor_val_two]
  show r.val * 1 + 0 = r.val
  omega

/-- A column, split in two axes. -/
theorem splitCol_apply (h : M = A * B) (x : (⟨2, ![M, 1]⟩ : Shape).Idx → α) (hc : (⟨2, ![M, 1]⟩ : Shape).ShapeCasts ⟨2, ![A, B]⟩)
    (a : Fin A) (b : Fin B) : shapeCast ⟨2, ![A, B]⟩ x hc (ix2 a b) = x (ix2 (rowAt h a b) (0 : Fin 1)) := by
  refine shapeCast_apply x hc _ _ ?_
  rw [Shape.rowMajor_val_two, Shape.rowMajor_val_two]
  show (B * a.val + b.val) * 1 + 0 = a.val * B + b.val
  ring

/-- A vector, made a row. -/
theorem asRow_apply (x : (⟨1, ![N]⟩ : Shape).Idx → α) (h : (⟨1, ![N]⟩ : Shape).BroadcastsInDim ⟨2, ![1, N]⟩ ![1]) (k : Fin N) :
    broadcastInDim ⟨2, ![1, N]⟩ ![1] h x (ix2 (0 : Fin 1) k) = x (ix1 k) := by
  refine broadcastInDim_apply _ h x _ _ fun a => ?_
  match a with
  | ⟨0, _⟩ =>
    show k.val = if N = 1 then 0 else k.val
    split
    · have := k.isLt; omega
    · rfl

end Cert.Proof.Layout

end
-- ==== Proof.EntrySpec.lean ====
/-
  The input quantiser as formulas: step `s` of sequence `b` has one row of `x`; its codes and its scale depend on that row
  and the weights alone.
-/
module

public import proofs.«01_k».proof.Proof.Quant
public import proofs.«01_k».proof.Proof.Layout

@[expose] public section

noncomputable section

namespace Cert.Proof.EntrySpec

open Idealize.ShloMosaic Idealize.ShloMosaic.ValueIdx Cert.Proof.Quant

/-- The row of step `s` of sequence `b`, normalised and weighted. -/
def row (x : Vec Ideal ⟨3, ![64, 5, 8192]⟩ .bf16) (w : Vec Ideal ⟨1, ![8192]⟩ .f32) (b : Fin 64) (s : Fin 5) : Fin 8192 → EReal := fun k =>
  normOf (fun k => x (ix3 b s k)) (w (ix1 k)) k

/-- The codes, as bytes … -/
def codes (x : Vec Ideal ⟨3, ![64, 5, 8192]⟩ .bf16) (w : Vec Ideal ⟨1, ![8192]⟩ .f32) : Vec Ideal ⟨3, ![64, 5, 8192]⟩ .i8 := fun i =>
  FloatOps.fptosi (F := Ideal) (φ := .f32) 8 (codeOf (row x w (i 0) (i 1)) (i 2))

/-- … and the scales. -/
def scales (x : Vec Ideal ⟨3, ![64, 5, 8192]⟩ .bf16) (w : Vec Ideal ⟨1, ![8192]⟩ .f32) : Vec Ideal ⟨2, ![64, 5]⟩ .f32 := fun i =>
  scaleOf (row x w (i 0) (i 1))

end Cert.Proof.EntrySpec

end
-- ==== Proof.EntryKernel.lean ====
/-
  The input quantiser with the reshapes and transposes around it: the kernel's arrays, and its results read from them.
-/
module

public import proofs.«01_k».proof.Proof.Gen.EntryIdeal.Frame
public import proofs.«01_k».proof.Proof.QuantIn
public import proofs.«01_k».proof.Proof.EntrySpec

@[expose] public section

set_option maxRecDepth 16384

noncomputable section

namespace Cert.Proof.EntryKernel

open Idealize.ShloMosaic Idealize.ShloMosaic.ValueIdx Idealize.ShloMosaic.TcCoe Idealize.SL.Sem
open Idealize.ShloMosaic.Tactic
open Cert.Proof.Products Cert.Proof.Quant Cert.Proof.QuantIn Cert.Proof.Layout
open Cert.EntryIdeal Cert.EntryIdeal.Gen
open scoped BigOperators

theorem norm_entry (a0 : Vec Ideal S64x8192 .bf16) (a1 : Vec Ideal S1x8192 .f32) (r : Fin 64) (j : Fin 8192) : k0_pay1 (F := Ideal) a0 a1 (ix2 r j) = rowOf a0 a1 r j := by
  have e := (column_apply _ shapeCasts_S64_S64x1 r).trans
    (rowSum_apply (mulf (extf .f32 a0 bitsLt_bf16_f32) (extf .f32 a0 bitsLt_bf16_f32)) reduces_S64x8192_S64 (.inl rfl) rfl r)
  simp only [k0_pay1, shapeCast_self]
  rw [mulf_apply, mulf_apply, extf_apply]
  rw [bcast_col, bcast_row, rsqrt_mul]
  simp only [mulf_apply, extf_apply] at e
  unfold rowOf normOf
  rw [div_8192, ← e]

theorem scale_entry (a0 : Vec Ideal S64x8192 .bf16) (a1 : Vec Ideal S1x8192 .f32) (r : Fin 64) : k0_pay2 (F := Ideal) a0 a1 (ix2 r (0 : Fin 1)) = scaleOf (rowOf a0 a1 r) :=
  (scale_apply (k0_pay1 (F := Ideal) a0 a1) reduces_S64x8192_S64 (.inl rfl) rfl shapeCasts_S64_S64x1 r).trans (congrArg scaleOf (funext fun k => norm_entry a0 a1 r k))

theorem code_entry (a0 : Vec Ideal S64x8192 .bf16) (a1 : Vec Ideal S1x8192 .f32) (r : Fin 64) (j : Fin 8192) : k0_pay3 (F := Ideal) a0 a1 (ix2 r j) = codeOf (rowOf a0 a1 r) j :=
  (code_apply (k0_pay1 (F := Ideal) a0 a1) (k0_pay2 (F := Ideal) a0 a1) broadcasts_S64x1_S64x8192 r ((scale_entry a0 a1 r).trans (congrArg scaleOf (funext fun k => (norm_entry a0 a1 r k).symm))) j).trans (congrArg (fun v => codeOf v j) (funext fun k => norm_entry a0 a1 r k))

theorem code8_entry (a0 : Vec Ideal S64x8192 .bf16) (a1 : Vec Ideal S1x8192 .f32) (r : Fin 64) (j : Fin 8192) :
    k0_pay4 (F := Ideal) a0 a1 (ix2 r j) = FloatOps.fptosi (F := Ideal) (φ := .f32) 8 (codeOf (rowOf a0 a1 r) j) :=
  congrArg (FloatOps.fptosi (F := Ideal) (φ := .f32) 8) (code_entry a0 a1 r j)

theorem lanes_entry (a0 : Vec Ideal S64x8192 .bf16) (a1 : Vec Ideal S1x8192 .f32) (r : Fin 64) (j : Fin 128) : k0_pay6 (F := Ideal) a0 a1 (ix2 r j) = scaleOf (rowOf a0 a1 r) :=
  (lanes_apply (k0_pay2 (F := Ideal) a0 a1) shapeCasts_S64x1_S64x1 broadcasts_S64x1_S64x128 r j).trans (scale_entry a0 a1 r)

/-- The block of point `t` is rows `64 t ‥ 64 t + 63`, and all of the weights. -/
theorem index_facts : ∀ t : Fin cfg0.N, win0_0.index t (0 : Fin 2) = t.val ∧ win0_0.index t (1 : Fin 2) = 0 ∧ win0_2.index t (0 : Fin 2) = t.val ∧ win0_2.index t (1 : Fin 2) = 0 ∧ win0_3.index t (0 : Fin 2) = t.val ∧ win0_3.index t (1 : Fin 2) = 0 ∧ win0_4.index t (0 : Fin 2) = t.val ∧ win0_4.index t (1 : Fin 2) = 0 ∧ win0_1.index t (0 : Fin 2) = 0 ∧ win0_1.index t (1 : Fin 2) = 0 ∧ t.val < 5 :=
  (by decide +kernel : ∀ t : Fin grid0.N, _)

/-- Row `r` of block `t`, as a row of the array. -/
def row (t : Fin cfg0.N) (r : Fin 64) : Fin 320 := ⟨64 * t.val + r.val, by have := index_facts t; omega⟩

theorem emb0 (t : Fin cfg0.N) (r : Fin 64) (k : Fin 8192) : ((cfg0.win 0).blk t).view.emb (ix2 r k) = ix2 (row t r) k := by
  have e := index_facts t
  funext a; apply Fin.ext
  match a with
  | ⟨0, _⟩ => show win0_0.index t (0 : Fin 2) * 64 + 1 * r.val = 64 * t.val + r.val; omega
  | ⟨1, _⟩ => show win0_0.index t (1 : Fin 2) * 8192 + 1 * k.val = k.val; omega

theorem emb2 (t : Fin cfg0.N) (r : Fin 64) (k : Fin 8192) : ((cfg0.win 2).blk t).view.emb (ix2 r k) = ix2 (row t r) k := by
  have e := index_facts t
  funext a; apply Fin.ext
  match a with
  | ⟨0, _⟩ => show win0_2.index t (0 : Fin 2) * 64 + 1 * r.val = 64 * t.val + r.val; omega
  | ⟨1, _⟩ => show win0_2.index t (1 : Fin 2) * 8192 + 1 * k.val = k.val; omega

theorem emb4 (t : Fin cfg0.N) (r : Fin 64) (k : Fin 128) : ((cfg0.win 4).blk t).view.emb (ix2 r k) = ix2 (row t r) k := by
  have e := index_facts t
  funext a; apply Fin.ext
  match a with
  | ⟨0, _⟩ => show win0_4.index t (0 : Fin 2) * 64 + 1 * r.val = 64 * t.val + r.val; omega
  | ⟨1, _⟩ => show win0_4.index t (1 : Fin 2) * 128 + 1 * k.val = k.val; omega

theorem emb1 (t : Fin cfg0.N) (r : Fin 1) (k : Fin 8192) : ((cfg0.win 1).blk t).view.emb (ix2 r k) = ix2 r k := by
  have e := index_facts t
  funext a; apply Fin.ext
  match a with
  | ⟨0, _⟩ => show win0_1.index t (0 : Fin 2) * 1 + 1 * r.val = r.val; omega
  | ⟨1, _⟩ => show win0_1.index t (1 : Fin 2) * 8192 + 1 * k.val = k.val; omega

variable (m : (ℓ : Loc nD τ sig) → Buf (Elt Ideal) ℓ)

theorem hz : (![0, 0] : Fin 2 → Nat) = fun _ => 0 := funext fun a => by fin_cases a <;> rfl

/-- A row of the block is that row of the array. -/
theorem rowOf_iblk (c : Dev nD) (t : Fin cfg0.N) (r : Fin 64) : rowOf (iblk m c 0 t) (iblk m c 1 t) r = rowOf (V m c main_v1) (V m c main_v2) (row t r) := by
  have e0 : (fun k : Fin 8192 => (iblk m c 0 t : Vec Ideal S64x8192 .bf16) (ix2 r k)) = fun k => V m c main_v1 (ix2 (row t r) k) :=
    funext fun k => congrArg (V m c main_v1) (emb0 t r k)
  have e1 : ∀ k : Fin 8192, (iblk m c 1 t : Vec Ideal S1x8192 .f32) (ix2 (0 : Fin 1) k) = V m c main_v2 (ix2 (0 : Fin 1) k) :=
    fun k => congrArg (V m c main_v2) (emb1 t 0 k)
  funext k
  show normOf (fun k : Fin 8192 => (iblk m c 0 t : Vec Ideal S64x8192 .bf16) (ix2 r k)) ((iblk m c 1 t : Vec Ideal S1x8192 .f32) (ix2 (0 : Fin 1) k)) k = _
  rw [e0, e1]
  rfl

/-- What point `t` writes back to window 2 is its rows of the whole result. -/
theorem flushed2_eq (c : Dev nD) (t : Fin cfg0.N) :
    (dats m 0 c).flushed 2 t = ((cfg0.win 2).blk t).view.read (Elt Ideal) (codes8 (V m c main_v1) (V m c main_v2)) := by
  show (cfg0.win 2).cut (grid0.coords t) ((dats m 0 c).after 2 t) = _
  rw [after0_2]
  funext j
  obtain ⟨r, j, rfl⟩ : ∃ (r : Fin 64) (j' : Fin 8192), j = ix2 r j' := ⟨j 0, j 1, eq_ix2 j⟩
  have hr : ∀ X : Vec Ideal S320x8192 .i8, ((cfg0.win 2).blk t).view.read (Elt Ideal) X (ix2 r j) = X (ix2 (row t r) j) :=
    fun X => congrArg X (emb2 t r j)
  refine Eq.trans ?_ (hr _).symm
  show out0_2 (iblk m c 0 t) (iblk m c 1 t) (ix2 r j) = _
  unfold out0_2
  rw [View.canon_unit_zero hz, View.ld_unit_zero (S := S64x8192) hz _ (iblk m c 0 t), View.ld_unit_zero (S := S1x8192) hz _ (iblk m c 1 t)]
  exact (code8_entry (iblk m c 0 t) (iblk m c 1 t) r j).trans (congrArg (fun v => FloatOps.fptosi (F := Ideal) (φ := .f32) 8 (codeOf v j)) (rowOf_iblk m c t r))

theorem mem_blk2 (t : Fin cfg0.N) (r : Fin 64) (j : Fin 8192) : ix2 (row t r) j ∈ ((cfg0.win 2).blk t).view.set :=
  emb2 t r j ▸ ((cfg0.win 2).blk t).view.emb_mem_set (ix2 r j)

theorem covered2 (i : S320x8192.Idx) : ∃ t : Fin cfg0.N, (cfg0.win 2).flush t = true ∧ i ∈ ((cfg0.win 2).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_2 _, ?_⟩
  rw [e]
  exact mem_blk2 _ _ _

theorem final2_eq (c : Dev nD) : (dats m 0 c).arrAt 2 cfg0.N = codes8 (V m c main_v1) (V m c main_v2) :=
  (dats m 0 c).arrAt_eq_of_cover 2 _ (fun t _ => flushed2_eq m c t) covered2

/-- What point `t` writes back to window 4 is its rows of the whole result. -/
theorem flushed4_eq (c : Dev nD) (t : Fin cfg0.N) :
    (dats m 0 c).flushed 4 t = ((cfg0.win 4).blk t).view.read (Elt Ideal) (scales (V m c main_v1) (V m c main_v2)) := by
  show (cfg0.win 4).cut (grid0.coords t) ((dats m 0 c).after 4 t) = _
  rw [after0_4]
  funext j
  obtain ⟨r, j, rfl⟩ : ∃ (r : Fin 64) (j' : Fin 128), j = ix2 r j' := ⟨j 0, j 1, eq_ix2 j⟩
  have hr : ∀ X : Vec Ideal S320x128 .f32, ((cfg0.win 4).blk t).view.read (Elt Ideal) X (ix2 r j) = X (ix2 (row t r) j) :=
    fun X => congrArg X (emb4 t r j)
  refine Eq.trans ?_ (hr _).symm
  show out0_4 (iblk m c 0 t) (iblk m c 1 t) (ix2 r j) = _
  unfold out0_4
  rw [View.canon_unit_zero hz, View.ld_unit_zero (S := S64x8192) hz _ (iblk m c 0 t), View.ld_unit_zero (S := S1x8192) hz _ (iblk m c 1 t)]
  exact (lanes_entry (iblk m c 0 t) (iblk m c 1 t) r j).trans (congrArg (scaleOf) (rowOf_iblk m c t r))

theorem mem_blk4 (t : Fin cfg0.N) (r : Fin 64) (j : Fin 128) : ix2 (row t r) j ∈ ((cfg0.win 4).blk t).view.set :=
  emb4 t r j ▸ ((cfg0.win 4).blk t).view.emb_mem_set (ix2 r j)

theorem covered4 (i : S320x128.Idx) : ∃ t : Fin cfg0.N, (cfg0.win 4).flush t = true ∧ i ∈ ((cfg0.win 4).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_4 _, ?_⟩
  rw [e]
  exact mem_blk4 _ _ _

theorem final4_eq (c : Dev nD) : (dats m 0 c).arrAt 4 cfg0.N = scales (V m c main_v1) (V m c main_v2) :=
  (dats m 0 c).arrAt_eq_of_cover 4 _ (fun t _ => flushed4_eq m c t) covered4

variable (ρ : Dev nD → PrngReg) (c : Dev nD)

/-! ### The arrays that the kernel finds -/

theorem found_x : (V m c main_v1 : Vec Ideal S320x8192 .bf16)
    = shapeCast S320x8192 (transpose S5x64x8192 [1, 0, 2] (m ((c : Thread nD τ).loc main_arg0) : Vec Ideal S64x5x8192 .bf16) transposes_S64x5x8192_S5x64x8192_1_0_2)
        shapeCasts_S5x64x8192_S320x8192 := by
  show StableHlo.after hostOps0 _ (Proc.devRef .tc main_v1) = _
  after_results
  rfl

theorem found_w : (V m c main_v2 : Vec Ideal S1x8192 .f32)
    = broadcastInDim S1x8192 ![1] bcast_S8192_S1x8192_1 (m ((c : Thread nD τ).loc main_arg1) : Vec Ideal S8192 .f32) := by
  show StableHlo.after hostOps0 _ (Proc.devRef .tc main_v2) = _
  after_results

/-- Row `64 s + b` of the kernel's matrix is the row of step `s` of sequence `b`. -/
theorem rowOf_found (b : Fin 64) (s : Fin 5) :
    rowOf (V m c main_v1 : Vec Ideal S320x8192 .bf16) (V m c main_v2 : Vec Ideal S1x8192 .f32) (rowAt (by rfl) s b)
      = EntrySpec.row (m ((c : Thread nD τ).loc main_arg0)) (m ((c : Thread nD τ).loc main_arg1)) b s := by
  rw [found_x, found_w]
  funext k
  exact congrArg₂ (fun (u : Fin 8192 → EReal) (v : EReal) => normOf u v k)
    (funext fun k => (join_apply _ _ _ s b k).trans (swap_apply _ _ s b k)) (asRow_apply _ _ k)

/-! ### The results -/

theorem codes_eq : (Pipeline.afterTail₀ cfgs (dats m) 0 (V0 m) [hostOps1] c main_v5 : Vec Ideal S64x5x8192 .i8)
    = EntrySpec.codes (m ((c : Thread nD τ).loc main_arg0)) (m ((c : Thread nD τ).loc main_arg1)) := by
  have e : StableHlo.after hostOps1 (Pipeline.withArrays (cfgs 0).spec c (V0 m c) fun w => (dats m 0 c).arrAt w (cfgs 0).N) (Proc.devRef .tc main_v5)
      = transpose S64x5x8192 [1, 0, 2] (shapeCast S5x64x8192 (Pipeline.withArrays (cfgs 0).spec c (V0 m c) (fun w => (dats m 0 c).arrAt w (cfgs 0).N) (Proc.devRef .tc main_v3_0) : Vec Ideal S320x8192 .i8)
          shapeCasts_S320x8192_S5x64x8192) transposes_S5x64x8192_S64x5x8192_1_0_2 := by
    after_results
    rfl
  have e' : (Pipeline.withArrays (cfgs 0).spec c (V0 m c) (fun w => (dats m 0 c).arrAt w (cfgs 0).N) (Proc.devRef .tc main_v3_0) : Vec Ideal S320x8192 .i8)
      = codes8 (V m c main_v1) (V m c main_v2) :=
    (Pipeline.withArrays_arr spec0 launch0.win.arr_inj c _ _ 2).trans (final2_eq m c)
  refine Eq.trans e ?_
  rw [e']
  funext i
  obtain ⟨b, s, j, rfl⟩ : ∃ (b : Fin 64) (s : Fin 5) (j : Fin 8192), i = ix3 b s j := ⟨i 0, i 1, i 2, eq_ix3 i⟩
  refine (swap_apply _ _ b s j).trans ((split_apply (by rfl) _ _ s b j).trans ?_)
  exact congrArg (fun v => FloatOps.fptosi (F := Ideal) (φ := .f32) 8 (codeOf v j)) (rowOf_found m c b s)

theorem scales_eq : (Pipeline.afterTail₀ cfgs (dats m) 0 (V0 m) [hostOps1] c main_v9 : Vec Ideal S64x5 .f32)
    = EntrySpec.scales (m ((c : Thread nD τ).loc main_arg0)) (m ((c : Thread nD τ).loc main_arg1)) := by
  have e : StableHlo.after hostOps1 (Pipeline.withArrays (cfgs 0).spec c (V0 m c) fun w => (dats m 0 c).arrAt w (cfgs 0).N) (Proc.devRef .tc main_v9)
      = transpose S64x5 [1, 0] (shapeCast S5x64 (shapeCast S320 (extractStridedSlice S320x1 ![0, 0]
          (Pipeline.withArrays (cfgs 0).spec c (V0 m c) (fun w => (dats m 0 c).arrAt w (cfgs 0).N) (Proc.devRef .tc main_v3_2) : Vec Ideal S320x128 .f32)
          slices_S320x128_S320x1_0_0) shapeCasts_S320x1_S320) shapeCasts_S320_S5x64) transposes_S5x64_S64x5_1_0 := by
    after_results
    rfl
  have e' : (Pipeline.withArrays (cfgs 0).spec c (V0 m c) (fun w => (dats m 0 c).arrAt w (cfgs 0).N) (Proc.devRef .tc main_v3_2) : Vec Ideal S320x128 .f32)
      = scales (V m c main_v1) (V m c main_v2) :=
    (Pipeline.withArrays_arr spec0 launch0.win.arr_inj c _ _ 4).trans (final4_eq m c)
  refine Eq.trans e ?_
  rw [e']
  funext i
  obtain ⟨b, s, rfl⟩ : ∃ (b : Fin 64) (s : Fin 5), i = ix2 b s := ⟨i 0, i 1, eq_ix2 i⟩
  refine (swap2_apply _ _ b s).trans ((split1_apply (by rfl) _ _ s b).trans ((flat_apply _ _ _).trans ((slice_col _ _ (by decide) _).trans ?_)))
  exact congrArg scaleOf (rowOf_found m c b s)

/-- The run, its results read. -/
theorem run : θ_run (defs (F := Ideal)) (onTc (τ := τ) (main (F := Ideal))) ⟨m, fun _ => 0, ρ⟩ (fun r => ∀ c : Dev nD,
      r.2.mem ((c : Thread nD τ).loc main_v5) = EntrySpec.codes (m ((c : Thread nD τ).loc main_arg0)) (m ((c : Thread nD τ).loc main_arg1))
      ∧ r.2.mem ((c : Thread nD τ).loc main_v9) = EntrySpec.scales (m ((c : Thread nD τ).loc main_arg0)) (m ((c : Thread nD τ).loc main_arg1))) :=
  (θ_run (defs (F := Ideal)) _ _).mono (fun r h c =>
    ⟨((h c).2 main_v5 (Pipeline.mem_restRefs_of main_v5 (by decide) (by decide))).trans (codes_eq m c),
      ((h c).2 main_v9 (Pipeline.mem_restRefs_of main_v9 (by decide) (by decide))).trans (scales_eq m c)⟩) (run_main m ρ)

end Cert.Proof.EntryKernel

end
-- ==== Proof.EntryRef.lean ====
/-
  The reference for the input quantiser: it has one grid point, at which every block is its array, so its results are its
  body's formulas at the arrays, read through the reshapes around it.
-/
module

public import proofs.«01_k».proof.Proof.Gen.EntryRefIdeal.Frame
public import proofs.«01_k».proof.Proof.QuantIn
public import proofs.«01_k».proof.Proof.EntrySpec

@[expose] public section

set_option maxRecDepth 16384

noncomputable section

namespace Cert.Proof.EntryRef

open Idealize.ShloMosaic Idealize.ShloMosaic.ValueIdx Idealize.ShloMosaic.TcCoe Idealize.SL.Sem
open Idealize.ShloMosaic.Tactic
open Cert.Proof.Products Cert.Proof.Quant Cert.Proof.QuantIn Cert.Proof.Layout
open Cert.EntryRefIdeal Cert.EntryRefIdeal.Gen
open scoped BigOperators

/-! ### Entries of what the body computes -/

theorem norm_entry (a0 : Vec Ideal S320x8192 .bf16) (a1 : Vec Ideal S1x8192 .f32) (r : Fin 320) (j : Fin 8192) : k0_pay1 (F := Ideal) a0 a1 (ix2 r j) = rowOf a0 a1 r j := by
  have e := (column_apply _ shapeCasts_S320_S320x1 r).trans
    (rowSum_apply (mulf (extf .f32 a0 bitsLt_bf16_f32) (extf .f32 a0 bitsLt_bf16_f32)) reduces_S320x8192_S320 (.inl rfl) rfl r)
  simp only [k0_pay1, shapeCast_self]
  rw [mulf_apply, mulf_apply, extf_apply]
  rw [bcast_col, bcast_row, rsqrt_div]
  simp only [mulf_apply, extf_apply] at e
  unfold rowOf normOf
  rw [← e]

theorem scale_entry (a0 : Vec Ideal S320x8192 .bf16) (a1 : Vec Ideal S1x8192 .f32) (r : Fin 320) : k0_pay2 (F := Ideal) a0 a1 (ix2 r (0 : Fin 1)) = scaleOf (rowOf a0 a1 r) :=
  (scale_apply (k0_pay1 (F := Ideal) a0 a1) reduces_S320x8192_S320 (.inl rfl) rfl shapeCasts_S320_S320x1 r).trans (congrArg scaleOf (funext fun k => norm_entry a0 a1 r k))

theorem code8_entry (a0 : Vec Ideal S320x8192 .bf16) (a1 : Vec Ideal S1x8192 .f32) (r : Fin 320) (j : Fin 8192) :
    k0_pay3 (F := Ideal) a0 a1 (ix2 r j) = FloatOps.fptosi (F := Ideal) (φ := .f32) 8 (codeOf (rowOf a0 a1 r) j) :=
  congrArg (FloatOps.fptosi (F := Ideal) (φ := .f32) 8)
    ((code_apply (k0_pay1 (F := Ideal) a0 a1) (k0_pay2 (F := Ideal) a0 a1) broadcasts_S320x1_S320x8192 r
      ((scale_entry a0 a1 r).trans (congrArg scaleOf (funext fun k => (norm_entry a0 a1 r k).symm))) j).trans
      (congrArg (fun v => codeOf v j) (funext fun k => norm_entry a0 a1 r k)))

/-- The scales, as a column. -/
def scaleCol (a0 : Vec Ideal S320x8192 .bf16) (a1 : Vec Ideal S1x8192 .f32) : Vec Ideal S320x1 .f32 := fun i => scaleOf (rowOf a0 a1 (i 0))

theorem hz : (![0, 0] : Fin 2 → Nat) = fun _ => 0 := funext fun a => by fin_cases a <;> rfl

theorem out2_eq (a0 : Vec Ideal S320x8192 .bf16) (a1 : Vec Ideal S1x8192 .f32) : out0_2 (F := Ideal) a0 a1 = codes8 a0 a1 := by
  unfold out0_2
  rw [View.canon_unit_zero hz, View.ld_unit_zero (S := S320x8192) hz _ a0, View.ld_unit_zero (S := S1x8192) hz _ a1]
  funext i
  obtain ⟨r, j, rfl⟩ : ∃ (r : Fin 320) (j : Fin 8192), i = ix2 r j := ⟨i 0, i 1, eq_ix2 i⟩
  exact code8_entry a0 a1 r j

theorem out3_eq (a0 : Vec Ideal S320x8192 .bf16) (a1 : Vec Ideal S1x8192 .f32) : out0_3 (F := Ideal) a0 a1 = scaleCol a0 a1 := by
  unfold out0_3
  rw [View.canon_unit_zero hz, View.ld_unit_zero (S := S320x8192) hz _ a0, View.ld_unit_zero (S := S1x8192) hz _ a1]
  funext i
  obtain ⟨r, j, rfl⟩ : ∃ (r : Fin 320) (j : Fin 1), i = ix2 r j := ⟨i 0, i 1, eq_ix2 i⟩
  obtain rfl : j = 0 := Subsingleton.elim _ _
  exact scale_entry a0 a1 r

/-! ### At the one grid point every block is its array -/

/-- Every block's index is zero. -/
theorem index_facts : ∀ t : Fin cfg0.N, win0_0.index t (0 : Fin 2) = 0 ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 :=
  (by decide +kernel : ∀ t : Fin grid0.N, _)

variable (m : (ℓ : Loc nD τ sig) → Buf (Elt Ideal) ℓ) (ρ : Dev nD → PrngReg) (c : Dev nD)

theorem emb0 (t : Fin cfg0.N) (j : S320x8192.Idx) : ((cfg0.win 0).blk t).view.emb j = j := by
  have e := index_facts t
  funext a; apply Fin.ext
  match a with
  | ⟨0, _⟩ => show win0_0.index t (0 : Fin 2) * 320 + 1 * (j 0).val = (j 0).val; omega
  | ⟨1, _⟩ => show win0_0.index t (1 : Fin 2) * 8192 + 1 * (j 1).val = (j 1).val; omega

theorem iblk0_eq (t : Fin cfg0.N) : iblk m c 0 t = V m c main_v0 := by
  funext j; show V m c main_v0 (((cfg0.win 0).blk t).view.emb j) = V m c main_v0 j; rw [emb0]

theorem emb1 (t : Fin cfg0.N) (j : S1x8192.Idx) : ((cfg0.win 1).blk t).view.emb j = j := by
  have e := index_facts t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

theorem iblk1_eq (t : Fin cfg0.N) : iblk m c 1 t = V m c main_v1 := by
  funext j; show V m c main_v1 (((cfg0.win 1).blk t).view.emb j) = V m c main_v1 j; rw [emb1]

theorem emb2 (t : Fin cfg0.N) (j : S320x8192.Idx) : ((cfg0.win 2).blk t).view.emb j = j := by
  have e := index_facts t
  funext a; apply Fin.ext
  match a with
  | ⟨0, _⟩ => show win0_2.index t (0 : Fin 2) * 320 + 1 * (j 0).val = (j 0).val; omega
  | ⟨1, _⟩ => show win0_2.index t (1 : Fin 2) * 8192 + 1 * (j 1).val = (j 1).val; omega

theorem cut2_eq (t : Fin cfg0.N) (X : Vec Ideal S320x8192 .i8) : (cfg0.win 2).cut (grid0.coords t) X = ((cfg0.win 2).blk t).view.read (Elt Ideal) X := by
  funext j
  show X j = X (((cfg0.win 2).blk t).view.emb j)
  rw [emb2]

theorem flushed2_eq (t : Fin cfg0.N) : (dats m 0 c).flushed 2 t
    = ((cfg0.win 2).blk t).view.read (Elt Ideal) (codes8 (V m c main_v0) (V m c main_v1)) := by
  show (cfg0.win 2).cut (grid0.coords t) ((dats m 0 c).after 2 t) = _
  rw [after0_2, out2_eq, iblk0_eq, iblk1_eq]
  exact cut2_eq t _

theorem covered2 (i : S320x8192.Idx) : ∃ t : Fin cfg0.N, (cfg0.win 2).flush t = true ∧ i ∈ ((cfg0.win 2).blk t).view.set :=
  ⟨(⟨0, by decide⟩ : Fin cfg0.N), flush0_2 _, by
    have h := ((cfg0.win 2).blk (⟨0, by decide⟩ : Fin cfg0.N)).view.emb_mem_set i; rwa [emb2] at h⟩

theorem final2_eq : (dats m 0 c).arrAt 2 cfg0.N = codes8 (V m c main_v0) (V m c main_v1) :=
  (dats m 0 c).arrAt_eq_of_cover 2 _ (fun t _ => flushed2_eq m c t) covered2

theorem emb3 (t : Fin cfg0.N) (j : S320x1.Idx) : ((cfg0.win 3).blk t).view.emb j = j := by
  have e := index_facts t
  funext a; apply Fin.ext
  match a with
  | ⟨0, _⟩ => show win0_3.index t (0 : Fin 2) * 320 + 1 * (j 0).val = (j 0).val; omega
  | ⟨1, _⟩ => show win0_3.index t (1 : Fin 2) * 1 + 1 * (j 1).val = (j 1).val; omega

theorem cut3_eq (t : Fin cfg0.N) (X : Vec Ideal S320x1 .f32) : (cfg0.win 3).cut (grid0.coords t) X = ((cfg0.win 3).blk t).view.read (Elt Ideal) X := by
  funext j
  show X j = X (((cfg0.win 3).blk t).view.emb j)
  rw [emb3]

theorem flushed3_eq (t : Fin cfg0.N) : (dats m 0 c).flushed 3 t
    = ((cfg0.win 3).blk t).view.read (Elt Ideal) (scaleCol (V m c main_v0) (V m c main_v1)) := by
  show (cfg0.win 3).cut (grid0.coords t) ((dats m 0 c).after 3 t) = _
  rw [after0_3, out3_eq, iblk0_eq, iblk1_eq]
  exact cut3_eq t _

theorem covered3 (i : S320x1.Idx) : ∃ t : Fin cfg0.N, (cfg0.win 3).flush t = true ∧ i ∈ ((cfg0.win 3).blk t).view.set :=
  ⟨(⟨0, by decide⟩ : Fin cfg0.N), flush0_3 _, by
    have h := ((cfg0.win 3).blk (⟨0, by decide⟩ : Fin cfg0.N)).view.emb_mem_set i; rwa [emb3] at h⟩

theorem final3_eq : (dats m 0 c).arrAt 3 cfg0.N = scaleCol (V m c main_v0) (V m c main_v1) :=
  (dats m 0 c).arrAt_eq_of_cover 3 _ (fun t _ => flushed3_eq m c t) covered3

/-! ### The arrays that the region finds -/

theorem found_x : (V m c main_v0 : Vec Ideal S320x8192 .bf16)
    = shapeCast S320x8192 (m ((c : Thread nD τ).loc main_arg0) : Vec Ideal S64x5x8192 .bf16) shapeCasts_S64x5x8192_S320x8192 := by
  show StableHlo.after hostOps0 _ (Proc.devRef .tc main_v0) = _
  after_results
  rfl

theorem found_w : (V m c main_v1 : Vec Ideal S1x8192 .f32)
    = broadcastInDim S1x8192 ![1] bcast_S8192_S1x8192_1 (m ((c : Thread nD τ).loc main_arg1) : Vec Ideal S8192 .f32) := by
  show StableHlo.after hostOps0 _ (Proc.devRef .tc main_v1) = _
  after_results

/-- Row `5 b + s` of the reference's matrix is the row of step `s` of sequence `b`. -/
theorem rowOf_found (b : Fin 64) (s : Fin 5) :
    rowOf (V m c main_v0 : Vec Ideal S320x8192 .bf16) (V m c main_v1 : Vec Ideal S1x8192 .f32) (rowAt (by rfl) b s)
      = EntrySpec.row (m ((c : Thread nD τ).loc main_arg0)) (m ((c : Thread nD τ).loc main_arg1)) b s := by
  rw [found_x, found_w]
  funext k
  exact congrArg₂ (fun (u : Fin 8192 → EReal) (v : EReal) => normOf u v k) (funext fun k => join_apply _ _ _ b s k) (asRow_apply _ _ k)

/-! ### The results -/

theorem left2 : (Pipeline.afterTail₀ cfgs (dats m) 0 (V0 m) [hostOps1] c main_v3 : Vec Ideal S64x5x8192 .i8)
    = shapeCast S64x5x8192 ((dats m 0 c).arrAt 2 cfg0.N : Vec Ideal S320x8192 .i8) shapeCasts_S320x8192_S64x5x8192 := by
  have e : StableHlo.after hostOps1 (Pipeline.withArrays (cfgs 0).spec c (V0 m c) fun w => (dats m 0 c).arrAt w (cfgs 0).N) (Proc.devRef .tc main_v3)
      = shapeCast S64x5x8192 (Pipeline.withArrays (cfgs 0).spec c (V0 m c) (fun w => (dats m 0 c).arrAt w (cfgs 0).N) (Proc.devRef .tc main_v2_0) : Vec Ideal S320x8192 .i8)
          shapeCasts_S320x8192_S64x5x8192 := by
    after_results
    rfl
  refine Eq.trans e (congrArg (fun X : Vec Ideal S320x8192 .i8 => shapeCast S64x5x8192 X shapeCasts_S320x8192_S64x5x8192) ?_)
  exact Pipeline.withArrays_arr spec0 launch0.win.arr_inj c _ _ 2

theorem left3 : (Pipeline.afterTail₀ cfgs (dats m) 0 (V0 m) [hostOps1] c main_v4 : Vec Ideal S64x5 .f32)
    = shapeCast S64x5 ((dats m 0 c).arrAt 3 cfg0.N : Vec Ideal S320x1 .f32) shapeCasts_S320x1_S64x5 := by
  have e : StableHlo.after hostOps1 (Pipeline.withArrays (cfgs 0).spec c (V0 m c) fun w => (dats m 0 c).arrAt w (cfgs 0).N) (Proc.devRef .tc main_v4)
      = shapeCast S64x5 (Pipeline.withArrays (cfgs 0).spec c (V0 m c) (fun w => (dats m 0 c).arrAt w (cfgs 0).N) (Proc.devRef .tc main_v2_1) : Vec Ideal S320x1 .f32)
          shapeCasts_S320x1_S64x5 := by
    after_results
    rfl
  refine Eq.trans e (congrArg (fun X : Vec Ideal S320x1 .f32 => shapeCast S64x5 X shapeCasts_S320x1_S64x5) ?_)
  exact Pipeline.withArrays_arr spec0 launch0.win.arr_inj c _ _ 3

theorem codes_eq : (Pipeline.afterTail₀ cfgs (dats m) 0 (V0 m) [hostOps1] c main_v3 : Vec Ideal S64x5x8192 .i8)
    = EntrySpec.codes (m ((c : Thread nD τ).loc main_arg0)) (m ((c : Thread nD τ).loc main_arg1)) := by
  rw [left2, final2_eq]
  funext i
  obtain ⟨b, s, j, rfl⟩ : ∃ (b : Fin 64) (s : Fin 5) (j : Fin 8192), i = ix3 b s j := ⟨i 0, i 1, i 2, eq_ix3 i⟩
  refine (split_apply (by rfl) _ _ b s j).trans ?_
  exact congrArg (fun v => FloatOps.fptosi (F := Ideal) (φ := .f32) 8 (codeOf v j)) (rowOf_found m c b s)

theorem scales_eq : (Pipeline.afterTail₀ cfgs (dats m) 0 (V0 m) [hostOps1] c main_v4 : Vec Ideal S64x5 .f32)
    = EntrySpec.scales (m ((c : Thread nD τ).loc main_arg0)) (m ((c : Thread nD τ).loc main_arg1)) := by
  rw [left3, final3_eq]
  funext i
  obtain ⟨b, s, rfl⟩ : ∃ (b : Fin 64) (s : Fin 5), i = ix2 b s := ⟨i 0, i 1, eq_ix2 i⟩
  refine (splitCol_apply (by rfl) _ _ b s).trans ?_
  exact congrArg scaleOf (rowOf_found m c b s)

/-- The run, its results read. -/
theorem run : θ_run (defs (F := Ideal)) (onTc (τ := τ) (main (F := Ideal))) ⟨m, fun _ => 0, ρ⟩ (fun r => ∀ c : Dev nD,
      r.2.mem ((c : Thread nD τ).loc main_v3) = EntrySpec.codes (m ((c : Thread nD τ).loc main_arg0)) (m ((c : Thread nD τ).loc main_arg1))
      ∧ r.2.mem ((c : Thread nD τ).loc main_v4) = EntrySpec.scales (m ((c : Thread nD τ).loc main_arg0)) (m ((c : Thread nD τ).loc main_arg1))) :=
  (θ_run (defs (F := Ideal)) _ _).mono (fun r h c =>
    ⟨((h c).2 main_v3 (Pipeline.mem_restRefs_of main_v3 (by decide) (by decide))).trans (codes_eq m c),
      ((h c).2 main_v4 (Pipeline.mem_restRefs_of main_v4 (by decide) (by decide))).trans (scales_eq m c)⟩) (run_main m ρ)

end Cert.Proof.EntryRef

end
-- ==== Proof.Entry.lean ====
/-
  The input quantiser on `x` as it arrives: kernel and reference end with the same codes and scales.
-/
module

public import proofs.«01_k».proof.Defs
public import proofs.«01_k».proof.Proof.EntryKernel
public import proofs.«01_k».proof.Proof.EntryRef

@[expose] public section

noncomputable section

namespace Cert.Proof.Entry

open Idealize.ShloMosaic Idealize.ShloMosaic.TcCoe Idealize.SL.Sem

/-- Kernel and reference end with the same two arrays. -/
theorem algebraic : Cert.algebraic_EntryIdeal_EntryRefIdeal := by
  intro m g m' g' _ hagree
  refine ⟨fun c => EntrySpec.codes (m ((c.tc : Thread EntryIdeal.nD EntryIdeal.τ).loc EntryIdeal.main_arg0)) (m ((c.tc : Thread EntryIdeal.nD EntryIdeal.τ).loc EntryIdeal.main_arg1)),
    fun c => EntrySpec.scales (m ((c.tc : Thread EntryIdeal.nD EntryIdeal.τ).loc EntryIdeal.main_arg0)) (m ((c.tc : Thread EntryIdeal.nD EntryIdeal.τ).loc EntryIdeal.main_arg1)), ?_, ?_⟩
  · exact (θ_run (EntryIdeal.defs (F := Ideal)) _ _).mono (fun r h c => ⟨(h.1 c).1, (h.1 c).2, h.2 c⟩)
      (θ_run_and (EntryKernel.run m g) (EntryIdeal.Gen.unchanged m g))
  · refine (θ_run (EntryRefIdeal.defs (F := Ideal)) _ _).mono (fun r h c => ?_) (θ_run_and (EntryRef.run m' g') (EntryRefIdeal.Gen.unchanged m' g'))
    have e0 := (hagree c).1
    have e1 := (hagree c).2
    obtain ⟨h2, h3⟩ := h.1 c
    refine ⟨h2.trans ?_, h3.trans ?_, h.2 c⟩
    · rw [e0, e1]
    · rw [e0, e1]

end Cert.Proof.Entry

end
-- ==== Proof.ProjectFrame.lean ====
/-
  The input projection from `x` at the machine's own words: the quantiser, then sixty-one blocks of 512 columns of the product,
  the last of which overhangs the weight array. The run's frame: it ends, its arguments are as they were, and every counter is at
  zero. Of the product's output it says nothing here: at the machine's words a product's column is not known to be independent
  of the other columns.
-/
module

public import proofs.«01_k».proof.Defs
public import proofs.«01_k».proof.Proof.Gen.Project.Launch
public import proofs.«01_k».proof.Proof.Gen.Project.Skeleton
public import proofs.«01_k».proof.Proof.Gen.Project.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.RegionArraysF
public import Idealize.ShloMosaic.Lib.Ring
public import Idealize.ShloMosaic.Lib.Tactic
public import Idealize.ShloMosaic.Lib.WordCmp

@[expose] public section

set_option maxRecDepth 16384

noncomputable section

namespace Cert.Proof.Project

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Project Cert.Project.Gen

variable {F : FTy → Type} [FloatOps F]
local notation "𝕄" => MT nD τ sig Unit (Elt F) ℕ (UR sig nD τ) ℕ

section Regions

variable (V : (c : Dev nD) → (b : Ref sig .tc) → Buf (Elt F) ((c : Thread nD τ).loc b))

/-! # The quantiser -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x8192 := Rect.unit (s := S64x8192) ![0, 0] S64x8192.size inb_S64x8192_S64x8192_0_0
abbrev r0_1 : Rect S1x8192 := Rect.unit (s := S1x8192) ![0, 0] S1x8192.size inb_S1x8192_S1x8192_0_0
abbrev r0_2 : Rect S64x128 := Rect.unit (s := S64x128) ![0, 0] S64x128.size inb_S64x128_S64x128_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec F S64x8192 .bf16) (x1 : Vec F S1x8192 .f32) : Vec F S64x8192 .i8 :=
  View.canon [⟨r0_0, k0_pay4 (View.ld x0 r0_0) (View.ld x1 r0_1)⟩]

/-- Its stores tile the buffer (checked by evaluation), so they cover it. -/
theorem cover0_2 (p0 : Vec F S64x8192 .i8) (y : S64x8192.Idx) :
    ∃ pc ∈ ([⟨r0_0, p0⟩] : List (View.Piece (Elt F) S64x8192 .i8)), y ∈ pc.1.set :=
  View.cover_of_tiled [⟨r0_0, p0⟩] S64x8192.size (by rfl) y

/-- Window 3's staging buffer after the body, from the input windows' blocks: its 1 store as pieces, LAST
    FIRST (Lib/Pipeline/FrameBody.lean `View.canon`; the payloads are the skeleton's). -/
def out0_3 (x0 : Vec F S64x8192 .bf16) (x1 : Vec F S1x8192 .f32) : Vec F S64x8192 .bf16 :=
  View.canon [⟨r0_0, k0_pay5 (View.ld x0 r0_0) (View.ld x1 r0_1)⟩]

/-- Its stores tile the buffer (checked by evaluation), so they cover it. -/
theorem cover0_3 (p0 : Vec F S64x8192 .bf16) (y : S64x8192.Idx) :
    ∃ pc ∈ ([⟨r0_0, p0⟩] : List (View.Piece (Elt F) S64x8192 .bf16)), y ∈ pc.1.set :=
  View.cover_of_tiled [⟨r0_0, p0⟩] S64x8192.size (by rfl) y

/-- Window 4's staging buffer after the body, from the input windows' blocks: its 1 store as pieces, LAST
    FIRST (Lib/Pipeline/FrameBody.lean `View.canon`; the payloads are the skeleton's). -/
def out0_4 (x0 : Vec F S64x8192 .bf16) (x1 : Vec F S1x8192 .f32) : Vec F S64x128 .f32 :=
  View.canon [⟨r0_2, k0_pay6 (View.ld x0 r0_0) (View.ld x1 r0_1)⟩]

/-- Its stores tile the buffer (checked by evaluation), so they cover it. -/
theorem cover0_4 (p0 : Vec F S64x128 .f32) (y : S64x128.Idx) :
    ∃ pc ∈ ([⟨r0_2, p0⟩] : List (View.Piece (Elt F) S64x128 .f32)), y ∈ pc.1.set :=
  View.cover_of_tiled [⟨r0_2, p0⟩] S64x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x8192 .bf16) (harg1 : arg1.IsWhole) (arg2 : Memref sig .tc .vmem S1x8192 .f32) (harg2 : arg2.IsWhole) (arg3 : Memref sig .tc .vmem S64x8192 .i8) (harg3 : arg3.IsWhole) (arg4 : Memref sig .tc .vmem S64x8192 .bf16) (harg4 : arg4.IsWhole) (arg5 : Memref sig .tc .vmem S64x128 .f32) (harg5 : arg5.IsWhole)
    (x0 : Vec F S64x8192 .bf16) (x1 : Vec F S1x8192 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := F)) Variants.none c none) E (cc0_quant_in i arg1 harg1 arg2 harg2 arg3 harg3 arg4 harg4 arg5 harg5) K := by
  simp only [cc0_quant_in_eq_skeleton]; unfold cc0_quant_in_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # The product -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The codes' and the scales' buffers hold their whole arrays at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: eight chunks of codes and weights, the two scales, the whole output block -/

abbrev q0 : Rect S320x8192 := Rect.unit (s := S320x8192) ![0, 0] S320x1024.size inb_S320x8192_S320x1024_0_0
abbrev q1 : Rect S8192x512 := Rect.unit (s := S8192x512) ![0, 0] S1024x512.size inb_S8192x512_S1024x512_0_0
abbrev q2 : Rect S320x8192 := Rect.unit (s := S320x8192) ![0, 1024] S320x1024.size inb_S320x8192_S320x1024_0_1024
abbrev q3 : Rect S8192x512 := Rect.unit (s := S8192x512) ![1024, 0] S1024x512.size inb_S8192x512_S1024x512_1024_0
abbrev q4 : Rect S320x8192 := Rect.unit (s := S320x8192) ![0, 2048] S320x1024.size inb_S320x8192_S320x1024_0_2048
abbrev q5 : Rect S8192x512 := Rect.unit (s := S8192x512) ![2048, 0] S1024x512.size inb_S8192x512_S1024x512_2048_0
abbrev q6 : Rect S320x8192 := Rect.unit (s := S320x8192) ![0, 3072] S320x1024.size inb_S320x8192_S320x1024_0_3072
abbrev q7 : Rect S8192x512 := Rect.unit (s := S8192x512) ![3072, 0] S1024x512.size inb_S8192x512_S1024x512_3072_0
abbrev q8 : Rect S320x8192 := Rect.unit (s := S320x8192) ![0, 4096] S320x1024.size inb_S320x8192_S320x1024_0_4096
abbrev q9 : Rect S8192x512 := Rect.unit (s := S8192x512) ![4096, 0] S1024x512.size inb_S8192x512_S1024x512_4096_0
abbrev q10 : Rect S320x8192 := Rect.unit (s := S320x8192) ![0, 5120] S320x1024.size inb_S320x8192_S320x1024_0_5120
abbrev q11 : Rect S8192x512 := Rect.unit (s := S8192x512) ![5120, 0] S1024x512.size inb_S8192x512_S1024x512_5120_0
abbrev q12 : Rect S320x8192 := Rect.unit (s := S320x8192) ![0, 6144] S320x1024.size inb_S320x8192_S320x1024_0_6144
abbrev q13 : Rect S8192x512 := Rect.unit (s := S8192x512) ![6144, 0] S1024x512.size inb_S8192x512_S1024x512_6144_0
abbrev q14 : Rect S320x8192 := Rect.unit (s := S320x8192) ![0, 7168] S320x1024.size inb_S320x8192_S320x1024_0_7168
abbrev q15 : Rect S8192x512 := Rect.unit (s := S8192x512) ![7168, 0] S1024x512.size inb_S8192x512_S1024x512_7168_0
abbrev q16 : Rect S320x128 := Rect.unit (s := S320x128) ![0, 0] S320x1.size inb_S320x128_S320x1_0_0
abbrev q17 : Rect S1x512 := Rect.unit (s := S1x512) ![0, 0] S1x512.size inb_S1x512_S1x512_0_0
abbrev q18 : Rect S320x512 := Rect.unit (s := S320x512) ![0, 0] S320x512.size inb_S320x512_S320x512_0_0

/-- What the body stores in the output block, from the four input blocks. -/
def out1_4 (x0 : Vec F S320x8192 .bf16) (x1 : Vec F S320x128 .f32) (x2 : Vec F S8192x512 .i8) (x3 : Vec F S1x512 .f32) : Vec F S320x512 .bf16 :=
  View.canon [⟨q18, k1_pay1 (k1_pay2 (View.ld x0 q0) (View.ld x2 q1) (View.ld x0 q2) (View.ld x2 q3) (View.ld x0 q4) (View.ld x2 q5) (View.ld x0 q6) (View.ld x2 q7) (View.ld x0 q8) (View.ld x2 q9)) (k1_pay3 (View.ld x0 q10)) (View.ld x2 q11) (View.ld x0 q12) (View.ld x2 q13) (View.ld x0 q14) (View.ld x2 q15) (View.ld x1 q16) (View.ld x3 q17)⟩]

/-- The one store covers the block. -/
theorem cover1_4 (p0 : Vec F S320x512 .bf16) (y : S320x512.Idx) :
    ∃ pc ∈ ([⟨q18, p0⟩] : List (View.Piece (Elt F) S320x512 .bf16)), y ∈ pc.1.set :=
  View.cover_of_tiled [⟨q18, p0⟩] S320x512.size (by rfl) y

set_option maxHeartbeats 1000000 in
/-- The body on whole buffers, the inputs' at contents `x0 ‥ x3` and the output's at anything: it leaves the inputs as they
    were and the output at `out1_4` of them. -/
theorem sound_kernel1 (c : Dev nD) (E : Set ℕ) (i : grid1.Coords) (arg1 : Memref sig .tc .vmem S320x8192 .bf16) (harg1 : arg1.IsWhole) (arg2 : Memref sig .tc .vmem S320x128 .f32) (harg2 : arg2.IsWhole) (arg3 : Memref sig .tc .vmem S8192x512 .i8) (harg3 : arg3.IsWhole) (arg4 : Memref sig .tc .vmem S1x512 .f32) (harg4 : arg4.IsWhole) (arg5 : Memref sig .tc .vmem S320x512 .bf16) (harg5 : arg5.IsWhole)
    (x0 : Vec F S320x8192 .bf16) (x1 : Vec F S320x128 .f32) (x2 : Vec F S8192x512 .i8) (x3 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1_in_proj i arg1 harg1 arg2 harg2 arg3 harg3 arg4 harg4 arg5 harg5) K := by
  simp only [cc1_in_proj_eq_skeleton]; unfold cc1_in_proj_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The body table's row at point `t` is the body there. -/
theorem defs₀_row1 (t : Fin cfg1.N) :
    defs₀ (F := F) .tc cfg1.body (cfg1.bodyArgs t (cfg1.slots t)) = bodyAt1 t := by
  unfold defs₀; rw [Defs.onTc_tc]

/-! ## The proof data -/

/-- Only the output's window is left unstated. -/
def forgets : Fin 5 → Bool := fun | 0 => false | 1 => false | 2 => false | 3 => false | 4 => true | ⟨_ + 5, h⟩ => absurd h (Nat.not_lt.2 (Nat.le_add_left _ _))

/-- Buffer contents that nobody reads. -/
def filler2 : Vec F S8192x512 .i8 := fun _ => 0#8
def filler3 : Vec F S1x512 .f32 := fun _ => Scalar.ofBits .f32 0#32

/-- After the body each input's buffer holds its block, the weights' and their scales' filled out past the array's end. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => win1_2.fill (grid1.coords t) filler2 (iblk1 V c 2 t)
    | ⟨3, _⟩ => win1_3.fill (grid1.coords t) filler3 (iblk1 V c 3 t)
    | ⟨4, _⟩ => Dat.unnamed (cfg := cfg1) 4 t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = win1_2.fill (grid1.coords t) filler2 (iblk1 V c 2 t) := by dsimp only [dat1]
theorem after1_3 (c : Dev nD) (t : Fin cfg1.N) : (dat1 V c).after 3 t = win1_3.fill (grid1.coords t) filler3 (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- The weights' buffer is fetched anew at every point: its block inside the array, anything past the end. -/
theorem before1_2 (c : Dev nD) (t : Fin cfg1.N) (d) : (dat1 V c).before 2 t d = win1_2.fill (grid1.coords t) d (iblk1 V c 2 t) := by
  unfold Dat.before; rw [if_pos (fetch1_2 t)]; rfl
theorem before1_3 (c : Dev nD) (t : Fin cfg1.N) (d) : (dat1 V c).before 3 t d = win1_3.fill (grid1.coords t) d (iblk1 V c 3 t) := by
  unfold Dat.before; rw [if_pos (fetch1_3 t)]; rfl

/-- The body at any point, as the pipeline asks for it. -/
theorem body_obligation1 (c : Dev nD) : BodyObligationLoose (dat1 (F := F) V c) (defs₀ (F := F)) Variants.none () Set.univ forgets := fun t => by
  rw [bigSep_W1, bigSep_W1, defs₀_row1]
  simp only [forgets]
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩⟩
  rw [before1_0 V c t d0, before1_1 V c t d1, before1_2 V c t d2, before1_3 V c t d3]
  unfold bodyAt1
  iapply (sound_kernel1 c Set.univ (grid1.coords t) _ _ _ _ _ _ _ _ _ _ (iblk1 V c 0 t) (iblk1 V c 1 t)
    (win1_2.fill (grid1.coords t) d2 (iblk1 V c 2 t)) (win1_3.fill (grid1.coords t) d3 (iblk1 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  have h2 : win1_2.cut (grid1.coords t) (win1_2.fill (grid1.coords t) filler2 (iblk1 V c 2 t)) = iblk1 V c 2 t := win1_2.cut_fill _ _ _
  have h3 : win1_3.cut (grid1.coords t) (win1_3.fill (grid1.coords t) filler3 (iblk1 V c 3 t)) = iblk1 V c 3 t := win1_3.cut_fill _ _ _
  isplitl [HΦ]; · iexact HΦ
  isplitl [Ho]; · iexact Ho
  isplitl [H0]; · rw [after1_0]; iexact H0
  isplitl [H1]; · rw [after1_1]; iexact H1
  isplitl [H2]
  · iexists d2
    rw [after1_2]
    change _ ⊢ owns (c : Thread nD τ) (st1_2 t) fullShare (win1_2.fill (grid1.coords t) d2 (win1_2.cut (grid1.coords t) (win1_2.fill (grid1.coords t) filler2 (iblk1 V c 2 t))))
    rw [h2]
  isplitl [H3]
  · iexists d3
    rw [after1_3]
    change _ ⊢ owns (c : Thread nD τ) (st1_3 t) fullShare (win1_3.fill (grid1.coords t) d3 (win1_3.cut (grid1.coords t) (win1_3.fill (grid1.coords t) filler3 (iblk1 V c 3 t))))
    rw [h3]
  iexists _; iexact H4

end Regions

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
section Left

/-! ## After the product: its inputs as entered, its output at anything -/

/-- The buffers when the product's arrays end at `A`. -/
def Wf (c : Dev nD) (A : (w : Fin cfg1.W) → Buf (Elt F) ((c : Thread nD τ).loc (Pipeline.arrRef spec1 w))) : Valuation τ sig (Elt F) :=
  Pipeline.withArrays spec1 c (W3 m ρ c) A
abbrev Vf (c : Dev nD) (A : (w : Fin cfg1.W) → Buf (Elt F) ((c : Thread nD τ).loc (Pipeline.arrRef spec1 w))) :
    (b : Ref sig .tc) → Buf (Elt F) ((c : Thread nD τ).loc b) := fun b => Wf m ρ c A b
variable (c : Dev nD) (A : (w : Fin cfg1.W) → Buf (Elt F) ((c : Thread nD τ).loc (Pipeline.arrRef spec1 w)))
theorem Wf_arr (w : Fin cfg1.W) : Wf m ρ c A (Proc.devRef .tc (Pipeline.arrRef spec1 w)) = A w := by
  unfold Wf; exact Pipeline.withArrays_arr spec1 launch1.win.arr_inj c _ _ w
theorem Wf_of_ne (b : Ref sig .tc) (hb : ∀ w, Pipeline.arrRef spec1 w ≠ b) :
    Wf m ρ c A (Proc.devRef .tc b) = W3 m ρ c (Proc.devRef .tc b) := by
  unfold Wf; exact Pipeline.withArrays_of_ne spec1 c _ _ b hb
theorem hrestf : ∀ b, b ∉ Finset.univ.image (Pipeline.arrRef spec1) → Vf m ρ c A b = V3 m ρ c b :=
  fun b hb => Wf_of_ne m ρ c A b fun w e => hb (Finset.mem_image.mpr ⟨w, Finset.mem_univ _, e⟩)
/-- Every argument among the product's arrays is an input's, and its contents are followed. -/
theorem argsIn1 : ∀ a ∈ argRefs, ∀ w : Fin cfg1.W, Pipeline.arrRef spec1 w = a → (cfg1.win w).isOut = false ∧ forgets w = false :=
  ListAll.forall_mem_of_all_decide (by decide +kernel)
theorem Wf_args (hA : ∀ w, forgets w = false → A w = (dat1 (V3 m ρ) c).arrAt w cfg1.N) :
    ∀ a ∈ argRefs, Wf m ρ c A (Proc.devRef .tc a) = m ((c : Thread nD τ).loc a) := fun a ha => by
  refine Eq.trans ?_ (W3_args m ρ c a ha)
  by_cases hw : ∃ w : Fin cfg1.W, Pipeline.arrRef spec1 w = a
  · obtain ⟨w, rfl⟩ := hw
    have h := argsIn1 _ ha w rfl
    exact (Wf_arr m ρ c A w).trans ((hA w h.2).trans (((dat1 (V3 m ρ) c).arrAt_in w h.1 _).trans (A_eq1 (V3 m ρ) c w)))
  · exact Wf_of_ne m ρ c A a fun w e => hw ⟨w, e⟩

end Left

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- Windows whose contents are not followed: none of the quantiser's, the product's output. -/
def fg : (p : Fin 2) → Fin (Pipeline.pin (pcfgs (F := F)) adm p).W → Bool
  | ⟨0, _⟩ => fun _ => false
  | ⟨1, _⟩ => forgets
/-- The proof data with those windows unstated. -/
abbrev rdats (p : Fin 2) (c : Dev nD) := (pdats m ρ p c).toRForget (fg (F := F) p)
/-- The arguments as launched, the rest at anything. -/
def Left (c : Dev nD) (Wf : Valuation τ sig (Elt F)) : Prop := ∀ a ∈ argRefs, Wf (Proc.devRef .tc a) = m ((c : Thread nD τ).loc a)
/-- The last thread state without the `owes`. -/
abbrev Tₙ (c : Dev nD) : sProp 𝕄 := iprop((∃ Wf : Valuation τ sig (Elt F), ⌜Left m c Wf⌝ ∗ StableHlo.held (c : Thread nD τ) (Pipeline.ucRefs τ sig) Wf) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose.toRForget
  hwaits := Pipeline.RDat.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    show _ ⊢ |={Set.univ}=> iprop((pdats m ρ 0 c).arrays ((pdats m ρ 0 c).arrAt · 0) ∗ Pipeline.prefHeld (pcfgs (F := F) 0).pre c (fun _ => fullShare) (adm (F := F) 0).1 ∗ (pdats m ρ 0 c).owesAt () 0 ∗ _ ∗ _)
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (pdats m ρ 0 c).Φ 0
    rw [show (pdats m ρ 0 c).Φ 0 = Pipeline.ΦA spec0 c from rfl]; unfold Pipeline.ΦA
    iintro ⟨Hp, -, Hr⟩
    isplitl [Hr]; · iexact Hr
    iexact Hp
  hout c := by
    show (pdats m ρ 0 c).Φ (Fin.last _) ⊢ _
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    show iprop(((pdats m ρ 0 c).toRForget (fg (F := F) 0)).arraysAt cfg0.N ∗ (pdats m ρ 0 c).owesAt () (Fin.last _) ∗ _ ∗ _) ⊢ _
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    have haf := Pipeline.Dat.arraysAt_forget (pdats m ρ 0 c) (fg (F := F) 0) cfg0.N
    iintro ⟨Ha, HO, HY, Hrest⟩
    ihave Hb := haf $$ Ha
    icases Hb with ⟨%A, %hA, Ha⟩
    obtain rfl : A = ((pdats m ρ 0 c).arrAt · cfg0.N) := funext fun w => hA w rfl
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification may unfold plain definitions in a metavariable's type: the pinned configuration
set_option backward.isDefEq.respectTransparency.types false in
/-- REGION 1 (custom_call 1) over the thread state: entered from every unscoped buffer at `W3`, left at
    any contents under which the arguments are as launched. Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).toRForget
  hwaits := Pipeline.RDat.hwaits_of_owed_zero _ _ _ _ L lv 1 fun _ _ => rfl
  pre c := iprop(StableHlo.held (c : Thread nD τ) (Pipeline.ucRefs τ sig) (W3 m ρ c) ∗ R c)
  post c := iprop((∃ Wf : Valuation τ sig (Elt F), ⌜Left m c Wf⌝ ∗ StableHlo.held (c : Thread nD τ) (Pipeline.ucRefs τ sig) Wf) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    show _ ⊢ |={Set.univ}=> iprop((pdats m ρ 1 c).arrays ((pdats m ρ 1 c).arrAt · 0) ∗ Pipeline.prefHeld (pcfgs (F := F) 1).pre c (fun _ => fullShare) (adm (F := F) 1).1 ∗ (pdats m ρ 1 c).owesAt () 0 ∗ _ ∗ _)
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    show _ ⊢ (pdats m ρ 1 c).Φ 0
    rw [show (pdats m ρ 1 c).Φ 0 = Pipeline.ΦA spec1 c from rfl]; unfold Pipeline.ΦA
    iintro ⟨Hp, -, Hr⟩
    isplitl [Hr]; · iexact Hr
    iexact Hp
  hout c := by
    show (pdats m ρ 1 c).Φ (Fin.last _) ⊢ _
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    show iprop(((pdats m ρ 1 c).toRForget (fg (F := F) 1)).arraysAt cfg1.N ∗ (pdats m ρ 1 c).owesAt () (Fin.last _) ∗ _ ∗ _) ⊢ _
    have haf := Pipeline.Dat.arraysAt_forget (pdats m ρ 1 c) (fg (F := F) 1) cfg1.N
    iintro ⟨Ha, HO, HY, Hrest⟩
    ihave Hb := haf $$ Ha
    icases Hb with ⟨%A, %hA, Ha⟩
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (Vf m ρ c A) A (fun w => (Wf_arr m ρ c A w).symm) (hrestf m ρ c A)
    rw [Pipeline.unscopedBufs_held] at hjoin
    imodintro
    isplitl [Ha Hrest]
    · iexists (Wf m ρ c A)
      isplitr
      · ipureintro; exact Wf_args m ρ c A fun w hw => hA w hw
      iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

theorem args_unscoped : ∀ a ∈ argRefs, ¬ (Proc.devRef .tc a : DevRef τ sig).isScoped :=
  ListAll.forall_mem_of_all_decide (by decide)
/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run ends with the arguments as launched and every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m)
    (hch := ⟨fun _ => .rfl, fun _ => .rfl, fun _ => .rfl, fun _ => .rfl, fun c => by
      dsimp only [Pipeline.RDat.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ a ∈ argRefs, s.mem ((c : Thread nD τ).loc a) = m ((c : Thread nD τ).loc a))
    (hfin := fun c s' => by
      iintro ⟨⟨⟨%Wf, %hW, Hh⟩, -⟩, HSI⟩
      unfold StableHlo.held
      ihave Hr := (pointsTo_read_all (Pipeline.ucRefs τ sig) (fun b => (((c : Thread nD τ)).1, b)) Wf s') $$ [Hh HSI]
      · isplitl [Hh] <;> iassumption
      icases Hr with ⟨%h, HSI⟩
      imodintro
      isplitr
      · ipureintro
        exact fun a ha => (h (Proc.devRef .tc a) (mem_uc a (args_unscoped a ha))).trans (hW a ha)
      iexact HSI)
    (hQ := fun s h hz => ⟨fun c => ⟨h c main_arg0 (by decide), h c main_arg1 (by decide), h c main_arg2 (by decide), h c main_arg3 (by decide)⟩,
      funext fun g => hz g (.inr (no_unscoped g.2))⟩)

/-- The projection's program from `x` runs, leaves its arguments as they were, and ends with every counter at zero. -/
theorem frame : Cert.quiescent_Project := fun m ρ _ => run (F := Bits) m ρ

end Cert.Proof.Project

end
-- ==== Proof.ProjectRun.lean ====
/-
  The input projection from `x` over the reals: the transposed rows quantised in five blocks, then sixty-one blocks of
  512 columns of the product. The second call's last block overhangs the weights by 416 columns; an entry of a product reads one
  column of the weights, so what is inside the array does not depend on what the buffers hold past its end.
-/
module

public import proofs.«01_k».proof.Defs
public import proofs.«01_k».proof.Proof.Gen.ProjectIdeal.Launch
public import proofs.«01_k».proof.Proof.Gen.ProjectIdeal.Skeleton
public import proofs.«01_k».proof.Proof.Gen.ProjectIdeal.Points
public import Idealize.ShloMosaic.Lib.Pipeline.FrameBody
public import Idealize.ShloMosaic.Lib.Pipeline.RegionsLoop
public import Idealize.ShloMosaic.Lib.Pipeline.FrameSuffix
public import proofs.«01_k».proof.Proof.Products
public import Idealize.ShloMosaic.Lib.Ring
public import Idealize.ShloMosaic.Lib.Tactic
public import Idealize.ShloMosaic.Lib.WordCmp

@[expose] public section

set_option maxRecDepth 16384

noncomputable section

namespace Cert.Proof.ProjectRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open Cert.Proof.Products
open scoped BigOperators
open Cert.ProjectIdeal Cert.ProjectIdeal.Gen
local notation "𝕄" => MT nD τ sig Unit (Elt Ideal) ℕ (UR sig nD τ) ℕ

section Regions

variable (V : (c : Dev nD) → (b : Ref sig .tc) → Buf (Elt Ideal) ((c : Thread nD τ).loc b))

/-! # The quantiser -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt Ideal) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt Ideal) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x8192 := Rect.unit (s := S64x8192) ![0, 0] S64x8192.size inb_S64x8192_S64x8192_0_0
abbrev r0_1 : Rect S1x8192 := Rect.unit (s := S1x8192) ![0, 0] S1x8192.size inb_S1x8192_S1x8192_0_0
abbrev r0_2 : Rect S64x128 := Rect.unit (s := S64x128) ![0, 0] S64x128.size inb_S64x128_S64x128_0_0

/-! ## What the body leaves in each output window's buffer -/

/-- Window 2's staging buffer after the body, from the input windows' blocks: its 1 store as pieces, LAST
    FIRST (Lib/Pipeline/FrameBody.lean `View.canon`; the payloads are the skeleton's). -/
def out0_2 (x0 : Vec Ideal S64x8192 .bf16) (x1 : Vec Ideal S1x8192 .f32) : Vec Ideal S64x8192 .i8 :=
  View.canon [⟨r0_0, k0_pay4 (View.ld x0 r0_0) (View.ld x1 r0_1)⟩]

/-- Its stores tile the buffer (checked by evaluation), so they cover it. -/
theorem cover0_2 (p0 : Vec Ideal S64x8192 .i8) (y : S64x8192.Idx) :
    ∃ pc ∈ ([⟨r0_0, p0⟩] : List (View.Piece (Elt Ideal) S64x8192 .i8)), y ∈ pc.1.set :=
  View.cover_of_tiled [⟨r0_0, p0⟩] S64x8192.size (by rfl) y

/-- Window 3's staging buffer after the body, from the input windows' blocks: its 1 store as pieces, LAST
    FIRST (Lib/Pipeline/FrameBody.lean `View.canon`; the payloads are the skeleton's). -/
def out0_3 (x0 : Vec Ideal S64x8192 .bf16) (x1 : Vec Ideal S1x8192 .f32) : Vec Ideal S64x8192 .bf16 :=
  View.canon [⟨r0_0, k0_pay5 (View.ld x0 r0_0) (View.ld x1 r0_1)⟩]

/-- Its stores tile the buffer (checked by evaluation), so they cover it. -/
theorem cover0_3 (p0 : Vec Ideal S64x8192 .bf16) (y : S64x8192.Idx) :
    ∃ pc ∈ ([⟨r0_0, p0⟩] : List (View.Piece (Elt Ideal) S64x8192 .bf16)), y ∈ pc.1.set :=
  View.cover_of_tiled [⟨r0_0, p0⟩] S64x8192.size (by rfl) y

/-- Window 4's staging buffer after the body, from the input windows' blocks: its 1 store as pieces, LAST
    FIRST (Lib/Pipeline/FrameBody.lean `View.canon`; the payloads are the skeleton's). -/
def out0_4 (x0 : Vec Ideal S64x8192 .bf16) (x1 : Vec Ideal S1x8192 .f32) : Vec Ideal S64x128 .f32 :=
  View.canon [⟨r0_2, k0_pay6 (View.ld x0 r0_0) (View.ld x1 r0_1)⟩]

/-- Its stores tile the buffer (checked by evaluation), so they cover it. -/
theorem cover0_4 (p0 : Vec Ideal S64x128 .f32) (y : S64x128.Idx) :
    ∃ pc ∈ ([⟨r0_2, p0⟩] : List (View.Piece (Elt Ideal) S64x128 .f32)), y ∈ pc.1.set :=
  View.cover_of_tiled [⟨r0_2, p0⟩] S64x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S64x8192 .bf16) (harg1 : arg1.IsWhole) (arg2 : Memref sig .tc .vmem S1x8192 .f32) (harg2 : arg2.IsWhole) (arg3 : Memref sig .tc .vmem S64x8192 .i8) (harg3 : arg3.IsWhole) (arg4 : Memref sig .tc .vmem S64x8192 .bf16) (harg4 : arg4.IsWhole) (arg5 : Memref sig .tc .vmem S64x128 .f32) (harg5 : arg5.IsWhole)
    (x0 : Vec Ideal S64x8192 .bf16) (x1 : Vec Ideal S1x8192 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0 x1) ∗ owns (c : Thread nD τ) arg4 fullShare (out0_3 x0 x1) ∗ owns (c : Thread nD τ) arg5 fullShare (out0_4 x0 x1)) -∗ K ⟨⟩))
      ⊢ wp frame (wpE (defs₀ (F := Ideal)) Variants.none c none) E (cc0_quant_in i arg1 harg1 arg2 harg2 arg3 harg3 arg4 harg4 arg5 harg5) K := by
  simp only [cc0_quant_in_eq_skeleton]; unfold cc0_quant_in_skel
  simp only [k0_part1_eq_skeleton]
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt Ideal) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := Ideal)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 V c) (defs₀ (F := Ideal)) Variants.none () Set.univ := fun t => by
  rw [bigSep_W0, bigSep_W0, defs₀_row0]
  exact triple_restated (sound_body0 V c t) rfl .rfl fun _ => .rfl

/-! # The product -/

/-- Window `w`'s block at point `t`, read off its array as the region finds it (`V`). -/
def iblk1 (c : Dev nD) (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The codes' and the scales' buffers hold their whole arrays at every point. -/
theorem before1_0_of {c : Dev nD} (dat : Dat τ (Elt Ideal) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt Ideal) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: eight chunks of codes and weights, the two scales, the whole output block -/

abbrev q0 : Rect S320x8192 := Rect.unit (s := S320x8192) ![0, 0] S320x1024.size inb_S320x8192_S320x1024_0_0
abbrev q1 : Rect S8192x512 := Rect.unit (s := S8192x512) ![0, 0] S1024x512.size inb_S8192x512_S1024x512_0_0
abbrev q2 : Rect S320x8192 := Rect.unit (s := S320x8192) ![0, 1024] S320x1024.size inb_S320x8192_S320x1024_0_1024
abbrev q3 : Rect S8192x512 := Rect.unit (s := S8192x512) ![1024, 0] S1024x512.size inb_S8192x512_S1024x512_1024_0
abbrev q4 : Rect S320x8192 := Rect.unit (s := S320x8192) ![0, 2048] S320x1024.size inb_S320x8192_S320x1024_0_2048
abbrev q5 : Rect S8192x512 := Rect.unit (s := S8192x512) ![2048, 0] S1024x512.size inb_S8192x512_S1024x512_2048_0
abbrev q6 : Rect S320x8192 := Rect.unit (s := S320x8192) ![0, 3072] S320x1024.size inb_S320x8192_S320x1024_0_3072
abbrev q7 : Rect S8192x512 := Rect.unit (s := S8192x512) ![3072, 0] S1024x512.size inb_S8192x512_S1024x512_3072_0
abbrev q8 : Rect S320x8192 := Rect.unit (s := S320x8192) ![0, 4096] S320x1024.size inb_S320x8192_S320x1024_0_4096
abbrev q9 : Rect S8192x512 := Rect.unit (s := S8192x512) ![4096, 0] S1024x512.size inb_S8192x512_S1024x512_4096_0
abbrev q10 : Rect S320x8192 := Rect.unit (s := S320x8192) ![0, 5120] S320x1024.size inb_S320x8192_S320x1024_0_5120
abbrev q11 : Rect S8192x512 := Rect.unit (s := S8192x512) ![5120, 0] S1024x512.size inb_S8192x512_S1024x512_5120_0
abbrev q12 : Rect S320x8192 := Rect.unit (s := S320x8192) ![0, 6144] S320x1024.size inb_S320x8192_S320x1024_0_6144
abbrev q13 : Rect S8192x512 := Rect.unit (s := S8192x512) ![6144, 0] S1024x512.size inb_S8192x512_S1024x512_6144_0
abbrev q14 : Rect S320x8192 := Rect.unit (s := S320x8192) ![0, 7168] S320x1024.size inb_S320x8192_S320x1024_0_7168
abbrev q15 : Rect S8192x512 := Rect.unit (s := S8192x512) ![7168, 0] S1024x512.size inb_S8192x512_S1024x512_7168_0
abbrev q16 : Rect S320x128 := Rect.unit (s := S320x128) ![0, 0] S320x1.size inb_S320x128_S320x1_0_0
abbrev q17 : Rect S1x512 := Rect.unit (s := S1x512) ![0, 0] S1x512.size inb_S1x512_S1x512_0_0
abbrev q18 : Rect S320x512 := Rect.unit (s := S320x512) ![0, 0] S320x512.size inb_S320x512_S320x512_0_0

/-- What the body stores in the output block, from the four input blocks. -/
def out1_4 (x0 : Vec Ideal S320x8192 .bf16) (x1 : Vec Ideal S320x128 .f32) (x2 : Vec Ideal S8192x512 .i8) (x3 : Vec Ideal S1x512 .f32) : Vec Ideal S320x512 .bf16 :=
  View.canon [⟨q18, k1_pay1 (k1_pay2 (View.ld x0 q0) (View.ld x2 q1) (View.ld x0 q2) (View.ld x2 q3) (View.ld x0 q4) (View.ld x2 q5) (View.ld x0 q6) (View.ld x2 q7) (View.ld x0 q8) (View.ld x2 q9)) (k1_pay3 (View.ld x0 q10)) (View.ld x2 q11) (View.ld x0 q12) (View.ld x2 q13) (View.ld x0 q14) (View.ld x2 q15) (View.ld x1 q16) (View.ld x3 q17)⟩]

/-- The one store covers the block. -/
theorem cover1_4 (p0 : Vec Ideal S320x512 .bf16) (y : S320x512.Idx) :
    ∃ pc ∈ ([⟨q18, p0⟩] : List (View.Piece (Elt Ideal) S320x512 .bf16)), y ∈ pc.1.set :=
  View.cover_of_tiled [⟨q18, p0⟩] S320x512.size (by rfl) y

set_option maxHeartbeats 1000000 in
/-- The body on whole buffers, the inputs' at contents `x0 ‥ x3` and the output's at anything: it leaves the inputs as they
    were and the output at `out1_4` of them. -/
theorem sound_kernel1 (c : Dev nD) (E : Set ℕ) (i : grid1.Coords) (arg1 : Memref sig .tc .vmem S320x8192 .bf16) (harg1 : arg1.IsWhole) (arg2 : Memref sig .tc .vmem S320x128 .f32) (harg2 : arg2.IsWhole) (arg3 : Memref sig .tc .vmem S8192x512 .i8) (harg3 : arg3.IsWhole) (arg4 : Memref sig .tc .vmem S1x512 .f32) (harg4 : arg4.IsWhole) (arg5 : Memref sig .tc .vmem S320x512 .bf16) (harg5 : arg5.IsWhole)
    (x0 : Vec Ideal S320x8192 .bf16) (x1 : Vec Ideal S320x128 .f32) (x2 : Vec Ideal S8192x512 .i8) (x3 : Vec Ideal S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := Ideal)) Variants.none c none) E (cc1_in_proj i arg1 harg1 arg2 harg2 arg3 harg3 arg4 harg4 arg5 harg5) K := by
  simp only [cc1_in_proj_eq_skeleton]; unfold cc1_in_proj_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The body table's row at point `t` is the body there. -/
theorem defs₀_row1 (t : Fin cfg1.N) :
    defs₀ (F := Ideal) .tc cfg1.body (cfg1.bodyArgs t (cfg1.slots t)) = bodyAt1 t := by
  unfold defs₀; rw [Defs.onTc_tc]

/-! ## One entry of the product -/

theorem hz : (![0, 0] : Fin 2 → Nat) = fun _ => 0 := funext fun a => by fin_cases a <;> rfl

/-- An entry of the block that the body computes from its input blocks: it reads one column of the weights only. -/
theorem out_entry (x0 : Vec Ideal S320x8192 .bf16) (x1 : Vec Ideal S320x128 .f32) (x2 : Vec Ideal S8192x512 .i8) (x3 : Vec Ideal S1x512 .f32)
    (r : Fin 320) (j : Fin 512) :
    out1_4 x0 x1 x2 x3 (ix2 r j)
      = (∑ k : Fin 8192, term x0 (sitofp (F := Ideal) .bf16 x2) r j k) * (x1 (ix2 r (0 : Fin 128)) * x3 (ix2 (0 : Fin 1) j)) := by
  unfold out1_4
  rw [View.canon_unit_zero hz]
  have e := sum_chunks (n := 8) (m := 1024) (term x0 (sitofp (F := Ideal) .bf16 x2) r j)
  simp only [k1_pay1, k1_pay2, k1_pay3, shapeCast_self, truncf_apply, addf_apply, mulf_apply]
  rw [bcast_col, bcast_row, View.ld_unit_zero (S := S1x512) hz, ld_col _ _ (by decide)]
  rw [show (∑ k : Fin 8192, term x0 (sitofp (F := Ideal) .bf16 x2) r j k) = _ from e]
  rw [Fin.sum_univ_eight]
  exact congrArg (· * _) (add_congr (add_congr (add_congr (add_congr (add_congr (add_congr (add_congr (chunk_entry _ rfl x0 x2 _ _ r j) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j))

/-- The projection on whole arrays: the integer product times the two scales. -/
def result (a0 : Vec Ideal S320x8192 .bf16) (a1 : Vec Ideal S320x128 .f32) (a2 : Vec Ideal S8192x30816 .i8) (a3 : Vec Ideal S1x30816 .f32) :
    Vec Ideal S320x30816 .bf16 := fun i =>
  (∑ k : Fin 8192, term a0 (sitofp (F := Ideal) .bf16 a2) (i 0) (i 1) k) * (a1 (ix2 (i 0) (0 : Fin 128)) * a3 (ix2 (0 : Fin 1) (i 1)))

/-! ## Where the blocks lie -/

/-- Block `t` of the weights, their scales and the output starts at column `512 t`; -/
theorem index_facts : ∀ t : Fin cfg1.N, win1_0.index t (0 : Fin 2) = 0 ∧ win1_0.index t (1 : Fin 2) = 0 ∧ win1_1.index t (0 : Fin 2) = 0
    ∧ win1_1.index t (1 : Fin 2) = 0 ∧ win1_2.index t (0 : Fin 2) = 0 ∧ win1_2.index t (1 : Fin 2) = t.val ∧ win1_3.index t (0 : Fin 2) = 0
    ∧ win1_3.index t (1 : Fin 2) = t.val ∧ win1_4.index t (0 : Fin 2) = 0 ∧ win1_4.index t (1 : Fin 2) = t.val ∧ t.val < 61 :=
  (by decide +kernel : ∀ t : Fin grid1.N, _)

/-- and its transfers move the columns that lie inside the array. -/
theorem size_facts : ∀ t : Fin cfg1.N, win1_2.xsize (grid1.coords t) (0 : Fin 2) = 8192 ∧ win1_2.xsize (grid1.coords t) (1 : Fin 2) = min 512 (30816 - 512 * t.val)
    ∧ win1_3.xsize (grid1.coords t) (0 : Fin 2) = 1 ∧ win1_3.xsize (grid1.coords t) (1 : Fin 2) = min 512 (30816 - 512 * t.val)
    ∧ win1_4.xsize (grid1.coords t) (0 : Fin 2) = 320 ∧ win1_4.xsize (grid1.coords t) (1 : Fin 2) = min 512 (30816 - 512 * t.val) :=
  (by decide +kernel : ∀ t : Fin grid1.N, _)

theorem emb0 (t : Fin cfg1.N) (r : Fin 320) (k : Fin 8192) : ((cfg1.win 0).blk t).view.emb (ix2 r k) = ix2 r k := by
  have e := index_facts t
  funext a; apply Fin.ext
  match a with
  | ⟨0, _⟩ => show win1_0.index t (0 : Fin 2) * 320 + 1 * r.val = r.val; omega
  | ⟨1, _⟩ => show win1_0.index t (1 : Fin 2) * 8192 + 1 * k.val = k.val; omega

theorem emb1 (t : Fin cfg1.N) (r : Fin 320) (k : Fin 128) : ((cfg1.win 1).blk t).view.emb (ix2 r k) = ix2 r k := by
  have e := index_facts t
  funext a; apply Fin.ext
  match a with
  | ⟨0, _⟩ => show win1_1.index t (0 : Fin 2) * 320 + 1 * r.val = r.val; omega
  | ⟨1, _⟩ => show win1_1.index t (1 : Fin 2) * 128 + 1 * k.val = k.val; omega

/-- A column of the weights' buffer that lies inside the array, whatever the rest of the buffer holds. -/
theorem fill2 (t : Fin cfg1.N) (d : Vec Ideal S8192x512 .i8) (X : Vec Ideal S8192x30816 .i8) (k : Fin 8192) (j : Fin 512) (q : Fin 30816)
    (hq : q.val = 512 * t.val + j.val) :
    win1_2.fill (grid1.coords t) d (((cfg1.win 2).blk t).view.read (Elt Ideal) X) (ix2 k j) = X (ix2 k q) := by
  have e := index_facts t
  have s := size_facts t
  have hk := k.isLt; have hj := j.isLt; have hq' := q.isLt
  have hm : win1_2.moved (grid1.coords t) (ix2 k j) = true := (win1_2.moved_iff _ _).mpr fun a => by
    match a with
    | ⟨0, _⟩ => show k.val < win1_2.xsize (grid1.coords t) (0 : Fin 2); omega
    | ⟨1, _⟩ => show j.val < win1_2.xsize (grid1.coords t) (1 : Fin 2); omega
  unfold Window.fill
  rw [dif_pos hm]
  refine congrArg X ?_
  funext a; apply Fin.ext
  match a with
  | ⟨0, _⟩ => show win1_2.index t (0 : Fin 2) * 8192 + 1 * k.val = k.val; omega
  | ⟨1, _⟩ => show win1_2.index t (1 : Fin 2) * 512 + 1 * j.val = q.val; omega

/-- The same of their scales. -/
theorem fill3 (t : Fin cfg1.N) (d : Vec Ideal S1x512 .f32) (X : Vec Ideal S1x30816 .f32) (k : Fin 1) (j : Fin 512) (q : Fin 30816)
    (hq : q.val = 512 * t.val + j.val) :
    win1_3.fill (grid1.coords t) d (((cfg1.win 3).blk t).view.read (Elt Ideal) X) (ix2 k j) = X (ix2 k q) := by
  have e := index_facts t
  have s := size_facts t
  have hk := k.isLt; have hj := j.isLt; have hq' := q.isLt
  have hm : win1_3.moved (grid1.coords t) (ix2 k j) = true := (win1_3.moved_iff _ _).mpr fun a => by
    match a with
    | ⟨0, _⟩ => show k.val < win1_3.xsize (grid1.coords t) (0 : Fin 2); omega
    | ⟨1, _⟩ => show j.val < win1_3.xsize (grid1.coords t) (1 : Fin 2); omega
  unfold Window.fill
  rw [dif_pos hm]
  refine congrArg X ?_
  funext a; apply Fin.ext
  match a with
  | ⟨0, _⟩ => show win1_3.index t (0 : Fin 2) * 1 + 1 * k.val = k.val; omega
  | ⟨1, _⟩ => show win1_3.index t (1 : Fin 2) * 512 + 1 * j.val = q.val; omega

/-- The whole-array result on core `c`. -/
abbrev resultAt (c : Dev nD) : Vec Ideal S320x30816 .bf16 := result (V c main_v3_1) (V c main_v3_2) (V c main_arg2) (V c main_v4)

/-- Block `t` of the whole result, its part inside the array. -/
def oblk (c : Dev nD) (t : Fin cfg1.N) : (win1_4.xblock (grid1.coords t)).Idx → Elt Ideal .bf16 :=
  ((cfg1.win 4).blk t).view.read (Elt Ideal) (resultAt V c)

/-- On the columns inside the array what the body stores is block `t` of the whole result, whatever the weights' and scales'
    buffers hold past the array's end. -/
theorem cut_out (c : Dev nD) (t : Fin cfg1.N) (d2 : Vec Ideal S8192x512 .i8) (d3 : Vec Ideal S1x512 .f32) :
    win1_4.cut (grid1.coords t) (out1_4 (iblk1 V c 0 t) (iblk1 V c 1 t) (win1_2.fill (grid1.coords t) d2 (iblk1 V c 2 t)) (win1_3.fill (grid1.coords t) d3 (iblk1 V c 3 t)))
      = oblk V c t := by
  have e := index_facts t
  have s := size_facts t
  funext j
  have h0 : (j 0).val < win1_4.xsize (grid1.coords t) (0 : Fin 2) := (j 0).isLt
  have h1 : (j 1).val < win1_4.xsize (grid1.coords t) (1 : Fin 2) := (j 1).isLt
  obtain ⟨r, hr⟩ : ∃ r : Fin 320, r.val = (j 0).val := ⟨⟨(j 0).val, by omega⟩, rfl⟩
  obtain ⟨l, hl⟩ : ∃ l : Fin 512, l.val = (j 1).val := ⟨⟨(j 1).val, by omega⟩, rfl⟩
  obtain ⟨q, hq⟩ : ∃ q : Fin 30816, q.val = 512 * t.val + l.val := ⟨⟨512 * t.val + l.val, by omega⟩, rfl⟩
  have hx : win1_4.xinj (grid1.coords t) j = ix2 r l := by
    funext a; apply Fin.ext
    match a with
    | ⟨0, _⟩ => exact hr.symm
    | ⟨1, _⟩ => exact hl.symm
  have hy : ((cfg1.win 4).blk t).view.emb j = ix2 r q := by
    funext a; apply Fin.ext
    match a with
    | ⟨0, _⟩ => show win1_4.index t (0 : Fin 2) * 320 + 1 * (j 0).val = r.val; omega
    | ⟨1, _⟩ => show win1_4.index t (1 : Fin 2) * 512 + 1 * (j 1).val = q.val; omega
  have hread : ∀ X : Vec Ideal S320x30816 .bf16, ((cfg1.win 4).blk t).view.read (Elt Ideal) X j = X (ix2 r q) := fun X => congrArg X hy
  unfold oblk
  rw [hread]
  show out1_4 _ _ _ _ (win1_4.xinj (grid1.coords t) j) = _
  rw [hx, out_entry]
  refine congrArg₂ (· * ·) (Finset.sum_congr rfl fun k _ => term_congr (fun k => ?_) (fun k => ?_) k) (congrArg₂ (· * ·) ?_ ?_)
  · exact congrArg (V c main_v3_1) (emb0 t r k)
  · exact congrArg (fun w : BitVec 8 => (FloatOps.sitofp .bf16 w : Ideal .bf16)) (fill2 t d2 (V c main_arg2) k l q hq)
  · exact congrArg (V c main_v3_2) (emb1 t r 0)
  · exact fill3 t d3 (V c main_v4) 0 l q hq

/-! ## The proof data -/

/-- Buffer contents that nobody reads. -/
def filler2 : Vec Ideal S8192x512 .i8 := fun _ => 0#8
def filler3 : Vec Ideal S1x512 .f32 := fun _ => (0 : EReal)
def filler4 : Vec Ideal S320x512 .bf16 := fun _ => (0 : EReal)

/-- After the body each input's buffer holds its block and the output's the block of the whole result, filled out past the
    arrays' end. -/
def dat1 (c : Dev nD) : Dat τ (Elt Ideal) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => win1_2.fill (grid1.coords t) filler2 (iblk1 V c 2 t)
    | ⟨3, _⟩ => win1_3.fill (grid1.coords t) filler3 (iblk1 V c 3 t)
    | ⟨4, _⟩ => win1_4.fill (grid1.coords t) filler4 (oblk V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = win1_2.fill (grid1.coords t) filler2 (iblk1 V c 2 t) := by dsimp only [dat1]
theorem after1_3 (c : Dev nD) (t : Fin cfg1.N) : (dat1 V c).after 3 t = win1_3.fill (grid1.coords t) filler3 (iblk1 V c 3 t) := by dsimp only [dat1]
theorem after1_4 (c : Dev nD) (t : Fin cfg1.N) : (dat1 V c).after 4 t = win1_4.fill (grid1.coords t) filler4 (oblk V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- The weights' buffer is fetched anew at every point: its block inside the array, anything past the end. -/
theorem before1_2 (c : Dev nD) (t : Fin cfg1.N) (d) : (dat1 V c).before 2 t d = win1_2.fill (grid1.coords t) d (iblk1 V c 2 t) := by
  unfold Dat.before; rw [if_pos (fetch1_2 t)]; rfl
theorem before1_3 (c : Dev nD) (t : Fin cfg1.N) (d) : (dat1 V c).before 3 t d = win1_3.fill (grid1.coords t) d (iblk1 V c 3 t) := by
  unfold Dat.before; rw [if_pos (fetch1_3 t)]; rfl

/-- The body at any point, as the pipeline asks for it. -/
theorem body_obligation1 (c : Dev nD) : BodyObligationLoose (dat1 V c) (defs₀ (F := Ideal)) Variants.none () Set.univ := fun t => by
  rw [bigSep_W1, bigSep_W1, defs₀_row1]
  simp only
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩⟩
  rw [before1_0 V c t d0, before1_1 V c t d1, before1_2 V c t d2, before1_3 V c t d3]
  unfold bodyAt1
  iapply (sound_kernel1 c Set.univ (grid1.coords t) _ _ _ _ _ _ _ _ _ _ (iblk1 V c 0 t) (iblk1 V c 1 t)
    (win1_2.fill (grid1.coords t) d2 (iblk1 V c 2 t)) (win1_3.fill (grid1.coords t) d3 (iblk1 V c 3 t)) _)
  isplitl [H0]; · iexact H0
  isplitl [H1]; · iexact H1
  isplitl [H2]; · iexact H2
  isplitl [H3]; · iexact H3
  isplitl [H4]; · iexists _; iexact H4
  iintro ⟨H0, H1, H2, H3, H4⟩
  have h2 : win1_2.cut (grid1.coords t) (win1_2.fill (grid1.coords t) filler2 (iblk1 V c 2 t)) = iblk1 V c 2 t := win1_2.cut_fill _ _ _
  have h3 : win1_3.cut (grid1.coords t) (win1_3.fill (grid1.coords t) filler3 (iblk1 V c 3 t)) = iblk1 V c 3 t := win1_3.cut_fill _ _ _
  have h4 : win1_4.cut (grid1.coords t) (win1_4.fill (grid1.coords t) filler4 (oblk V c t)) = oblk V c t := win1_4.cut_fill _ _ _
  have h4' := win1_4.fill_congr_cut (grid1.coords t) ((cut_out V c t d2 d3).trans h4.symm)
  isplitl [HΦ]; · iexact HΦ
  isplitl [Ho]; · iexact Ho
  isplitl [H0]; · rw [after1_0]; iexact H0
  isplitl [H1]; · rw [after1_1]; iexact H1
  isplitl [H2]
  · iexists d2
    rw [after1_2]
    change _ ⊢ owns (c : Thread nD τ) (st1_2 t) fullShare (win1_2.fill (grid1.coords t) d2 (win1_2.cut (grid1.coords t) (win1_2.fill (grid1.coords t) filler2 (iblk1 V c 2 t))))
    rw [h2]
  isplitl [H3]
  · iexists d3
    rw [after1_3]
    change _ ⊢ owns (c : Thread nD τ) (st1_3 t) fullShare (win1_3.fill (grid1.coords t) d3 (win1_3.cut (grid1.coords t) (win1_3.fill (grid1.coords t) filler3 (iblk1 V c 3 t))))
    rw [h3]
  iexists (out1_4 (iblk1 V c 0 t) (iblk1 V c 1 t) (win1_2.fill (grid1.coords t) d2 (iblk1 V c 2 t)) (win1_3.fill (grid1.coords t) d3 (iblk1 V c 3 t)))
  rw [after1_4]
  change _ ⊢ owns (c : Thread nD τ) (st1_4 t) fullShare (win1_4.fill (grid1.coords t) (out1_4 (iblk1 V c 0 t) (iblk1 V c 1 t) (win1_2.fill (grid1.coords t) d2 (iblk1 V c 2 t)) (win1_3.fill (grid1.coords t) d3 (iblk1 V c 3 t))) (win1_4.cut (grid1.coords t) (win1_4.fill (grid1.coords t) filler4 (oblk V c t))))
  rw [h4']

/-! ## The output array -/

/-- What point `t` writes back is block `t` of the whole result. -/
theorem flushed_eq (c : Dev nD) (t : Fin cfg1.N) : (dat1 V c).flushed 4 t = ((cfg1.win 4).blk t).view.read (Elt Ideal) (resultAt V c) := by
  unfold Dat.flushed
  rw [after1_4]
  exact win1_4.cut_fill _ _ _

theorem mem_blk (t : Fin cfg1.N) (j : (win1_4.xblock (grid1.coords t)).Idx) (i : S320x30816.Idx) (h : ((cfg1.win 4).blk t).view.emb j = i) :
    i ∈ ((cfg1.win 4).blk t).view.set :=
  h ▸ ((cfg1.win 4).blk t).view.emb_mem_set j

/-- Every entry lies in the block of the point that its column belongs to. -/
theorem covered (i : S320x30816.Idx) : ∃ t : Fin cfg1.N, (cfg1.win 4).flush t = true ∧ i ∈ ((cfg1.win 4).blk t).view.set := by
  have h0 : (i 0).val < 320 := (i 0).isLt
  have h1 : (i 1).val < 30816 := (i 1).isLt
  have hN : cfg1.N = 61 := N_1
  obtain ⟨t, ht⟩ : ∃ t : Fin cfg1.N, t.val = (i 1).val / 512 := ⟨⟨(i 1).val / 512, by omega⟩, rfl⟩
  have e := index_facts t
  have s := size_facts t
  refine ⟨t, flush1_4 _, mem_blk t (fun a => match a with
    | ⟨0, _⟩ => ⟨(i 0).val, show (i 0).val < win1_4.xsize (grid1.coords t) (0 : Fin 2) by omega⟩
    | ⟨1, _⟩ => ⟨(i 1).val % 512, show (i 1).val % 512 < win1_4.xsize (grid1.coords t) (1 : Fin 2) by omega⟩) i ?_⟩
  funext a; apply Fin.ext
  match a with
  | ⟨0, _⟩ => show win1_4.index t (0 : Fin 2) * 320 + 1 * (i 0).val = (i 0).val; omega
  | ⟨1, _⟩ => show win1_4.index t (1 : Fin 2) * 512 + 1 * ((i 1).val % 512) = (i 1).val; omega

/-- The output array after the run. -/
theorem final_eq (c : Dev nD) : (dat1 V c).arrAt 4 cfg1.N = resultAt V c :=
  (dat1 V c).arrAt_eq_of_cover 4 _ (fun t _ => flushed_eq V c t) covered

end Regions

variable (m : (ℓ : Loc nD τ sig) → Buf (Elt Ideal) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt Ideal))).Forall fun op => op.fresh = ∅ := by
  simp only [List.Forall]; repeat' constructor
/-- The reference each operation of `hostOps0` writes, in order. -/
abbrev hostOps0_W : List (Ref sig .tc) := [main_v0, main_v1, main_v2]
theorem hostOps0_writes : (hostOps0 : List (HloOp τ sig (Elt Ideal))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt Ideal))).Forall fun op => op.fresh = ∅ := by
  simp only [List.Forall]; repeat' constructor
/-- The reference each operation of `hostOps1` writes, in order. -/
abbrev hostOps1_W : List (Ref sig .tc) := [main_v4]
theorem hostOps1_writes : (hostOps1 : List (HloOp τ sig (Elt Ideal))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt Ideal) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt Ideal) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt Ideal) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt Ideal) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt Ideal) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt Ideal) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt Ideal) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt Ideal) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt Ideal) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)

/-! ## The proof data family and the thread state -/

/-- The prefetched tables' admissible contents: no pipeline has a table. -/
abbrev adm : (p : Fin 2) → (pcfgs (F := Ideal) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt Ideal) Unit ℕ (UR sig nD τ) ℕ (Pipeline.pin (pcfgs (F := Ideal)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unification may unfold plain definitions in a metavariable's type: the pinned configuration
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := Ideal)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := Ideal) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run ends with every array outside the kernels' scratch at the contents that the last call leaves, and every
    counter at zero. -/
theorem run : θ_run defs (onTc (τ := τ) (main (F := Ideal))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, reg1]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

end Cert.Proof.ProjectRun

end
-- ==== Proof.ProjectSpec.lean ====
/-
  What the input projection gives from the matrix of rows, the norm's weights, the codes of the weights and their scales: each
  row is normalised and quantised, its codes are multiplied with the codes of the weights, and the sum is scaled by both scales.
-/
module

public import proofs.«01_k».proof.Proof.QuantIn

@[expose] public section

noncomputable section

namespace Cert.Proof.ProjectSpec

open Idealize.ShloMosaic Idealize.ShloMosaic.ValueIdx
open Cert.Proof.Products Cert.Proof.Quant Cert.Proof.QuantIn
open scoped BigOperators

/-- The projected rows: `X` the rows, `W` the norm's weights, `C` the codes of the projection's weights, `S` their scales. -/
def proj (X : Vec Ideal ⟨2, ![320, 8192]⟩ .bf16) (W : Vec Ideal ⟨2, ![1, 8192]⟩ .f32) (C : Vec Ideal ⟨2, ![8192, 30816]⟩ .i8)
    (S : Vec Ideal ⟨2, ![1, 30816]⟩ .f32) : Vec Ideal ⟨2, ![320, 30816]⟩ .bf16 := fun i =>
  (∑ k : Fin 8192, codeOf (rowOf X W (i 0)) k * (FloatOps.sitofp (F := Ideal) .bf16 (C (ix2 k (i 1))) : EReal))
    * (scaleOf (rowOf X W (i 0)) * S (ix2 (0 : Fin 1) (i 1)))

end Cert.Proof.ProjectSpec

end
-- ==== Proof.ProjectKernel.lean ====
/-
  The input projection from `x`: the kernel's arrays after its run, and its result read from them.
-/
module

public import proofs.«01_k».proof.Proof.ProjectRun
public import proofs.«01_k».proof.Proof.ProjectSpec

@[expose] public section

set_option maxRecDepth 16384

noncomputable section

namespace Cert.Proof.ProjectKernel

open Idealize.ShloMosaic Idealize.ShloMosaic.ValueIdx Idealize.ShloMosaic.TcCoe Idealize.SL.Sem
open Idealize.ShloMosaic.Tactic
open Cert.Proof.Products Cert.Proof.Quant Cert.Proof.QuantIn
open Cert.ProjectIdeal Cert.ProjectIdeal.Gen Cert.Proof.ProjectRun
open scoped BigOperators

/-! ### The quantiser -/

theorem norm_entry (a0 : Vec Ideal S64x8192 .bf16) (a1 : Vec Ideal S1x8192 .f32) (r : Fin 64) (j : Fin 8192) : k0_pay1 (F := Ideal) a0 a1 (ix2 r j) = rowOf a0 a1 r j := by
  have e := (column_apply _ shapeCasts_S64_S64x1 r).trans
    (rowSum_apply (mulf (extf .f32 a0 bitsLt_bf16_f32) (extf .f32 a0 bitsLt_bf16_f32)) reduces_S64x8192_S64 (.inl rfl) rfl r)
  simp only [k0_pay1, shapeCast_self]
  rw [mulf_apply, mulf_apply, extf_apply]
  rw [bcast_col, bcast_row, rsqrt_mul]
  simp only [mulf_apply, extf_apply] at e
  unfold rowOf normOf
  rw [div_8192, ← e]

theorem scale_entry (a0 : Vec Ideal S64x8192 .bf16) (a1 : Vec Ideal S1x8192 .f32) (r : Fin 64) : k0_pay2 (F := Ideal) a0 a1 (ix2 r (0 : Fin 1)) = scaleOf (rowOf a0 a1 r) :=
  (scale_apply (k0_pay1 (F := Ideal) a0 a1) reduces_S64x8192_S64 (.inl rfl) rfl shapeCasts_S64_S64x1 r).trans (congrArg scaleOf (funext fun k => norm_entry a0 a1 r k))

theorem code_entry (a0 : Vec Ideal S64x8192 .bf16) (a1 : Vec Ideal S1x8192 .f32) (r : Fin 64) (j : Fin 8192) : k0_pay3 (F := Ideal) a0 a1 (ix2 r j) = codeOf (rowOf a0 a1 r) j :=
  (code_apply (k0_pay1 (F := Ideal) a0 a1) (k0_pay2 (F := Ideal) a0 a1) broadcasts_S64x1_S64x8192 r ((scale_entry a0 a1 r).trans (congrArg scaleOf (funext fun k => (norm_entry a0 a1 r k).symm))) j).trans (congrArg (fun v => codeOf v j) (funext fun k => norm_entry a0 a1 r k))

theorem codeb_entry (a0 : Vec Ideal S64x8192 .bf16) (a1 : Vec Ideal S1x8192 .f32) (r : Fin 64) (j : Fin 8192) : k0_pay5 (F := Ideal) a0 a1 (ix2 r j) = codeOf (rowOf a0 a1 r) j :=
  code_entry a0 a1 r j

theorem lanes_entry (a0 : Vec Ideal S64x8192 .bf16) (a1 : Vec Ideal S1x8192 .f32) (r : Fin 64) (j : Fin 128) : k0_pay6 (F := Ideal) a0 a1 (ix2 r j) = scaleOf (rowOf a0 a1 r) :=
  (lanes_apply (k0_pay2 (F := Ideal) a0 a1) shapeCasts_S64x1_S64x1 broadcasts_S64x1_S64x128 r j).trans (scale_entry a0 a1 r)

/-- The block of point `t` is rows `64 t ‥ 64 t + 63`, and all of the weights. -/
theorem blocks0 : ∀ t : Fin cfg0.N, win0_0.index t (0 : Fin 2) = t.val ∧ win0_0.index t (1 : Fin 2) = 0 ∧ win0_2.index t (0 : Fin 2) = t.val ∧ win0_2.index t (1 : Fin 2) = 0 ∧ win0_3.index t (0 : Fin 2) = t.val ∧ win0_3.index t (1 : Fin 2) = 0 ∧ win0_4.index t (0 : Fin 2) = t.val ∧ win0_4.index t (1 : Fin 2) = 0 ∧ win0_1.index t (0 : Fin 2) = 0 ∧ win0_1.index t (1 : Fin 2) = 0 ∧ t.val < 5 :=
  (by decide +kernel : ∀ t : Fin grid0.N, _)

/-- Row `r` of block `t`, as a row of the array. -/
def row (t : Fin cfg0.N) (r : Fin 64) : Fin 320 := ⟨64 * t.val + r.val, by have := blocks0 t; omega⟩

theorem emb0 (t : Fin cfg0.N) (r : Fin 64) (k : Fin 8192) : ((cfg0.win 0).blk t).view.emb (ix2 r k) = ix2 (row t r) k := by
  have e := blocks0 t
  funext a; apply Fin.ext
  match a with
  | ⟨0, _⟩ => show win0_0.index t (0 : Fin 2) * 64 + 1 * r.val = 64 * t.val + r.val; omega
  | ⟨1, _⟩ => show win0_0.index t (1 : Fin 2) * 8192 + 1 * k.val = k.val; omega

theorem emb3 (t : Fin cfg0.N) (r : Fin 64) (k : Fin 8192) : ((cfg0.win 3).blk t).view.emb (ix2 r k) = ix2 (row t r) k := by
  have e := blocks0 t
  funext a; apply Fin.ext
  match a with
  | ⟨0, _⟩ => show win0_3.index t (0 : Fin 2) * 64 + 1 * r.val = 64 * t.val + r.val; omega
  | ⟨1, _⟩ => show win0_3.index t (1 : Fin 2) * 8192 + 1 * k.val = k.val; omega

theorem emb4 (t : Fin cfg0.N) (r : Fin 64) (k : Fin 128) : ((cfg0.win 4).blk t).view.emb (ix2 r k) = ix2 (row t r) k := by
  have e := blocks0 t
  funext a; apply Fin.ext
  match a with
  | ⟨0, _⟩ => show win0_4.index t (0 : Fin 2) * 64 + 1 * r.val = 64 * t.val + r.val; omega
  | ⟨1, _⟩ => show win0_4.index t (1 : Fin 2) * 128 + 1 * k.val = k.val; omega

theorem emb1 (t : Fin cfg0.N) (r : Fin 1) (k : Fin 8192) : ((cfg0.win 1).blk t).view.emb (ix2 r k) = ix2 r k := by
  have e := blocks0 t
  funext a; apply Fin.ext
  match a with
  | ⟨0, _⟩ => show win0_1.index t (0 : Fin 2) * 1 + 1 * r.val = r.val; omega
  | ⟨1, _⟩ => show win0_1.index t (1 : Fin 2) * 8192 + 1 * k.val = k.val; omega

variable (V : (c : Dev nD) → (b : Ref sig .tc) → Buf (Elt Ideal) ((c : Thread nD τ).loc b))

/-- A row of the block is that row of the array. -/
theorem rowOf_iblk0 (c : Dev nD) (t : Fin cfg0.N) (r : Fin 64) : rowOf (iblk0 V c 0 t) (iblk0 V c 1 t) r = rowOf (V c main_v1) (V c main_v2) (row t r) := by
  have e0 : (fun k : Fin 8192 => (iblk0 V c 0 t : Vec Ideal S64x8192 .bf16) (ix2 r k)) = fun k => V c main_v1 (ix2 (row t r) k) :=
    funext fun k => congrArg (V c main_v1) (emb0 t r k)
  have e1 : ∀ k : Fin 8192, (iblk0 V c 1 t : Vec Ideal S1x8192 .f32) (ix2 (0 : Fin 1) k) = V c main_v2 (ix2 (0 : Fin 1) k) :=
    fun k => congrArg (V c main_v2) (emb1 t 0 k)
  funext k
  show normOf (fun k : Fin 8192 => (iblk0 V c 0 t : Vec Ideal S64x8192 .bf16) (ix2 r k)) ((iblk0 V c 1 t : Vec Ideal S1x8192 .f32) (ix2 (0 : Fin 1) k)) k = _
  rw [e0, e1]
  rfl

/-- What point `t` writes back to window 3 is its rows of the whole result. -/
theorem flushed3_eq (c : Dev nD) (t : Fin cfg0.N) :
    (dat0 V c).flushed 3 t = ((cfg0.win 3).blk t).view.read (Elt Ideal) (codes (V c main_v1) (V c main_v2)) := by
  show (cfg0.win 3).cut (grid0.coords t) ((dat0 V c).after 3 t) = _
  rw [after0_3]
  funext j
  obtain ⟨r, j, rfl⟩ : ∃ (r : Fin 64) (j' : Fin 8192), j = ix2 r j' := ⟨j 0, j 1, eq_ix2 j⟩
  have hr : ∀ X : Vec Ideal S320x8192 .bf16, ((cfg0.win 3).blk t).view.read (Elt Ideal) X (ix2 r j) = X (ix2 (row t r) j) :=
    fun X => congrArg X (emb3 t r j)
  refine Eq.trans ?_ (hr _).symm
  show out0_3 (iblk0 V c 0 t) (iblk0 V c 1 t) (ix2 r j) = _
  unfold out0_3
  rw [View.canon_unit_zero hz, View.ld_unit_zero (S := S64x8192) hz _ (iblk0 V c 0 t), View.ld_unit_zero (S := S1x8192) hz _ (iblk0 V c 1 t)]
  exact (codeb_entry (iblk0 V c 0 t) (iblk0 V c 1 t) r j).trans (congrArg (fun v => codeOf v j) (rowOf_iblk0 V c t r))

theorem mem_blk3 (t : Fin cfg0.N) (r : Fin 64) (j : Fin 8192) : ix2 (row t r) j ∈ ((cfg0.win 3).blk t).view.set :=
  emb3 t r j ▸ ((cfg0.win 3).blk t).view.emb_mem_set (ix2 r j)

theorem covered3 (i : S320x8192.Idx) : ∃ t : Fin cfg0.N, (cfg0.win 3).flush t = true ∧ i ∈ ((cfg0.win 3).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_3 _, ?_⟩
  rw [e]
  exact mem_blk3 _ _ _

theorem final3_eq (c : Dev nD) : (dat0 V c).arrAt 3 cfg0.N = codes (V c main_v1) (V c main_v2) :=
  (dat0 V c).arrAt_eq_of_cover 3 _ (fun t _ => flushed3_eq V c t) covered3

/-- What point `t` writes back to window 4 is its rows of the whole result. -/
theorem flushed4_eq (c : Dev nD) (t : Fin cfg0.N) :
    (dat0 V c).flushed 4 t = ((cfg0.win 4).blk t).view.read (Elt Ideal) (scales (V c main_v1) (V c main_v2)) := by
  show (cfg0.win 4).cut (grid0.coords t) ((dat0 V c).after 4 t) = _
  rw [after0_4]
  funext j
  obtain ⟨r, j, rfl⟩ : ∃ (r : Fin 64) (j' : Fin 128), j = ix2 r j' := ⟨j 0, j 1, eq_ix2 j⟩
  have hr : ∀ X : Vec Ideal S320x128 .f32, ((cfg0.win 4).blk t).view.read (Elt Ideal) X (ix2 r j) = X (ix2 (row t r) j) :=
    fun X => congrArg X (emb4 t r j)
  refine Eq.trans ?_ (hr _).symm
  show out0_4 (iblk0 V c 0 t) (iblk0 V c 1 t) (ix2 r j) = _
  unfold out0_4
  rw [View.canon_unit_zero hz, View.ld_unit_zero (S := S64x8192) hz _ (iblk0 V c 0 t), View.ld_unit_zero (S := S1x8192) hz _ (iblk0 V c 1 t)]
  exact (lanes_entry (iblk0 V c 0 t) (iblk0 V c 1 t) r j).trans (congrArg (scaleOf) (rowOf_iblk0 V c t r))

theorem mem_blk4 (t : Fin cfg0.N) (r : Fin 64) (j : Fin 128) : ix2 (row t r) j ∈ ((cfg0.win 4).blk t).view.set :=
  emb4 t r j ▸ ((cfg0.win 4).blk t).view.emb_mem_set (ix2 r j)

theorem covered4 (i : S320x128.Idx) : ∃ t : Fin cfg0.N, (cfg0.win 4).flush t = true ∧ i ∈ ((cfg0.win 4).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_4 _, ?_⟩
  rw [e]
  exact mem_blk4 _ _ _

theorem final4_eq (c : Dev nD) : (dat0 V c).arrAt 4 cfg0.N = scales (V c main_v1) (V c main_v2) :=
  (dat0 V c).arrAt_eq_of_cover 4 _ (fun t _ => flushed4_eq V c t) covered4

/-! ### What the calls find -/

variable (m : (ℓ : Loc nD τ sig) → Buf (Elt Ideal) ℓ) (ρ : Dev nD → PrngReg) (c : Dev nD)

/-- The rows, time-major. -/
abbrev rows (x : Vec Ideal S64x5x8192 .bf16) : Vec Ideal S320x8192 .bf16 :=
  shapeCast S320x8192 (transpose S5x64x8192 [1, 0, 2] x transposes_S64x5x8192_S5x64x8192_1_0_2) shapeCasts_S5x64x8192_S320x8192
/-- The norm's weights, as one row. -/
abbrev normRow (w : Vec Ideal S8192 .f32) : Vec Ideal S1x8192 .f32 := broadcastInDim S1x8192 ![1] bcast_S8192_S1x8192_1 w
/-- The scales of the projection's weights, as one row. -/
abbrev scaleRow (s : Vec Ideal S30816 .f32) : Vec Ideal S1x30816 .f32 := broadcastInDim S1x30816 ![1] bcast_S30816_S1x30816_1 s

theorem found_x : (V1 m ρ c main_v1 : Vec Ideal S320x8192 .bf16) = rows (m ((c : Thread nD τ).loc main_arg0)) := by
  show StableHlo.after hostOps0 _ (Proc.devRef .tc main_v1) = _
  after_results
  rfl

theorem found_w : (V1 m ρ c main_v2 : Vec Ideal S1x8192 .f32) = normRow (m ((c : Thread nD τ).loc main_arg1)) := by
  show StableHlo.after hostOps0 _ (Proc.devRef .tc main_v2) = _
  after_results

theorem found_codes : (V3 m ρ c main_v3_1 : Vec Ideal S320x8192 .bf16)
    = codes (rows (m ((c : Thread nD τ).loc main_arg0))) (normRow (m ((c : Thread nD τ).loc main_arg1))) := by
  refine (W3_of m ρ c main_v3_1 (by decide)).trans ((W2_arr m ρ c 3).trans ((final3_eq (V1 m ρ) c).trans ?_))
  rw [found_x, found_w]

theorem found_scales : (V3 m ρ c main_v3_2 : Vec Ideal S320x128 .f32)
    = scales (rows (m ((c : Thread nD τ).loc main_arg0))) (normRow (m ((c : Thread nD τ).loc main_arg1))) := by
  refine (W3_of m ρ c main_v3_2 (by decide)).trans ((W2_arr m ρ c 4).trans ((final4_eq (V1 m ρ) c).trans ?_))
  rw [found_x, found_w]

theorem found_wc : (V3 m ρ c main_arg2 : Vec Ideal S8192x30816 .i8) = m ((c : Thread nD τ).loc main_arg2) :=
  W3_args m ρ c main_arg2 (by decide)

theorem found_ws : (V3 m ρ c main_v4 : Vec Ideal S1x30816 .f32) = scaleRow (m ((c : Thread nD τ).loc main_arg3)) := by
  have e : (V3 m ρ c main_v4 : Vec Ideal S1x30816 .f32) = scaleRow (W2 m ρ c (Proc.devRef .tc main_arg3) : Vec Ideal S30816 .f32) := by
    show StableHlo.after hostOps1 _ (Proc.devRef .tc main_v4) = _
    after_results
  rw [e, W2_args m ρ c main_arg3 (by decide)]

/-! ### The result -/

theorem out_eq : (W4 m ρ c (Proc.devRef .tc main_v5) : Vec Ideal S320x30816 .bf16)
    = ProjectSpec.proj (rows (m ((c : Thread nD τ).loc main_arg0))) (normRow (m ((c : Thread nD τ).loc main_arg1)))
        (m ((c : Thread nD τ).loc main_arg2)) (scaleRow (m ((c : Thread nD τ).loc main_arg3))) := by
  refine (W4_arr m ρ c 4).trans ((ProjectRun.final_eq (V3 m ρ) c).trans ?_)
  show result (V3 m ρ c main_v3_1) (V3 m ρ c main_v3_2) (V3 m ρ c main_arg2) (V3 m ρ c main_v4) = _
  rw [found_codes, found_scales, found_wc, found_ws]
  funext i
  exact congrArg (· * _) (sum_term _ _ _ _).symm

end Cert.Proof.ProjectKernel

end
-- ==== Proof.RoundTrip.lean ====
/-
  A code is an integer between -127 and 127, so it survives the way through a byte: converted to a byte and back it is
  the number that it was. This holds of every row, infinite entries included, since the clip comes after the rounding.
-/
module

public import proofs.«01_k».proof.Proof.Quant

@[expose] public section

noncomputable section

namespace Cert.Proof.RoundTrip

open Idealize.ShloMosaic Cert.Proof.Quant

theorem word_127 : Ideal.ofBits .f32 0x42FE0000#32 = ((127 : ℤ) : ℝ) := by
  simp [Ideal.ofBits, Ideal.ieee, -EReal.coe_mul]; norm_num

theorem word_neg_127 : Ideal.ofBits .f32 0xC2FE0000#32 = ((-127 : ℤ) : ℝ) := by
  simp [Ideal.ofBits, Ideal.ieee, -EReal.coe_mul]; norm_num

/-- A number rounded and clipped to `-127 ‥ 127` is an integer of that range. -/
theorem clip_int (q : EReal) : ∃ n : ℤ, -127 ≤ n ∧ n ≤ 127
    ∧ min (Ideal.ofBits .f32 0x42FE0000#32) (max (Ideal.ofBits .f32 0xC2FE0000#32) (FloatOps.roundeven (F := Ideal) (φ := .f32) q)) = ((n : ℝ) : EReal) := by
  rw [word_127, word_neg_127]
  induction q with
  | bot =>
    refine ⟨-127, le_refl _, by norm_num, ?_⟩
    show min (((127 : ℤ) : ℝ) : EReal) (max (((-127 : ℤ) : ℝ) : EReal) ⊥) = _
    rw [max_bot_right, min_eq_right (EReal.coe_le_coe_iff.2 (by norm_num))]
  | top =>
    refine ⟨127, by norm_num, le_refl _, ?_⟩
    show min (((127 : ℤ) : ℝ) : EReal) (max (((-127 : ℤ) : ℝ) : EReal) ⊤) = _
    rw [max_top_right, min_top_right]
  | coe r =>
    refine ⟨min 127 (max (-127) (Ideal.roundHalfEven r)), by omega, by omega, ?_⟩
    show min (((127 : ℤ) : ℝ) : EReal) (max (((-127 : ℤ) : ℝ) : EReal) (((Ideal.roundHalfEven r : ℤ) : ℝ) : EReal)) = _
    rw [Int.cast_min, Int.cast_max, EReal.coe_strictMono.monotone.map_min, EReal.coe_strictMono.monotone.map_max]

/-- An integer of that range, made a byte and read back as a number. -/
theorem byte_int (n : ℤ) (h : -127 ≤ n) (h' : n ≤ 127) :
    (FloatOps.sitofp (F := Ideal) .bf16 (FloatOps.fptosi (F := Ideal) (φ := .f32) 8 (((n : ℝ) : EReal) : Ideal .f32)) : EReal) = ((n : ℝ) : EReal) := by
  have e : Ideal.fptosi 8 ((n : ℝ) : EReal) = BitVec.ofInt 8 n := by
    rw [Ideal.fptosi, Ideal.toIntClamped_coe, Int.floor_intCast, Int.ceil_intCast]
    congr 1
    split <;> (norm_num; omega)
  have e' : (BitVec.ofInt 8 n).toInt = n := by
    rw [BitVec.toInt_ofInt, Int.bmod_def]
    norm_num
    omega
  show ((((Ideal.fptosi 8 ((n : ℝ) : EReal)).toInt : ℤ) : ℝ) : EReal) = _
  rw [e, e']

/-- A code, made a byte and read back, is the code. -/
theorem code_byte {K : ℕ} (v : Fin K → EReal) (j : Fin K) :
    (FloatOps.sitofp (F := Ideal) .bf16 (FloatOps.fptosi (F := Ideal) (φ := .f32) 8 (codeOf v j)) : EReal) = codeOf v j := by
  obtain ⟨n, h, h', e⟩ := clip_int (Ideal.div (v j) (scaleOf v))
  have e' : codeOf v j = ((n : ℝ) : EReal) := e
  rw [e']
  exact byte_int n h h'

end Cert.Proof.RoundTrip

end
-- ==== Proof.ProjectRef.lean ====
/-
  The reference for the input projection from `x`: it has one grid point, at which every block is its array, so its result is
  its body's formulas at the arrays.
-/
module

public import proofs.«01_k».proof.Proof.Gen.ProjectRefIdeal.Frame
public import proofs.«01_k».proof.Proof.RoundTrip
public import proofs.«01_k».proof.Proof.ProjectSpec

@[expose] public section

set_option maxRecDepth 16384

noncomputable section

namespace Cert.Proof.ProjectRef

open Idealize.ShloMosaic Idealize.ShloMosaic.ValueIdx Idealize.ShloMosaic.TcCoe Idealize.SL.Sem
open Idealize.ShloMosaic.Tactic
open Cert.Proof.Products Cert.Proof.Quant Cert.Proof.QuantIn Cert.Proof.ProjectSpec
open Cert.ProjectRefIdeal Cert.ProjectRefIdeal.Gen
open scoped BigOperators

/-! ### Entries of what the body computes -/

theorem norm_entry (a0 : Vec Ideal S320x8192 .bf16) (a1 : Vec Ideal S1x8192 .f32) (r : Fin 320) (j : Fin 8192) : k0_pay2 (F := Ideal) a0 a1 (ix2 r j) = rowOf a0 a1 r j := by
  have e := (column_apply _ shapeCasts_S320_S320x1 r).trans
    (rowSum_apply (mulf (extf .f32 a0 bitsLt_bf16_f32) (extf .f32 a0 bitsLt_bf16_f32)) reduces_S320x8192_S320 (.inl rfl) rfl r)
  simp only [k0_pay2, shapeCast_self]
  rw [mulf_apply, mulf_apply, extf_apply]
  rw [bcast_col, bcast_row]
  simp only [mulf_apply, extf_apply] at e
  unfold rowOf normOf
  rw [← e]
  rfl

theorem scale_entry (a0 : Vec Ideal S320x8192 .bf16) (a1 : Vec Ideal S1x8192 .f32) (r : Fin 320) : k0_pay3 (F := Ideal) a0 a1 (ix2 r (0 : Fin 1)) = scaleOf (rowOf a0 a1 r) :=
  (scale_apply (k0_pay2 (F := Ideal) a0 a1) reduces_S320x8192_S320 (.inl rfl) rfl shapeCasts_S320_S320x1 r).trans (congrArg scaleOf (funext fun k => norm_entry a0 a1 r k))

/-- The codes, clipped and rounded but not yet bytes. -/
def codeVec (a0 : Vec Ideal S320x8192 .bf16) (a1 : Vec Ideal S1x8192 .f32) : FVec Ideal S320x8192 .f32 :=
  minimumf (broadcast S320x8192 (Scalar.ofBits (F := Ideal) .f32 0x42FE0000#32)) (maximumf (broadcast S320x8192 (Scalar.ofBits (F := Ideal) .f32 0xC2FE0000#32))
    (roundeven (divf (k0_pay2 (F := Ideal) a0 a1) (broadcastTo S320x8192 (k0_pay3 (F := Ideal) a0 a1) broadcasts_S320x1_S320x8192))))

theorem codeVec_entry (a0 : Vec Ideal S320x8192 .bf16) (a1 : Vec Ideal S1x8192 .f32) (r : Fin 320) (j : Fin 8192) : codeVec a0 a1 (ix2 r j) = codeOf (rowOf a0 a1 r) j :=
  (code_apply (k0_pay2 (F := Ideal) a0 a1) (k0_pay3 (F := Ideal) a0 a1) broadcasts_S320x1_S320x8192 r ((scale_entry a0 a1 r).trans (congrArg scaleOf (funext fun k => (norm_entry a0 a1 r k).symm))) j).trans (congrArg (fun v => codeOf v j) (funext fun k => norm_entry a0 a1 r k))

/-- A code made a byte and read back is the code. -/
theorem code_entry (a0 : Vec Ideal S320x8192 .bf16) (a1 : Vec Ideal S1x8192 .f32) (r : Fin 320) (j : Fin 8192) :
    sitofp (F := Ideal) .bf16 (fptosi (F := Ideal) 8 (codeVec a0 a1)) (ix2 r j) = codeOf (rowOf a0 a1 r) j :=
  (congrArg (fun v : EReal => FloatOps.sitofp (F := Ideal) .bf16 (FloatOps.fptosi (F := Ideal) (φ := .f32) 8 v)) (codeVec_entry a0 a1 r j)).trans (RoundTrip.code_byte _ j)

theorem prod_entry (a0 : Vec Ideal S320x8192 .bf16) (a1 : Vec Ideal S1x8192 .f32) (a2 : Vec Ideal S8192x30816 .i8) (r : Fin 320) (j : Fin 30816) :
    k0_pay4 (F := Ideal) a0 a1 a2 (ix2 r j)
      = ∑ k : Fin 8192, codeOf (rowOf a0 a1 r) k * (FloatOps.sitofp (F := Ideal) .bf16 (a2 (ix2 k j)) : EReal) :=
  (matmul_entry dot_S320x8192_S8192x30816_S320x30816_1_0_0_1_n_n rfl (sitofp (F := Ideal) .bf16 (fptosi (F := Ideal) 8 (codeVec a0 a1))) (sitofp (F := Ideal) .bf16 a2) r j).trans
    (Finset.sum_congr rfl fun k _ => congrArg (· * (FloatOps.sitofp (F := Ideal) .bf16 (a2 (ix2 k j)) : EReal)) (code_entry a0 a1 r k))

/-- What the body does after its product, at an entry. -/
theorem post_entry (P : FVec Ideal S320x30816 .f32) (s : FVec Ideal S320x1 .f32) (a3 : Vec Ideal S1x30816 .f32) (r : Fin 320) (j : Fin 30816) :
    k0_pay1 (F := Ideal) P (broadcastTo S320x30816 s broadcasts_S320x1_S320x30816) (k0_pay6 (F := Ideal) a3) (ix2 r j)
      = (P (ix2 r j) * (s (ix2 r (0 : Fin 1)) * a3 (ix2 (0 : Fin 1) j)) : EReal) := by
  simp only [k0_pay1, k0_pay6, truncf_apply, mulf_apply, shapeCast_self]
  rw [bcast_col, bcast_row]

theorem out_entry (a0 : Vec Ideal S320x8192 .bf16) (a1 : Vec Ideal S1x8192 .f32) (a2 : Vec Ideal S8192x30816 .i8) (a3 : Vec Ideal S1x30816 .f32)
    (r : Fin 320) (j : Fin 30816) :
    k0_pay1 (F := Ideal) (k0_pay4 (F := Ideal) a0 a1 a2) (k0_pay5 (F := Ideal) a0 a1) (k0_pay6 (F := Ideal) a3) (ix2 r j) = proj a0 a1 a2 a3 (ix2 r j) :=
  (post_entry (k0_pay4 (F := Ideal) a0 a1 a2) (k0_pay3 (F := Ideal) a0 a1) a3 r j).trans
    (congrArg₂ (fun p q : EReal => p * (q * a3 (ix2 (0 : Fin 1) j))) (prod_entry a0 a1 a2 r j) (scale_entry a0 a1 r))

theorem hz : (![0, 0] : Fin 2 → Nat) = fun _ => 0 := funext fun a => by fin_cases a <;> rfl

theorem out4_eq (a0 : Vec Ideal S320x8192 .bf16) (a1 : Vec Ideal S1x8192 .f32) (a2 : Vec Ideal S8192x30816 .i8) (a3 : Vec Ideal S1x30816 .f32) :
    out0_4 (F := Ideal) a0 a1 a2 a3 = proj a0 a1 a2 a3 := by
  unfold out0_4
  rw [View.canon_unit_zero hz, View.ld_unit_zero (S := S320x8192) hz _ a0, View.ld_unit_zero (S := S1x8192) hz _ a1,
    View.ld_unit_zero (S := S8192x30816) hz _ a2, View.ld_unit_zero (S := S1x30816) hz _ a3]
  funext i
  obtain ⟨r, j, rfl⟩ : ∃ (r : Fin 320) (j : Fin 30816), i = ix2 r j := ⟨i 0, i 1, eq_ix2 i⟩
  exact out_entry a0 a1 a2 a3 r j

/-! ### At the one grid point every block is its array -/

/-- Every block's index is zero. -/
theorem index_facts : ∀ t : Fin cfg0.N, win0_0.index t (0 : Fin 2) = 0 ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 :=
  (by decide +kernel : ∀ t : Fin grid0.N, _)

variable (m : (ℓ : Loc nD τ sig) → Buf (Elt Ideal) ℓ) (ρ : Dev nD → PrngReg) (c : Dev nD)

theorem emb0 (t : Fin cfg0.N) (j : S320x8192.Idx) : ((cfg0.win 0).blk t).view.emb j = j := by
  have e := index_facts t
  funext a; apply Fin.ext
  match a with
  | ⟨0, _⟩ => show win0_0.index t (0 : Fin 2) * 320 + 1 * (j 0).val = (j 0).val; omega
  | ⟨1, _⟩ => show win0_0.index t (1 : Fin 2) * 8192 + 1 * (j 1).val = (j 1).val; omega

theorem iblk0_eq (t : Fin cfg0.N) : iblk m c 0 t = V m c main_v1 := by
  funext j; show V m c main_v1 (((cfg0.win 0).blk t).view.emb j) = V m c main_v1 j; rw [emb0]

theorem emb1 (t : Fin cfg0.N) (j : S1x8192.Idx) : ((cfg0.win 1).blk t).view.emb j = j := by
  have e := index_facts t
  funext a; apply Fin.ext
  match a with
  | ⟨0, _⟩ => show win0_1.index t (0 : Fin 2) * 1 + 1 * (j 0).val = (j 0).val; omega
  | ⟨1, _⟩ => show win0_1.index t (1 : Fin 2) * 8192 + 1 * (j 1).val = (j 1).val; omega

theorem iblk1_eq (t : Fin cfg0.N) : iblk m c 1 t = V m c main_v2 := by
  funext j; show V m c main_v2 (((cfg0.win 1).blk t).view.emb j) = V m c main_v2 j; rw [emb1]

theorem emb2 (t : Fin cfg0.N) (j : S8192x30816.Idx) : ((cfg0.win 2).blk t).view.emb j = j := by
  have e := index_facts t
  funext a; apply Fin.ext
  match a with
  | ⟨0, _⟩ => show win0_2.index t (0 : Fin 2) * 8192 + 1 * (j 0).val = (j 0).val; omega
  | ⟨1, _⟩ => show win0_2.index t (1 : Fin 2) * 30816 + 1 * (j 1).val = (j 1).val; omega

theorem iblk2_eq (t : Fin cfg0.N) : iblk m c 2 t = V m c main_arg2 := by
  funext j; show V m c main_arg2 (((cfg0.win 2).blk t).view.emb j) = V m c main_arg2 j; rw [emb2]

theorem emb3 (t : Fin cfg0.N) (j : S1x30816.Idx) : ((cfg0.win 3).blk t).view.emb j = j := by
  have e := index_facts t
  funext a; apply Fin.ext
  match a with
  | ⟨0, _⟩ => show win0_3.index t (0 : Fin 2) * 1 + 1 * (j 0).val = (j 0).val; omega
  | ⟨1, _⟩ => show win0_3.index t (1 : Fin 2) * 30816 + 1 * (j 1).val = (j 1).val; omega

theorem iblk3_eq (t : Fin cfg0.N) : iblk m c 3 t = V m c main_v3 := by
  funext j; show V m c main_v3 (((cfg0.win 3).blk t).view.emb j) = V m c main_v3 j; rw [emb3]

theorem emb4 (t : Fin cfg0.N) (j : S320x30816.Idx) : ((cfg0.win 4).blk t).view.emb j = j := by
  have e := index_facts t
  funext a; apply Fin.ext
  match a with
  | ⟨0, _⟩ => show win0_4.index t (0 : Fin 2) * 320 + 1 * (j 0).val = (j 0).val; omega
  | ⟨1, _⟩ => show win0_4.index t (1 : Fin 2) * 30816 + 1 * (j 1).val = (j 1).val; omega

theorem cut4_eq (t : Fin cfg0.N) (X : Vec Ideal S320x30816 .bf16) : (cfg0.win 4).cut (grid0.coords t) X = ((cfg0.win 4).blk t).view.read (Elt Ideal) X := by
  funext j
  show X j = X (((cfg0.win 4).blk t).view.emb j)
  rw [emb4]

theorem flushed4_eq (t : Fin cfg0.N) : (dats m 0 c).flushed 4 t
    = ((cfg0.win 4).blk t).view.read (Elt Ideal) (proj (V m c main_v1) (V m c main_v2) (V m c main_arg2) (V m c main_v3)) := by
  show (cfg0.win 4).cut (grid0.coords t) ((dats m 0 c).after 4 t) = _
  rw [after0_4, out4_eq, iblk0_eq, iblk1_eq, iblk2_eq, iblk3_eq]
  exact cut4_eq t _

theorem covered4 (i : S320x30816.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem final4_eq : (dats m 0 c).arrAt 4 cfg0.N = proj (V m c main_v1) (V m c main_v2) (V m c main_arg2) (V m c main_v3) :=
  (dats m 0 c).arrAt_eq_of_cover 4 _ (fun t _ => flushed4_eq m c t) covered4

/-! ### The arrays that the region finds -/

/-- The rows, time-major. -/
abbrev rows (x : Vec Ideal S64x5x8192 .bf16) : Vec Ideal S320x8192 .bf16 :=
  shapeCast S320x8192 (transpose S5x64x8192 [1, 0, 2] x transposes_S64x5x8192_S5x64x8192_1_0_2) shapeCasts_S5x64x8192_S320x8192

theorem found_x : (V m c main_v1 : Vec Ideal S320x8192 .bf16) = rows (m ((c : Thread nD τ).loc main_arg0)) := by
  show StableHlo.after hostOps0 _ (Proc.devRef .tc main_v1) = _
  after_results
  rfl

theorem found_w : (V m c main_v2 : Vec Ideal S1x8192 .f32)
    = broadcastInDim S1x8192 ![1] bcast_S8192_S1x8192_1 (m ((c : Thread nD τ).loc main_arg1) : Vec Ideal S8192 .f32) := by
  show StableHlo.after hostOps0 _ (Proc.devRef .tc main_v2) = _
  after_results

theorem found_ws : (V m c main_v3 : Vec Ideal S1x30816 .f32)
    = broadcastInDim S1x30816 ![1] bcast_S30816_S1x30816_1 (m ((c : Thread nD τ).loc main_arg3) : Vec Ideal S30816 .f32) := by
  show StableHlo.after hostOps0 _ (Proc.devRef .tc main_v3) = _
  after_results

/-- The run, its result read. -/
theorem run : θ_run (defs (F := Ideal)) (onTc (τ := τ) (main (F := Ideal))) ⟨m, fun _ => 0, ρ⟩ (fun r => ∀ c : Dev nD,
      (r.2.mem ((c : Thread nD τ).loc main_v4) : Vec Ideal S320x30816 .bf16) = proj (rows (m ((c : Thread nD τ).loc main_arg0)))
        (broadcastInDim S1x8192 ![1] bcast_S8192_S1x8192_1 (m ((c : Thread nD τ).loc main_arg1) : Vec Ideal S8192 .f32)) (m ((c : Thread nD τ).loc main_arg2))
        (broadcastInDim S1x30816 ![1] bcast_S30816_S1x30816_1 (m ((c : Thread nD τ).loc main_arg3) : Vec Ideal S30816 .f32))) :=
  (θ_run (defs (F := Ideal)) _ _).mono (fun r h c => by
    refine ((h c).1 4).trans ((final4_eq m c).trans ?_)
    rw [found_x, found_w, found_ws, V_main_arg2]) (run_main m ρ)

end Cert.Proof.ProjectRef

end
-- ==== Proof.Project.lean ====
/-
  The input projection from `x`: kernel and reference end with the same array.
-/
module

public import proofs.«01_k».proof.Defs
public import proofs.«01_k».proof.Proof.ProjectKernel
public import proofs.«01_k».proof.Proof.ProjectRef

@[expose] public section

noncomputable section

namespace Cert.Proof.ProjectIdeal

open Idealize.ShloMosaic Idealize.ShloMosaic.TcCoe Idealize.SL.Sem

/-- The projection's reading over the reals runs, leaves its arguments as they were, and ends with every counter at zero. -/
theorem frame : Cert.quiescent_ProjectIdeal := by
  intro m ρ _
  exact (θ_run (Cert.ProjectIdeal.defs (F := Ideal)) _ _).mono (fun r h =>
    ⟨fun c => ⟨(h.1 c _ (ProjectRun.mem_uc Cert.ProjectIdeal.main_arg0 (by decide))).trans (ProjectRun.W4_main_arg0 m ρ c),
      (h.1 c _ (ProjectRun.mem_uc Cert.ProjectIdeal.main_arg1 (by decide))).trans (ProjectRun.W4_main_arg1 m ρ c),
      (h.1 c _ (ProjectRun.mem_uc Cert.ProjectIdeal.main_arg2 (by decide))).trans (ProjectRun.W4_main_arg2 m ρ c),
      (h.1 c _ (ProjectRun.mem_uc Cert.ProjectIdeal.main_arg3 (by decide))).trans (ProjectRun.W4_main_arg3 m ρ c)⟩, h.2⟩) (ProjectRun.run m ρ)

/-- Kernel and reference end with the same array. -/
theorem algebraic : Cert.algebraic_ProjectIdeal_ProjectRefIdeal := by
  intro m g m' g' _ hagree
  refine ⟨fun c => ProjectSpec.proj (ProjectKernel.rows (m ((c.tc : Thread Cert.ProjectIdeal.nD Cert.ProjectIdeal.τ).loc Cert.ProjectIdeal.main_arg0)))
      (ProjectKernel.normRow (m ((c.tc : Thread Cert.ProjectIdeal.nD Cert.ProjectIdeal.τ).loc Cert.ProjectIdeal.main_arg1)))
      (m ((c.tc : Thread Cert.ProjectIdeal.nD Cert.ProjectIdeal.τ).loc Cert.ProjectIdeal.main_arg2))
      (ProjectKernel.scaleRow (m ((c.tc : Thread Cert.ProjectIdeal.nD Cert.ProjectIdeal.τ).loc Cert.ProjectIdeal.main_arg3))), ?_, ?_⟩
  · exact (θ_run (Cert.ProjectIdeal.defs (F := Ideal)) _ _).mono (fun r h c =>
      ⟨(h.1 c _ (ProjectRun.mem_uc Cert.ProjectIdeal.main_v5 (by decide))).trans (ProjectKernel.out_eq m g c),
        (h.1 c _ (ProjectRun.mem_uc Cert.ProjectIdeal.main_arg0 (by decide))).trans (ProjectRun.W4_main_arg0 m g c),
        (h.1 c _ (ProjectRun.mem_uc Cert.ProjectIdeal.main_arg1 (by decide))).trans (ProjectRun.W4_main_arg1 m g c),
        (h.1 c _ (ProjectRun.mem_uc Cert.ProjectIdeal.main_arg2 (by decide))).trans (ProjectRun.W4_main_arg2 m g c),
        (h.1 c _ (ProjectRun.mem_uc Cert.ProjectIdeal.main_arg3 (by decide))).trans (ProjectRun.W4_main_arg3 m g c)⟩) (ProjectRun.run m g)
  · refine (θ_run (Cert.ProjectRefIdeal.defs (F := Ideal)) _ _).mono (fun r h c => ⟨(h.1 c).trans ?_, h.2 c⟩)
      (θ_run_and (ProjectRef.run m' g') (Cert.ProjectRefIdeal.Gen.unchanged m' g'))
    rw [(hagree c).1, (hagree c).2.1, (hagree c).2.2.1, (hagree c).2.2.2]

end Cert.Proof.ProjectIdeal

end
-- ==== Proof.TailRun.lean ====
/-
  The run of the output quantiser followed by the output projection, with what every array holds at the end.
-/
module

public import proofs.«01_k».proof.Proof.Gen.TailIdeal.Frame

@[expose] public section

set_option maxRecDepth 16384

noncomputable section

namespace Cert.Proof.TailRun

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- `θ_run_regions_kit_sems`'s implicit arguments are found by unifying its conclusion with this one, which takes unfolding
-- plain definitions in a metavariable's type
set_option backward.isDefEq.respectTransparency.types false in
/-- Every run ends with every array outside the kernels' scratch at the contents that the last line leaves. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.Proof.TailRun

end
-- ==== Proof.TailRegions.lean ====
/-
  The output quantiser and the output projection, the second on what the first leaves: the values of the arrays that
  each of the two writes, in terms of the arrays that it finds.
-/
module

public import proofs.«01_k».proof.Proof.Gen.TailIdeal.Frame
public import proofs.«01_k».proof.Proof.QuantOut
public import proofs.«01_k».proof.Proof.OutProj

@[expose] public section

noncomputable section

namespace Cert.Proof.Tail

open Idealize.ShloMosaic Idealize.ShloMosaic.ValueIdx Idealize.ShloMosaic.TcCoe Idealize.SL.Sem
open Cert.Proof.Products Cert.Proof.Quant Cert.Proof.QuantOut
open scoped BigOperators

namespace Quantise

open Cert.TailIdeal Cert.TailIdeal.Gen

theorem same_entry (a0 : Vec Ideal S64x9216 .f32) : k0_pay1 (F := Ideal) a0 = a0 := by
  unfold k0_pay1
  rw [shapeCast_self]

theorem scale_entry (a0 : Vec Ideal S64x9216 .f32) (r : Fin 64) : k0_pay2 (F := Ideal) a0 (ix2 r (0 : Fin 1)) = scaleOf (rowOf a0 r) := by
  unfold k0_pay2
  simp only [same_entry]
  exact (scale_apply (a0) reduces_S64x9216_S64 (.inl rfl) rfl shapeCasts_S64_S64x1 r)

theorem code_entry (a0 : Vec Ideal S64x9216 .f32) (r : Fin 64) (j : Fin 9216) : k0_pay3 (F := Ideal) a0 (ix2 r j) = codeOf (rowOf a0 r) j := by
  unfold k0_pay3
  simp only [same_entry]
  exact (code_apply (a0) (k0_pay2 (F := Ideal) a0) broadcasts_S64x1_S64x9216 r (scale_entry a0 r) j)

theorem code8_entry (a0 : Vec Ideal S64x9216 .f32) (r : Fin 64) (j : Fin 9216) :
    k0_pay4 (F := Ideal) a0 (ix2 r j) = FloatOps.fptosi (F := Ideal) (φ := .f32) 8 (codeOf (rowOf a0 r) j) :=
  congrArg (FloatOps.fptosi (F := Ideal) (φ := .f32) 8) (code_entry a0 r j)

theorem codeb_entry (a0 : Vec Ideal S64x9216 .f32) (r : Fin 64) (j : Fin 9216) : k0_pay5 (F := Ideal) a0 (ix2 r j) = codeOf (rowOf a0 r) j :=
  code_entry a0 r j

theorem lanes_entry (a0 : Vec Ideal S64x9216 .f32) (r : Fin 64) (j : Fin 128) : k0_pay6 (F := Ideal) a0 (ix2 r j) = scaleOf (rowOf a0 r) :=
  (lanes_apply (k0_pay2 (F := Ideal) a0) shapeCasts_S64x1_S64x1 broadcasts_S64x1_S64x128 r j).trans (scale_entry a0 r)

/-- The block of point `t` is rows `64 t ‥ 64 t + 63`. -/
theorem index_facts : ∀ t : Fin cfg0.N, win0_0.index t (0 : Fin 2) = t.val ∧ win0_0.index t (1 : Fin 2) = 0 ∧ win0_1.index t (0 : Fin 2) = t.val ∧ win0_1.index t (1 : Fin 2) = 0 ∧ win0_2.index t (0 : Fin 2) = t.val ∧ win0_2.index t (1 : Fin 2) = 0 ∧ win0_3.index t (0 : Fin 2) = t.val ∧ win0_3.index t (1 : Fin 2) = 0 ∧ t.val < 5 :=
  (by decide +kernel : ∀ t : Fin grid0.N, _)

/-- Row `r` of block `t`, as a row of the array. -/
def row (t : Fin cfg0.N) (r : Fin 64) : Fin 320 := ⟨64 * t.val + r.val, by have := index_facts t; omega⟩

theorem emb0 (t : Fin cfg0.N) (r : Fin 64) (k : Fin 9216) : ((cfg0.win 0).blk t).view.emb (ix2 r k) = ix2 (row t r) k := by
  have e := index_facts t
  funext a; apply Fin.ext
  match a with
  | ⟨0, _⟩ => show win0_0.index t (0 : Fin 2) * 64 + 1 * r.val = 64 * t.val + r.val; omega
  | ⟨1, _⟩ => show win0_0.index t (1 : Fin 2) * 9216 + 1 * k.val = k.val; omega

theorem emb1 (t : Fin cfg0.N) (r : Fin 64) (k : Fin 9216) : ((cfg0.win 1).blk t).view.emb (ix2 r k) = ix2 (row t r) k := by
  have e := index_facts t
  funext a; apply Fin.ext
  match a with
  | ⟨0, _⟩ => show win0_1.index t (0 : Fin 2) * 64 + 1 * r.val = 64 * t.val + r.val; omega
  | ⟨1, _⟩ => show win0_1.index t (1 : Fin 2) * 9216 + 1 * k.val = k.val; omega

theorem emb2 (t : Fin cfg0.N) (r : Fin 64) (k : Fin 9216) : ((cfg0.win 2).blk t).view.emb (ix2 r k) = ix2 (row t r) k := by
  have e := index_facts t
  funext a; apply Fin.ext
  match a with
  | ⟨0, _⟩ => show win0_2.index t (0 : Fin 2) * 64 + 1 * r.val = 64 * t.val + r.val; omega
  | ⟨1, _⟩ => show win0_2.index t (1 : Fin 2) * 9216 + 1 * k.val = k.val; omega

theorem emb3 (t : Fin cfg0.N) (r : Fin 64) (k : Fin 128) : ((cfg0.win 3).blk t).view.emb (ix2 r k) = ix2 (row t r) k := by
  have e := index_facts t
  funext a; apply Fin.ext
  match a with
  | ⟨0, _⟩ => show win0_3.index t (0 : Fin 2) * 64 + 1 * r.val = 64 * t.val + r.val; omega
  | ⟨1, _⟩ => show win0_3.index t (1 : Fin 2) * 128 + 1 * k.val = k.val; omega

variable (V : (c : Dev nD) → (b : Ref sig .tc) → Buf (Elt Ideal) ((c : Thread nD τ).loc b))

theorem hz : (![0, 0] : Fin 2 → Nat) = fun _ => 0 := funext fun a => by fin_cases a <;> rfl

/-- A row of the block is that row of the array. -/
theorem rowOf_iblk (c : Dev nD) (t : Fin cfg0.N) (r : Fin 64) : rowOf (iblk0 V c 0 t) r = rowOf (V c main_v2) (row t r) := by
  exact funext fun k => congrArg (V c main_v2) (emb0 t r k)

/-- What point `t` writes back to window 1 is its rows of the whole result. -/
theorem flushed1_eq (c : Dev nD) (t : Fin cfg0.N) :
    (dat0 V c).flushed 1 t = ((cfg0.win 1).blk t).view.read (Elt Ideal) (codes8 (V c main_v2)) := by
  show (cfg0.win 1).cut (grid0.coords t) ((dat0 V c).after 1 t) = _
  rw [after0_1]
  funext j
  obtain ⟨r, j, rfl⟩ : ∃ (r : Fin 64) (j' : Fin 9216), j = ix2 r j' := ⟨j 0, j 1, eq_ix2 j⟩
  have hr : ∀ X : Vec Ideal S320x9216 .i8, ((cfg0.win 1).blk t).view.read (Elt Ideal) X (ix2 r j) = X (ix2 (row t r) j) :=
    fun X => congrArg X (emb1 t r j)
  refine Eq.trans ?_ (hr _).symm
  show out0_1 (iblk0 V c 0 t) (ix2 r j) = _
  unfold out0_1
  rw [View.canon_unit_zero hz, View.ld_unit_zero (S := S64x9216) hz _ (iblk0 V c 0 t)]
  exact (code8_entry (iblk0 V c 0 t) r j).trans (congrArg (fun v => FloatOps.fptosi (F := Ideal) (φ := .f32) 8 (codeOf v j)) (rowOf_iblk V c t r))

theorem mem_blk1 (t : Fin cfg0.N) (r : Fin 64) (j : Fin 9216) : ix2 (row t r) j ∈ ((cfg0.win 1).blk t).view.set :=
  emb1 t r j ▸ ((cfg0.win 1).blk t).view.emb_mem_set (ix2 r j)

theorem covered1 (i : S320x9216.Idx) : ∃ t : Fin cfg0.N, (cfg0.win 1).flush t = true ∧ i ∈ ((cfg0.win 1).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_1 _, ?_⟩
  rw [e]
  exact mem_blk1 _ _ _

theorem final1_eq (c : Dev nD) : (dat0 V c).arrAt 1 cfg0.N = codes8 (V c main_v2) :=
  (dat0 V c).arrAt_eq_of_cover 1 _ (fun t _ => flushed1_eq V c t) covered1

/-- What point `t` writes back to window 2 is its rows of the whole result. -/
theorem flushed2_eq (c : Dev nD) (t : Fin cfg0.N) :
    (dat0 V c).flushed 2 t = ((cfg0.win 2).blk t).view.read (Elt Ideal) (codes (V c main_v2)) := by
  show (cfg0.win 2).cut (grid0.coords t) ((dat0 V c).after 2 t) = _
  rw [after0_2]
  funext j
  obtain ⟨r, j, rfl⟩ : ∃ (r : Fin 64) (j' : Fin 9216), j = ix2 r j' := ⟨j 0, j 1, eq_ix2 j⟩
  have hr : ∀ X : Vec Ideal S320x9216 .bf16, ((cfg0.win 2).blk t).view.read (Elt Ideal) X (ix2 r j) = X (ix2 (row t r) j) :=
    fun X => congrArg X (emb2 t r j)
  refine Eq.trans ?_ (hr _).symm
  show out0_2 (iblk0 V c 0 t) (ix2 r j) = _
  unfold out0_2
  rw [View.canon_unit_zero hz, View.ld_unit_zero (S := S64x9216) hz _ (iblk0 V c 0 t)]
  exact (codeb_entry (iblk0 V c 0 t) r j).trans (congrArg (fun v => codeOf v j) (rowOf_iblk V c t r))

theorem mem_blk2 (t : Fin cfg0.N) (r : Fin 64) (j : Fin 9216) : ix2 (row t r) j ∈ ((cfg0.win 2).blk t).view.set :=
  emb2 t r j ▸ ((cfg0.win 2).blk t).view.emb_mem_set (ix2 r j)

theorem covered2 (i : S320x9216.Idx) : ∃ t : Fin cfg0.N, (cfg0.win 2).flush t = true ∧ i ∈ ((cfg0.win 2).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_2 _, ?_⟩
  rw [e]
  exact mem_blk2 _ _ _

theorem final2_eq (c : Dev nD) : (dat0 V c).arrAt 2 cfg0.N = codes (V c main_v2) :=
  (dat0 V c).arrAt_eq_of_cover 2 _ (fun t _ => flushed2_eq V c t) covered2

/-- What point `t` writes back to window 3 is its rows of the whole result. -/
theorem flushed3_eq (c : Dev nD) (t : Fin cfg0.N) :
    (dat0 V c).flushed 3 t = ((cfg0.win 3).blk t).view.read (Elt Ideal) (scales (V c main_v2)) := by
  show (cfg0.win 3).cut (grid0.coords t) ((dat0 V c).after 3 t) = _
  rw [after0_3]
  funext j
  obtain ⟨r, j, rfl⟩ : ∃ (r : Fin 64) (j' : Fin 128), j = ix2 r j' := ⟨j 0, j 1, eq_ix2 j⟩
  have hr : ∀ X : Vec Ideal S320x128 .f32, ((cfg0.win 3).blk t).view.read (Elt Ideal) X (ix2 r j) = X (ix2 (row t r) j) :=
    fun X => congrArg X (emb3 t r j)
  refine Eq.trans ?_ (hr _).symm
  show out0_3 (iblk0 V c 0 t) (ix2 r j) = _
  unfold out0_3
  rw [View.canon_unit_zero hz, View.ld_unit_zero (S := S64x9216) hz _ (iblk0 V c 0 t)]
  exact (lanes_entry (iblk0 V c 0 t) r j).trans (congrArg (scaleOf) (rowOf_iblk V c t r))

theorem mem_blk3 (t : Fin cfg0.N) (r : Fin 64) (j : Fin 128) : ix2 (row t r) j ∈ ((cfg0.win 3).blk t).view.set :=
  emb3 t r j ▸ ((cfg0.win 3).blk t).view.emb_mem_set (ix2 r j)

theorem covered3 (i : S320x128.Idx) : ∃ t : Fin cfg0.N, (cfg0.win 3).flush t = true ∧ i ∈ ((cfg0.win 3).blk t).view.set := by
  have h1 : (i 0).val < 320 := (i 0).isLt
  have hN : cfg0.N = 5 := N_0
  obtain ⟨t, ht⟩ : ∃ t : Fin cfg0.N, t.val = (i 0).val / 64 := ⟨⟨(i 0).val / 64, by omega⟩, rfl⟩
  have e : i = ix2 (row t ⟨(i 0).val % 64, by omega⟩) (i 1) := by
    refine (eq_ix2 i).trans (congrArg (fun r => ix2 r (i 1)) (Fin.ext ?_))
    show (i 0).val = 64 * t.val + (i 0).val % 64
    omega
  refine ⟨t, flush0_3 _, ?_⟩
  rw [e]
  exact mem_blk3 _ _ _

theorem final3_eq (c : Dev nD) : (dat0 V c).arrAt 3 cfg0.N = scales (V c main_v2) :=
  (dat0 V c).arrAt_eq_of_cover 3 _ (fun t _ => flushed3_eq V c t) covered3

end Quantise

namespace Project
open Cert.TailIdeal Cert.TailIdeal.Gen

theorem hz : (![0, 0] : Fin 2 → Nat) = fun _ => 0 := funext fun a => by fin_cases a <;> rfl

/-- An entry of the block that the kernel computes from its input blocks. -/
theorem out_entry (x0 : Vec Ideal S320x9216 .bf16) (x1 : Vec Ideal S320x128 .f32) (x2 : Vec Ideal S9216x512 .i8) (x3 : Vec Ideal S1x512 .f32)
    (x4 : Vec Ideal S320x512 .bf16) (r : Fin 320) (j : Fin 512) :
    out1_5 (F := Ideal) x0 x1 x2 x3 x4 (ix2 r j)
      = (∑ k : Fin 9216, term x0 (sitofp (F := Ideal) .bf16 x2) r j k) * (x1 (ix2 r (0 : Fin 128)) * x3 (ix2 (0 : Fin 1) j)) + x4 (ix2 r j) := by
  unfold out1_5
  rw [View.canon_unit_zero hz]
  have e := sum_chunks (n := 9) (m := 1024) (term x0 (sitofp (F := Ideal) .bf16 x2) r j)
  simp only [k1_pay1, k1_pay2, k1_pay3, shapeCast_self, truncf_apply, addf_apply, mulf_apply, extf_apply]
  rw [bcast_col, bcast_row, View.ld_unit_zero (S := S1x512) hz, View.ld_unit_zero (S := S320x512) hz, ld_col _ _ (by decide)]
  rw [show (∑ k : Fin 9216, term x0 (sitofp (F := Ideal) .bf16 x2) r j k) = _ from e]
  rw [Fin.sum_univ_castSucc, Fin.sum_univ_eight]
  exact add_congr (congrArg (· * _) (add_congr (add_congr (add_congr (add_congr (add_congr (add_congr (add_congr (add_congr (chunk_entry _ rfl x0 x2 _ _ r j) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j)) (chunk_entry _ rfl x0 x2 _ _ r j))) rfl

/-- Where each window's block lies at point `t`: the first two are the whole arrays, the others columns `512 t ‥ 512 t + 511`. -/
theorem index_facts : ∀ t : Fin cfg1.N, win1_0.index t (0 : Fin 2) = 0 ∧ win1_0.index t (1 : Fin 2) = 0 ∧ win1_1.index t (0 : Fin 2) = 0
    ∧ win1_1.index t (1 : Fin 2) = 0 ∧ win1_2.index t (0 : Fin 2) = 0 ∧ win1_2.index t (1 : Fin 2) = t.val ∧ win1_3.index t (0 : Fin 2) = 0
    ∧ win1_3.index t (1 : Fin 2) = t.val ∧ win1_4.index t (0 : Fin 2) = 0 ∧ win1_4.index t (1 : Fin 2) = t.val ∧ win1_5.index t (0 : Fin 2) = 0
    ∧ win1_5.index t (1 : Fin 2) = t.val ∧ t.val < 16 :=
  (by decide +kernel : ∀ t : Fin grid1.N, _)

variable (V : (c : Dev nD) → (b : Ref sig .tc) → Buf (Elt Ideal) ((c : Thread nD τ).loc b))

theorem emb0 (t : Fin cfg1.N) (r : Fin 320) (k : Fin 9216) : ((cfg1.win 0).blk t).view.emb (ix2 r k) = ix2 r k := by
  have e := index_facts t
  funext a; apply Fin.ext
  match a with
  | ⟨0, _⟩ => show win1_0.index t (0 : Fin 2) * 320 + 1 * r.val = r.val; omega
  | ⟨1, _⟩ => show win1_0.index t (1 : Fin 2) * 9216 + 1 * k.val = k.val; omega

theorem emb1 (t : Fin cfg1.N) (r : Fin 320) (k : Fin 128) : ((cfg1.win 1).blk t).view.emb (ix2 r k) = ix2 r k := by
  have e := index_facts t
  funext a; apply Fin.ext
  match a with
  | ⟨0, _⟩ => show win1_1.index t (0 : Fin 2) * 320 + 1 * r.val = r.val; omega
  | ⟨1, _⟩ => show win1_1.index t (1 : Fin 2) * 128 + 1 * k.val = k.val; omega

/-- Column `j` of block `t`, as a column of the array. -/
def col (t : Fin cfg1.N) (j : Fin 512) : Fin 8192 := ⟨512 * t.val + j.val, by have := index_facts t; omega⟩

theorem emb2 (t : Fin cfg1.N) (k : Fin 9216) (j : Fin 512) : ((cfg1.win 2).blk t).view.emb (ix2 k j) = ix2 k (col t j) := by
  have e := index_facts t
  funext a; apply Fin.ext
  match a with
  | ⟨0, _⟩ => show win1_2.index t (0 : Fin 2) * 9216 + 1 * k.val = k.val; omega
  | ⟨1, _⟩ => show win1_2.index t (1 : Fin 2) * 512 + 1 * j.val = 512 * t.val + j.val; omega

theorem emb3 (t : Fin cfg1.N) (k : Fin 1) (j : Fin 512) : ((cfg1.win 3).blk t).view.emb (ix2 k j) = ix2 k (col t j) := by
  have e := index_facts t
  funext a; apply Fin.ext
  match a with
  | ⟨0, _⟩ => show win1_3.index t (0 : Fin 2) * 1 + 1 * k.val = k.val; omega
  | ⟨1, _⟩ => show win1_3.index t (1 : Fin 2) * 512 + 1 * j.val = 512 * t.val + j.val; omega

theorem emb4 (t : Fin cfg1.N) (r : Fin 320) (j : Fin 512) : ((cfg1.win 4).blk t).view.emb (ix2 r j) = ix2 r (col t j) := by
  have e := index_facts t
  funext a; apply Fin.ext
  match a with
  | ⟨0, _⟩ => show win1_4.index t (0 : Fin 2) * 320 + 1 * r.val = r.val; omega
  | ⟨1, _⟩ => show win1_4.index t (1 : Fin 2) * 512 + 1 * j.val = 512 * t.val + j.val; omega

theorem emb5 (t : Fin cfg1.N) (r : Fin 320) (j : Fin 512) : ((cfg1.win 5).blk t).view.emb (ix2 r j) = ix2 r (col t j) := by
  have e := index_facts t
  funext a; apply Fin.ext
  match a with
  | ⟨0, _⟩ => show win1_5.index t (0 : Fin 2) * 320 + 1 * r.val = r.val; omega
  | ⟨1, _⟩ => show win1_5.index t (1 : Fin 2) * 512 + 1 * j.val = 512 * t.val + j.val; omega

/-- What point `t` writes back is block `t` of the whole result. -/
theorem flushed_eq (c : Dev nD) (t : Fin cfg1.N) : (dat1 V c).flushed 5 t
    = ((cfg1.win 5).blk t).view.read (Elt Ideal) (OutProj.result (V c main_v3_1) (V c main_v3_2) (V c main_arg1) (V c main_v4) (V c main_v1)) := by
  show (cfg1.win 5).cut (grid1.coords t) ((dat1 V c).after 5 t) = _
  rw [after1_5]
  funext j
  obtain ⟨r, j, rfl⟩ : ∃ (r : Fin 320) (j' : Fin 512), j = ix2 r j' := ⟨j 0, j 1, eq_ix2 j⟩
  show out1_5 (iblk1 V c 0 t) (iblk1 V c 1 t) (iblk1 V c 2 t) (iblk1 V c 3 t) (iblk1 V c 4 t) (ix2 r j)
    = OutProj.result (V c main_v3_1) (V c main_v3_2) (V c main_arg1) (V c main_v4) (V c main_v1) (((cfg1.win 5).blk t).view.emb (ix2 r j))
  rw [out_entry, emb5]
  refine add_congr (congrArg₂ (· * ·) (Finset.sum_congr rfl fun k _ => term_congr (fun k => ?_) (fun k => ?_) k) (congrArg₂ (· * ·) ?_ ?_)) ?_
  · exact congrArg (V c main_v3_1) (emb0 t r k)
  · exact congrArg (fun w : BitVec 8 => (FloatOps.sitofp .bf16 w : Ideal .bf16)) (congrArg (V c main_arg1) (emb2 t k j))
  · exact congrArg (V c main_v3_2) (emb1 t r 0)
  · exact congrArg (V c main_v4) (emb3 t 0 j)
  · exact congrArg (V c main_v1) (emb4 t r j)

theorem mem_blk (t : Fin cfg1.N) (r : Fin 320) (j : Fin 512) : ix2 r (col t j) ∈ ((cfg1.win 5).blk t).view.set :=
  emb5 t r j ▸ ((cfg1.win 5).blk t).view.emb_mem_set (ix2 r j)

/-- Every entry lies in the block of the point that its column belongs to. -/
theorem covered (i : S320x8192.Idx) : ∃ t : Fin cfg1.N, (cfg1.win 5).flush t = true ∧ i ∈ ((cfg1.win 5).blk t).view.set := by
  have h1 : (i 1).val < 8192 := (i 1).isLt
  have hN : cfg1.N = 16 := N_1
  obtain ⟨t, ht⟩ : ∃ t : Fin cfg1.N, t.val = (i 1).val / 512 := ⟨⟨(i 1).val / 512, by omega⟩, rfl⟩
  have e : i = ix2 (i 0) (col t ⟨(i 1).val % 512, by omega⟩) := by
    refine (eq_ix2 i).trans (congrArg (ix2 (i 0)) (Fin.ext ?_))
    show (i 1).val = 512 * t.val + (i 1).val % 512
    omega
  refine ⟨t, flush1_5 _, ?_⟩
  rw [e]
  exact mem_blk _ _ _

/-- The output array after the run. -/
theorem final_eq (c : Dev nD) : (dat1 V c).arrAt 5 cfg1.N = OutProj.result (V c main_v3_1) (V c main_v3_2) (V c main_arg1) (V c main_v4) (V c main_v1) :=
  (dat1 V c).arrAt_eq_of_cover 5 _ (fun t _ => flushed_eq V c t) covered

end Project

end Cert.Proof.Tail

end
-- ==== Proof.TailSpec.lean ====
/-
  The output quantiser followed by the output projection, as formulas: step `s` of sequence `b` has one row of `y`, and
  its codes, its scale and its row of the output depend on that row alone.
-/
module

public import proofs.«01_k».proof.Proof.Quant
public import proofs.«01_k».proof.Proof.Layout

@[expose] public section

noncomputable section

namespace Cert.Proof.TailSpec

open Idealize.ShloMosaic Idealize.ShloMosaic.ValueIdx Cert.Proof.Quant
open scoped BigOperators

/-- The row of step `s` of sequence `b`. -/
def row (y : Vec Ideal ⟨3, ![5, 64, 9216]⟩ .f32) (b : Fin 64) (s : Fin 5) : Fin 9216 → EReal := fun k => y (ix3 s b k)

/-- The output: the codes times the weight's columns, times the two scales, plus the residual … -/
def out (y : Vec Ideal ⟨3, ![5, 64, 9216]⟩ .f32) (w : Vec Ideal ⟨2, ![9216, 8192]⟩ .i8) (ws : Vec Ideal ⟨1, ![8192]⟩ .f32)
    (x : Vec Ideal ⟨3, ![64, 5, 8192]⟩ .bf16) : Vec Ideal ⟨3, ![64, 5, 8192]⟩ .bf16 := fun i =>
  (∑ k : Fin 9216, codeOf (row y (i 0) (i 1)) k * (FloatOps.sitofp (F := Ideal) .bf16 (w (ix2 k (i 2))) : EReal))
    * (scaleOf (row y (i 0) (i 1)) * ws (ix1 (i 2))) + x i

/-- … the codes, as bytes … -/
def codes (y : Vec Ideal ⟨3, ![5, 64, 9216]⟩ .f32) : Vec Ideal ⟨3, ![64, 5, 9216]⟩ .i8 := fun i =>
  FloatOps.fptosi (F := Ideal) (φ := .f32) 8 (codeOf (row y (i 0) (i 1)) (i 2))

/-- … and the scales. -/
def scales (y : Vec Ideal ⟨3, ![5, 64, 9216]⟩ .f32) : Vec Ideal ⟨2, ![64, 5]⟩ .f32 := fun i => scaleOf (row y (i 0) (i 1))

end Cert.Proof.TailSpec

end
-- ==== Proof.TailValue.lean ====
/-
  What the output quantiser followed by the output projection leave in the three results: the two kernels' arrays, read
  through the reshapes and transposes around them.
-/
module

public import proofs.«01_k».proof.Proof.TailRun
public import proofs.«01_k».proof.Proof.TailRegions
public import proofs.«01_k».proof.Proof.TailSpec

@[expose] public section

set_option maxRecDepth 16384

noncomputable section

namespace Cert.Proof.TailValue

open Idealize.ShloMosaic Idealize.ShloMosaic.ValueIdx Idealize.ShloMosaic.TcCoe Idealize.SL.Sem
open Idealize.ShloMosaic.Tactic
open Cert.Proof.Products Cert.Proof.Quant Cert.Proof.QuantOut Cert.Proof.Layout
open Cert.TailIdeal Cert.TailIdeal.Gen
open scoped BigOperators

variable (m : (ℓ : Loc nD τ sig) → Buf (Elt Ideal) ℓ) (ρ : Dev nD → PrngReg) (c : Dev nD)

/-! ### The arrays that the two kernels find -/

theorem found_y : (V1 m ρ c main_v2 : Vec Ideal S320x9216 .f32)
    = shapeCast S320x9216 (m ((c : Thread nD τ).loc main_arg0) : Vec Ideal S5x64x9216 .f32) shapeCasts_S5x64x9216_S320x9216 := by
  show StableHlo.after hostOps0 (W0 m ρ c) (Proc.devRef .tc main_v2) = _
  after_results
  rfl

theorem found_x : (V3 m ρ c main_v1 : Vec Ideal S320x8192 .bf16)
    = shapeCast S320x8192 (transpose S5x64x8192 [1, 0, 2] (m ((c : Thread nD τ).loc main_arg3) : Vec Ideal S64x5x8192 .bf16) transposes_S64x5x8192_S5x64x8192_1_0_2)
        shapeCasts_S5x64x8192_S320x8192 := by
  refine (W3_of m ρ c main_v1 (by decide)).trans ((W2_of m ρ c main_v1 (by decide)).trans ?_)
  show StableHlo.after hostOps0 (W0 m ρ c) (Proc.devRef .tc main_v1) = _
  after_results
  rfl

theorem found_ws : (V3 m ρ c main_v4 : Vec Ideal S1x8192 .f32)
    = broadcastInDim S1x8192 ![1] bcast_S8192_S1x8192_1 (m ((c : Thread nD τ).loc main_arg2) : Vec Ideal S8192 .f32) := by
  have e : StableHlo.after hostOps1 (W2 m ρ c) (Proc.devRef .tc main_v4)
      = broadcastInDim S1x8192 ![1] bcast_S8192_S1x8192_1 (W2 m ρ c (Proc.devRef .tc main_arg2) : Vec Ideal S8192 .f32) := by
    after_results
  refine e.trans ?_
  rw [W2_args m ρ c main_arg2 (by decide)]

theorem found_w : V3 m ρ c main_arg1 = m ((c : Thread nD τ).loc main_arg1) := W3_args m ρ c main_arg1 (by decide)

theorem found_codes : (V3 m ρ c main_v3_1 : Vec Ideal S320x9216 .bf16) = codes (V1 m ρ c main_v2) :=
  (W3_of m ρ c main_v3_1 (by decide)).trans ((W2_arr m ρ c 2).trans (Tail.Quantise.final2_eq (V1 m ρ) c))

theorem found_scales : (V3 m ρ c main_v3_2 : Vec Ideal S320x128 .f32) = scales (V1 m ρ c main_v2) :=
  (W3_of m ρ c main_v3_2 (by decide)).trans ((W2_arr m ρ c 3).trans (Tail.Quantise.final3_eq (V1 m ρ) c))

/-! ### The arrays that they leave -/

theorem left_codes8 : (W4 m ρ c (Proc.devRef .tc main_v3_0) : Vec Ideal S320x9216 .i8) = codes8 (V1 m ρ c main_v2) :=
  (W4_of m ρ c main_v3_0 (by decide)).trans ((W3_of m ρ c main_v3_0 (by decide)).trans
    ((W2_arr m ρ c 1).trans (Tail.Quantise.final1_eq (V1 m ρ) c)))

theorem left_scales : (W4 m ρ c (Proc.devRef .tc main_v3_2) : Vec Ideal S320x128 .f32) = scales (V1 m ρ c main_v2) :=
  (W4_of m ρ c main_v3_2 (by decide)).trans (found_scales m ρ c)

theorem left_out : (W4 m ρ c (Proc.devRef .tc main_v5) : Vec Ideal S320x8192 .bf16)
    = OutProj.result (codes (V1 m ρ c main_v2)) (scales (V1 m ρ c main_v2)) (m ((c : Thread nD τ).loc main_arg1)) (V3 m ρ c main_v4) (V3 m ρ c main_v1) := by
  refine (W4_arr m ρ c 5).trans ((Tail.Project.final_eq (V3 m ρ) c).trans ?_)
  rw [found_codes, found_scales, found_w]

/-! ### The results -/

/-- Row `64 s + b` of the kernel's matrix is the row of step `s` of sequence `b`. -/
theorem rowOf_found (b : Fin 64) (s : Fin 5) :
    rowOf (V1 m ρ c main_v2 : Vec Ideal S320x9216 .f32) (rowAt (by rfl) s b) = TailSpec.row (m ((c : Thread nD τ).loc main_arg0)) b s := by
  rw [found_y]
  exact funext fun k => join_apply _ _ _ s b k

theorem out_eq : (W5 m ρ c (Proc.devRef .tc main_v7) : Vec Ideal S64x5x8192 .bf16)
    = TailSpec.out (m ((c : Thread nD τ).loc main_arg0)) (m ((c : Thread nD τ).loc main_arg1)) (m ((c : Thread nD τ).loc main_arg2)) (m ((c : Thread nD τ).loc main_arg3)) := by
  have e : (W5 m ρ c (Proc.devRef .tc main_v7) : Vec Ideal S64x5x8192 .bf16)
      = transpose S64x5x8192 [1, 0, 2] (shapeCast S5x64x8192 (W4 m ρ c (Proc.devRef .tc main_v5) : Vec Ideal S320x8192 .bf16) shapeCasts_S320x8192_S5x64x8192)
          transposes_S5x64x8192_S64x5x8192_1_0_2 := by
    show StableHlo.after hostOps2 (W4 m ρ c) (Proc.devRef .tc main_v7) = _
    after_results
    rfl
  rw [e, left_out]
  funext i
  obtain ⟨b, s, j, rfl⟩ : ∃ (b : Fin 64) (s : Fin 5) (j : Fin 8192), i = ix3 b s j := ⟨i 0, i 1, i 2, eq_ix3 i⟩
  refine (swap_apply _ _ b s j).trans ((split_apply (by rfl) _ _ s b j).trans ?_)
  unfold OutProj.result TailSpec.out
  refine add_congr (congrArg₂ (· * ·) ?_ (congrArg₂ (· * ·) ?_ ?_)) ?_
  · refine (sum_term _ _ _ _).symm.trans (Finset.sum_congr rfl fun k _ => ?_)
    exact congrArg (· * _) (congrArg (fun v => codeOf v k) (rowOf_found m ρ c b s))
  · exact congrArg scaleOf (rowOf_found m ρ c b s)
  · rw [found_ws]; exact asRow_apply _ _ j
  · rw [found_x]; exact (join_apply _ _ _ s b j).trans (swap_apply _ _ s b j)

theorem codes_eq : (W5 m ρ c (Proc.devRef .tc main_v9) : Vec Ideal S64x5x9216 .i8) = TailSpec.codes (m ((c : Thread nD τ).loc main_arg0)) := by
  have e : (W5 m ρ c (Proc.devRef .tc main_v9) : Vec Ideal S64x5x9216 .i8)
      = transpose S64x5x9216 [1, 0, 2] (shapeCast S5x64x9216 (W4 m ρ c (Proc.devRef .tc main_v3_0) : Vec Ideal S320x9216 .i8) shapeCasts_S320x9216_S5x64x9216)
          transposes_S5x64x9216_S64x5x9216_1_0_2 := by
    show StableHlo.after hostOps2 (W4 m ρ c) (Proc.devRef .tc main_v9) = _
    after_results
    rfl
  rw [e, left_codes8]
  funext i
  obtain ⟨b, s, j, rfl⟩ : ∃ (b : Fin 64) (s : Fin 5) (j : Fin 9216), i = ix3 b s j := ⟨i 0, i 1, i 2, eq_ix3 i⟩
  refine (swap_apply _ _ b s j).trans ((split_apply (by rfl) _ _ s b j).trans ?_)
  exact congrArg (fun v => FloatOps.fptosi (F := Ideal) (φ := .f32) 8 (codeOf v j)) (rowOf_found m ρ c b s)

theorem scales_eq : (W5 m ρ c (Proc.devRef .tc main_v13) : Vec Ideal S64x5 .f32) = TailSpec.scales (m ((c : Thread nD τ).loc main_arg0)) := by
  have e : (W5 m ρ c (Proc.devRef .tc main_v13) : Vec Ideal S64x5 .f32)
      = transpose S64x5 [1, 0] (shapeCast S5x64 (shapeCast S320 (extractStridedSlice S320x1 ![0, 0] (W4 m ρ c (Proc.devRef .tc main_v3_2) : Vec Ideal S320x128 .f32)
          slices_S320x128_S320x1_0_0) shapeCasts_S320x1_S320) shapeCasts_S320_S5x64) transposes_S5x64_S64x5_1_0 := by
    show StableHlo.after hostOps2 (W4 m ρ c) (Proc.devRef .tc main_v13) = _
    after_results
    rfl
  rw [e, left_scales]
  funext i
  obtain ⟨b, s, rfl⟩ : ∃ (b : Fin 64) (s : Fin 5), i = ix2 b s := ⟨i 0, i 1, eq_ix2 i⟩
  refine (swap2_apply _ _ b s).trans ((split1_apply (by rfl) _ _ s b).trans ((flat_apply _ _ _).trans ((slice_col _ _ (by decide) _).trans ?_)))
  exact congrArg scaleOf (rowOf_found m ρ c b s)

end Cert.Proof.TailValue

end
-- ==== Proof.TailRef.lean ====
/-
  The reference for the output quantiser followed by the output projection: it has one grid point, at which every block is
  its array, so its results are its body's formulas at the arrays, read through the reshapes and transposes around it.
-/
module

public import proofs.«01_k».proof.Proof.Gen.TailRefIdeal.Frame
public import proofs.«01_k».proof.Proof.RoundTrip
public import proofs.«01_k».proof.Proof.QuantOut
public import proofs.«01_k».proof.Proof.TailSpec

@[expose] public section

set_option maxRecDepth 16384

noncomputable section

namespace Cert.Proof.TailRef

open Idealize.ShloMosaic Idealize.ShloMosaic.ValueIdx Idealize.ShloMosaic.TcCoe Idealize.SL.Sem
open Idealize.ShloMosaic.Tactic
open Cert.Proof.Products Cert.Proof.Quant Cert.Proof.QuantOut Cert.Proof.Layout
open Cert.TailRefIdeal Cert.TailRefIdeal.Gen
open scoped BigOperators

/-! ### Entries of what the body computes -/

theorem same_entry (a0 : Vec Ideal S320x9216 .f32) : k0_pay1 (F := Ideal) a0 = a0 := by
  unfold k0_pay1
  rw [shapeCast_self]

theorem scale_entry (a0 : Vec Ideal S320x9216 .f32) (r : Fin 320) : k0_pay2 (F := Ideal) a0 (ix2 r (0 : Fin 1)) = scaleOf (rowOf a0 r) := by
  unfold k0_pay2
  simp only [same_entry]
  exact (scale_apply a0 reduces_S320x9216_S320 (.inl rfl) rfl shapeCasts_S320_S320x1 r)

theorem code8_entry (a0 : Vec Ideal S320x9216 .f32) (r : Fin 320) (j : Fin 9216) :
    k0_pay3 (F := Ideal) a0 (ix2 r j) = FloatOps.fptosi (F := Ideal) (φ := .f32) 8 (codeOf (rowOf a0 r) j) := by
  unfold k0_pay3
  simp only [same_entry]
  exact congrArg (FloatOps.fptosi (F := Ideal) (φ := .f32) 8)
    (code_apply a0 (k0_pay2 (F := Ideal) a0) broadcasts_S320x1_S320x9216 r (scale_entry a0 r) j)

/-- A code made a byte and read back is the code. -/
theorem code_entry (a0 : Vec Ideal S320x9216 .f32) (r : Fin 320) (j : Fin 9216) :
    sitofp (F := Ideal) .bf16 (k0_pay3 (F := Ideal) a0) (ix2 r j) = codeOf (rowOf a0 r) j :=
  (congrArg (FloatOps.sitofp (F := Ideal) .bf16) (code8_entry a0 r j)).trans (RoundTrip.code_byte _ j)

/-- The output's entries. -/
def outOf (a0 : Vec Ideal S320x9216 .f32) (a1 : Vec Ideal S9216x8192 .i8) (a2 : Vec Ideal S1x8192 .f32) (a3 : Vec Ideal S320x8192 .bf16) :
    Vec Ideal S320x8192 .bf16 := fun i =>
  (∑ k : Fin 9216, codeOf (rowOf a0 (i 0)) k * (FloatOps.sitofp (F := Ideal) .bf16 (a1 (ix2 k (i 1))) : EReal))
    * (scaleOf (rowOf a0 (i 0)) * a2 (ix2 (0 : Fin 1) (i 1))) + a3 i

/-- The scales, as a column. -/
def scaleCol (a0 : Vec Ideal S320x9216 .f32) : Vec Ideal S320x1 .f32 := fun i => scaleOf (rowOf a0 (i 0))

theorem prod_entry (a0 : Vec Ideal S320x9216 .f32) (a1 : Vec Ideal S9216x8192 .i8) (r : Fin 320) (j : Fin 8192) :
    matmul dot_S320x9216_S9216x8192_S320x8192_1_0_0_1_n_n none (sitofp (F := Ideal) .bf16 (k0_pay3 (F := Ideal) a0)) (sitofp (F := Ideal) .bf16 a1)
        (constant (F := Ideal) S320x8192 .f32 0x00000000#32) (ix2 r j)
      = ∑ k : Fin 9216, codeOf (rowOf a0 r) k * (FloatOps.sitofp (F := Ideal) .bf16 (a1 (ix2 k j)) : EReal) :=
  (matmul_entry dot_S320x9216_S9216x8192_S320x8192_1_0_0_1_n_n rfl (sitofp (F := Ideal) .bf16 (k0_pay3 (F := Ideal) a0)) (sitofp (F := Ideal) .bf16 a1) r j).trans
    (Finset.sum_congr rfl fun k _ => congrArg (· * (FloatOps.sitofp (F := Ideal) .bf16 (a1 (ix2 k j)) : EReal)) (code_entry a0 r k))

/-- What the body does after its product, at an entry. -/
theorem post_entry (P : FVec Ideal S320x8192 .f32) (s : FVec Ideal S320x1 .f32) (a2 : Vec Ideal S1x8192 .f32) (a3 : Vec Ideal S320x8192 .bf16)
    (r : Fin 320) (j : Fin 8192) :
    truncf (F := Ideal) .bf16 (addf (mulf P (mulf (broadcastTo S320x8192 s broadcasts_S320x1_S320x8192)
        (broadcastTo S320x8192 (shapeCast S1x8192 a2 shapeCasts_S1x8192_S1x8192) broadcasts_S1x8192_S320x8192)))
      (extf .f32 (shapeCast S320x8192 a3 shapeCasts_S320x8192_S320x8192 : FVec Ideal S320x8192 .bf16) bitsLt_bf16_f32)) bitsLt_bf16_f32 (ix2 r j)
      = (P (ix2 r j) * (s (ix2 r (0 : Fin 1)) * a2 (ix2 (0 : Fin 1) j)) + a3 (ix2 r j) : EReal) := by
  simp only [truncf_apply, addf_apply, mulf_apply, extf_apply, shapeCast_self]
  rw [bcast_col, bcast_row]

theorem out_entry (a0 : Vec Ideal S320x9216 .f32) (a1 : Vec Ideal S9216x8192 .i8) (a2 : Vec Ideal S1x8192 .f32) (a3 : Vec Ideal S320x8192 .bf16)
    (r : Fin 320) (j : Fin 8192) : k0_pay4 (F := Ideal) a0 a1 a2 a3 (ix2 r j) = outOf a0 a1 a2 a3 (ix2 r j) :=
  (post_entry (matmul dot_S320x9216_S9216x8192_S320x8192_1_0_0_1_n_n none (sitofp (F := Ideal) .bf16 (k0_pay3 (F := Ideal) a0)) (sitofp (F := Ideal) .bf16 a1)
      (constant (F := Ideal) S320x8192 .f32 0x00000000#32)) (k0_pay2 (F := Ideal) a0) a2 a3 r j).trans
    (add_congr (congrArg₂ (fun p q : EReal => p * (q * a2 (ix2 (0 : Fin 1) j))) (prod_entry a0 a1 r j) (scale_entry a0 r)) rfl)

theorem hz : (![0, 0] : Fin 2 → Nat) = fun _ => 0 := funext fun a => by fin_cases a <;> rfl

theorem out4_eq (a0 : Vec Ideal S320x9216 .f32) (a1 : Vec Ideal S9216x8192 .i8) (a2 : Vec Ideal S1x8192 .f32) (a3 : Vec Ideal S320x8192 .bf16) :
    out0_4 (F := Ideal) a0 a1 a2 a3 = outOf a0 a1 a2 a3 := by
  unfold out0_4
  rw [View.canon_unit_zero hz, View.ld_unit_zero (S := S320x9216) hz _ a0, View.ld_unit_zero (S := S9216x8192) hz _ a1,
    View.ld_unit_zero (S := S1x8192) hz _ a2, View.ld_unit_zero (S := S320x8192) hz _ a3]
  funext i
  obtain ⟨r, j, rfl⟩ : ∃ (r : Fin 320) (j : Fin 8192), i = ix2 r j := ⟨i 0, i 1, eq_ix2 i⟩
  exact out_entry a0 a1 a2 a3 r j

theorem out5_eq (a0 : Vec Ideal S320x9216 .f32) (a1 : Vec Ideal S9216x8192 .i8) (a2 : Vec Ideal S1x8192 .f32) (a3 : Vec Ideal S320x8192 .bf16) :
    out0_5 (F := Ideal) a0 a1 a2 a3 = codes8 a0 := by
  unfold out0_5
  rw [View.canon_unit_zero hz, View.ld_unit_zero (S := S320x9216) hz _ a0]
  funext i
  obtain ⟨r, j, rfl⟩ : ∃ (r : Fin 320) (j : Fin 9216), i = ix2 r j := ⟨i 0, i 1, eq_ix2 i⟩
  exact code8_entry a0 r j

theorem out6_eq (a0 : Vec Ideal S320x9216 .f32) (a1 : Vec Ideal S9216x8192 .i8) (a2 : Vec Ideal S1x8192 .f32) (a3 : Vec Ideal S320x8192 .bf16) :
    out0_6 (F := Ideal) a0 a1 a2 a3 = scaleCol a0 := by
  unfold out0_6
  rw [View.canon_unit_zero hz, View.ld_unit_zero (S := S320x9216) hz _ a0]
  funext i
  obtain ⟨r, j, rfl⟩ : ∃ (r : Fin 320) (j : Fin 1), i = ix2 r j := ⟨i 0, i 1, eq_ix2 i⟩
  obtain rfl : j = 0 := Subsingleton.elim _ _
  exact scale_entry a0 r

/-! ### At the one grid point every block is its array -/

/-- Every block's index is zero. -/
theorem index_facts : ∀ t : Fin cfg0.N, win0_0.index t (0 : Fin 2) = 0 ∧ win0_0.index t (1 : Fin 2) = 0 ∧ win0_1.index t (0 : Fin 2) = 0 ∧ win0_1.index t (1 : Fin 2) = 0 ∧ win0_2.index t (0 : Fin 2) = 0 ∧ win0_2.index t (1 : Fin 2) = 0 ∧ win0_3.index t (0 : Fin 2) = 0 ∧ win0_3.index t (1 : Fin 2) = 0 ∧ win0_4.index t (0 : Fin 2) = 0 ∧ win0_4.index t (1 : Fin 2) = 0 ∧ win0_5.index t (0 : Fin 2) = 0 ∧ win0_5.index t (1 : Fin 2) = 0 ∧ win0_6.index t (0 : Fin 2) = 0 ∧ win0_6.index t (1 : Fin 2) = 0 :=
  (by decide +kernel : ∀ t : Fin grid0.N, _)

variable (m : (ℓ : Loc nD τ sig) → Buf (Elt Ideal) ℓ) (ρ : Dev nD → PrngReg) (c : Dev nD)

theorem emb0 (t : Fin cfg0.N) (j : S320x9216.Idx) : ((cfg0.win 0).blk t).view.emb j = j := by
  have e := index_facts t
  funext a; apply Fin.ext
  match a with
  | ⟨0, _⟩ => show win0_0.index t (0 : Fin 2) * 320 + 1 * (j 0).val = (j 0).val; omega
  | ⟨1, _⟩ => show win0_0.index t (1 : Fin 2) * 9216 + 1 * (j 1).val = (j 1).val; omega

theorem iblk0_eq (t : Fin cfg0.N) : iblk m c 0 t = V m c main_v1 := by
  funext j; show V m c main_v1 (((cfg0.win 0).blk t).view.emb j) = V m c main_v1 j; rw [emb0]

theorem emb1 (t : Fin cfg0.N) (j : S9216x8192.Idx) : ((cfg0.win 1).blk t).view.emb j = j := by
  have e := index_facts t
  funext a; apply Fin.ext
  match a with
  | ⟨0, _⟩ => show win0_1.index t (0 : Fin 2) * 9216 + 1 * (j 0).val = (j 0).val; omega
  | ⟨1, _⟩ => show win0_1.index t (1 : Fin 2) * 8192 + 1 * (j 1).val = (j 1).val; omega

theorem iblk1_eq (t : Fin cfg0.N) : iblk m c 1 t = V m c main_arg1 := by
  funext j; show V m c main_arg1 (((cfg0.win 1).blk t).view.emb j) = V m c main_arg1 j; rw [emb1]

theorem emb2 (t : Fin cfg0.N) (j : S1x8192.Idx) : ((cfg0.win 2).blk t).view.emb j = j := by
  have e := index_facts t
  funext a; apply Fin.ext
  match a with
  | ⟨0, _⟩ => show win0_2.index t (0 : Fin 2) * 1 + 1 * (j 0).val = (j 0).val; omega
  | ⟨1, _⟩ => show win0_2.index t (1 : Fin 2) * 8192 + 1 * (j 1).val = (j 1).val; omega

theorem iblk2_eq (t : Fin cfg0.N) : iblk m c 2 t = V m c main_v2 := by
  funext j; show V m c main_v2 (((cfg0.win 2).blk t).view.emb j) = V m c main_v2 j; rw [emb2]

theorem emb3 (t : Fin cfg0.N) (j : S320x8192.Idx) : ((cfg0.win 3).blk t).view.emb j = j := by
  have e := index_facts t
  funext a; apply Fin.ext
  match a with
  | ⟨0, _⟩ => show win0_3.index t (0 : Fin 2) * 320 + 1 * (j 0).val = (j 0).val; omega
  | ⟨1, _⟩ => show win0_3.index t (1 : Fin 2) * 8192 + 1 * (j 1).val = (j 1).val; omega

theorem iblk3_eq (t : Fin cfg0.N) : iblk m c 3 t = V m c main_v3 := by
  funext j; show V m c main_v3 (((cfg0.win 3).blk t).view.emb j) = V m c main_v3 j; rw [emb3]

theorem emb4 (t : Fin cfg0.N) (j : S320x8192.Idx) : ((cfg0.win 4).blk t).view.emb j = j := by
  have e := index_facts t
  funext a; apply Fin.ext
  match a with
  | ⟨0, _⟩ => show win0_4.index t (0 : Fin 2) * 320 + 1 * (j 0).val = (j 0).val; omega
  | ⟨1, _⟩ => show win0_4.index t (1 : Fin 2) * 8192 + 1 * (j 1).val = (j 1).val; omega

theorem cut4_eq (t : Fin cfg0.N) (X : Vec Ideal S320x8192 .bf16) : (cfg0.win 4).cut (grid0.coords t) X = ((cfg0.win 4).blk t).view.read (Elt Ideal) X := by
  funext j
  show X j = X (((cfg0.win 4).blk t).view.emb j)
  rw [emb4]

theorem flushed4_eq (t : Fin cfg0.N) : (dats m 0 c).flushed 4 t
    = ((cfg0.win 4).blk t).view.read (Elt Ideal) (outOf (V m c main_v1) (V m c main_arg1) (V m c main_v2) (V m c main_v3)) := by
  show (cfg0.win 4).cut (grid0.coords t) ((dats m 0 c).after 4 t) = _
  rw [after0_4, out4_eq, iblk0_eq, iblk1_eq, iblk2_eq, iblk3_eq]
  exact cut4_eq t _

theorem covered4 (i : S320x8192.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem final4_eq : (dats m 0 c).arrAt 4 cfg0.N = outOf (V m c main_v1) (V m c main_arg1) (V m c main_v2) (V m c main_v3) :=
  (dats m 0 c).arrAt_eq_of_cover 4 _ (fun t _ => flushed4_eq m c t) covered4

theorem emb5 (t : Fin cfg0.N) (j : S320x9216.Idx) : ((cfg0.win 5).blk t).view.emb j = j := by
  have e := index_facts t
  funext a; apply Fin.ext
  match a with
  | ⟨0, _⟩ => show win0_5.index t (0 : Fin 2) * 320 + 1 * (j 0).val = (j 0).val; omega
  | ⟨1, _⟩ => show win0_5.index t (1 : Fin 2) * 9216 + 1 * (j 1).val = (j 1).val; omega

theorem cut5_eq (t : Fin cfg0.N) (X : Vec Ideal S320x9216 .i8) : (cfg0.win 5).cut (grid0.coords t) X = ((cfg0.win 5).blk t).view.read (Elt Ideal) X := by
  funext j
  show X j = X (((cfg0.win 5).blk t).view.emb j)
  rw [emb5]

theorem flushed5_eq (t : Fin cfg0.N) : (dats m 0 c).flushed 5 t
    = ((cfg0.win 5).blk t).view.read (Elt Ideal) (codes8 (V m c main_v1)) := by
  show (cfg0.win 5).cut (grid0.coords t) ((dats m 0 c).after 5 t) = _
  rw [after0_5, out5_eq, iblk0_eq]
  exact cut5_eq t _

theorem covered5 (i : S320x9216.Idx) : ∃ t : Fin cfg0.N, (cfg0.win 5).flush t = true ∧ i ∈ ((cfg0.win 5).blk t).view.set :=
  ⟨(⟨0, by decide⟩ : Fin cfg0.N), flush0_5 _, by
    have h := ((cfg0.win 5).blk (⟨0, by decide⟩ : Fin cfg0.N)).view.emb_mem_set i; rwa [emb5] at h⟩

theorem final5_eq : (dats m 0 c).arrAt 5 cfg0.N = codes8 (V m c main_v1) :=
  (dats m 0 c).arrAt_eq_of_cover 5 _ (fun t _ => flushed5_eq m c t) covered5

theorem emb6 (t : Fin cfg0.N) (j : S320x1.Idx) : ((cfg0.win 6).blk t).view.emb j = j := by
  have e := index_facts t
  funext a; apply Fin.ext
  match a with
  | ⟨0, _⟩ => show win0_6.index t (0 : Fin 2) * 320 + 1 * (j 0).val = (j 0).val; omega
  | ⟨1, _⟩ => show win0_6.index t (1 : Fin 2) * 1 + 1 * (j 1).val = (j 1).val; omega

theorem cut6_eq (t : Fin cfg0.N) (X : Vec Ideal S320x1 .f32) : (cfg0.win 6).cut (grid0.coords t) X = ((cfg0.win 6).blk t).view.read (Elt Ideal) X := by
  funext j
  show X j = X (((cfg0.win 6).blk t).view.emb j)
  rw [emb6]

theorem flushed6_eq (t : Fin cfg0.N) : (dats m 0 c).flushed 6 t
    = ((cfg0.win 6).blk t).view.read (Elt Ideal) (scaleCol (V m c main_v1)) := by
  show (cfg0.win 6).cut (grid0.coords t) ((dats m 0 c).after 6 t) = _
  rw [after0_6, out6_eq, iblk0_eq]
  exact cut6_eq t _

theorem covered6 (i : S320x1.Idx) : ∃ t : Fin cfg0.N, (cfg0.win 6).flush t = true ∧ i ∈ ((cfg0.win 6).blk t).view.set :=
  ⟨(⟨0, by decide⟩ : Fin cfg0.N), flush0_6 _, by
    have h := ((cfg0.win 6).blk (⟨0, by decide⟩ : Fin cfg0.N)).view.emb_mem_set i; rwa [emb6] at h⟩

theorem final6_eq : (dats m 0 c).arrAt 6 cfg0.N = scaleCol (V m c main_v1) :=
  (dats m 0 c).arrAt_eq_of_cover 6 _ (fun t _ => flushed6_eq m c t) covered6

/-! ### The arrays that the region finds -/

theorem found_y : (V m c main_v1 : Vec Ideal S320x9216 .f32)
    = shapeCast S320x9216 (transpose S64x5x9216 [1, 0, 2] (m ((c : Thread nD τ).loc main_arg0) : Vec Ideal S5x64x9216 .f32) transposes_S5x64x9216_S64x5x9216_1_0_2)
        shapeCasts_S64x5x9216_S320x9216 := by
  show StableHlo.after hostOps0 _ (Proc.devRef .tc main_v1) = _
  after_results
  rfl

theorem found_ws : (V m c main_v2 : Vec Ideal S1x8192 .f32)
    = broadcastInDim S1x8192 ![1] bcast_S8192_S1x8192_1 (m ((c : Thread nD τ).loc main_arg2) : Vec Ideal S8192 .f32) := by
  show StableHlo.after hostOps0 _ (Proc.devRef .tc main_v2) = _
  after_results

theorem found_x : (V m c main_v3 : Vec Ideal S320x8192 .bf16)
    = shapeCast S320x8192 (m ((c : Thread nD τ).loc main_arg3) : Vec Ideal S64x5x8192 .bf16) shapeCasts_S64x5x8192_S320x8192 := by
  show StableHlo.after hostOps0 _ (Proc.devRef .tc main_v3) = _
  after_results
  rfl

/-- Row `5 b + s` of the reference's matrix is the row of step `s` of sequence `b`. -/
theorem rowOf_found (b : Fin 64) (s : Fin 5) :
    rowOf (V m c main_v1 : Vec Ideal S320x9216 .f32) (rowAt (by rfl) b s) = TailSpec.row (m ((c : Thread nD τ).loc main_arg0)) b s := by
  rw [found_y]
  exact funext fun k => (join_apply _ _ _ b s k).trans (swap_apply _ _ b s k)

/-! ### The results -/

theorem left4 : (Pipeline.afterTail₀ cfgs (dats m) 0 (V0 m) [hostOps1] c main_v5 : Vec Ideal S64x5x8192 .bf16)
    = shapeCast S64x5x8192 ((dats m 0 c).arrAt 4 cfg0.N : Vec Ideal S320x8192 .bf16) shapeCasts_S320x8192_S64x5x8192 := by
  have e : StableHlo.after hostOps1 (Pipeline.withArrays (cfgs 0).spec c (V0 m c) fun w => (dats m 0 c).arrAt w (cfgs 0).N) (Proc.devRef .tc main_v5)
      = shapeCast S64x5x8192 (Pipeline.withArrays (cfgs 0).spec c (V0 m c) (fun w => (dats m 0 c).arrAt w (cfgs 0).N) (Proc.devRef .tc main_v4_0) : Vec Ideal S320x8192 .bf16)
          shapeCasts_S320x8192_S64x5x8192 := by
    after_results
    rfl
  refine Eq.trans e (congrArg (fun X : Vec Ideal S320x8192 .bf16 => shapeCast S64x5x8192 X shapeCasts_S320x8192_S64x5x8192) ?_)
  exact Pipeline.withArrays_arr spec0 launch0.win.arr_inj c _ _ 4

theorem left5 : (Pipeline.afterTail₀ cfgs (dats m) 0 (V0 m) [hostOps1] c main_v6 : Vec Ideal S64x5x9216 .i8)
    = shapeCast S64x5x9216 ((dats m 0 c).arrAt 5 cfg0.N : Vec Ideal S320x9216 .i8) shapeCasts_S320x9216_S64x5x9216 := by
  have e : StableHlo.after hostOps1 (Pipeline.withArrays (cfgs 0).spec c (V0 m c) fun w => (dats m 0 c).arrAt w (cfgs 0).N) (Proc.devRef .tc main_v6)
      = shapeCast S64x5x9216 (Pipeline.withArrays (cfgs 0).spec c (V0 m c) (fun w => (dats m 0 c).arrAt w (cfgs 0).N) (Proc.devRef .tc main_v4_1) : Vec Ideal S320x9216 .i8)
          shapeCasts_S320x9216_S64x5x9216 := by
    after_results
    rfl
  refine Eq.trans e (congrArg (fun X : Vec Ideal S320x9216 .i8 => shapeCast S64x5x9216 X shapeCasts_S320x9216_S64x5x9216) ?_)
  exact Pipeline.withArrays_arr spec0 launch0.win.arr_inj c _ _ 5

theorem left6 : (Pipeline.afterTail₀ cfgs (dats m) 0 (V0 m) [hostOps1] c main_v7 : Vec Ideal S64x5 .f32)
    = shapeCast S64x5 ((dats m 0 c).arrAt 6 cfg0.N : Vec Ideal S320x1 .f32) shapeCasts_S320x1_S64x5 := by
  have e : StableHlo.after hostOps1 (Pipeline.withArrays (cfgs 0).spec c (V0 m c) fun w => (dats m 0 c).arrAt w (cfgs 0).N) (Proc.devRef .tc main_v7)
      = shapeCast S64x5 (Pipeline.withArrays (cfgs 0).spec c (V0 m c) (fun w => (dats m 0 c).arrAt w (cfgs 0).N) (Proc.devRef .tc main_v4_2) : Vec Ideal S320x1 .f32)
          shapeCasts_S320x1_S64x5 := by
    after_results
    rfl
  refine Eq.trans e (congrArg (fun X : Vec Ideal S320x1 .f32 => shapeCast S64x5 X shapeCasts_S320x1_S64x5) ?_)
  exact Pipeline.withArrays_arr spec0 launch0.win.arr_inj c _ _ 6

theorem out_eq : (Pipeline.afterTail₀ cfgs (dats m) 0 (V0 m) [hostOps1] c main_v5 : Vec Ideal S64x5x8192 .bf16)
    = TailSpec.out (m ((c : Thread nD τ).loc main_arg0)) (m ((c : Thread nD τ).loc main_arg1)) (m ((c : Thread nD τ).loc main_arg2)) (m ((c : Thread nD τ).loc main_arg3)) := by
  rw [left4, final4_eq]
  funext i
  obtain ⟨b, s, j, rfl⟩ : ∃ (b : Fin 64) (s : Fin 5) (j : Fin 8192), i = ix3 b s j := ⟨i 0, i 1, i 2, eq_ix3 i⟩
  refine (split_apply (by rfl) _ _ b s j).trans ?_
  unfold outOf TailSpec.out
  refine add_congr (congrArg₂ (· * ·) ?_ (congrArg₂ (· * ·) ?_ ?_)) ?_
  · rw [V_main_arg1]
    refine Finset.sum_congr rfl fun k _ => ?_
    exact congrArg (· * _) (congrArg (fun v => codeOf v k) (rowOf_found m c b s))
  · exact congrArg scaleOf (rowOf_found m c b s)
  · rw [found_ws]; exact asRow_apply _ _ j
  · rw [found_x]; exact join_apply _ _ _ b s j

theorem codes_eq : (Pipeline.afterTail₀ cfgs (dats m) 0 (V0 m) [hostOps1] c main_v6 : Vec Ideal S64x5x9216 .i8)
    = TailSpec.codes (m ((c : Thread nD τ).loc main_arg0)) := by
  rw [left5, final5_eq]
  funext i
  obtain ⟨b, s, j, rfl⟩ : ∃ (b : Fin 64) (s : Fin 5) (j : Fin 9216), i = ix3 b s j := ⟨i 0, i 1, i 2, eq_ix3 i⟩
  refine (split_apply (by rfl) _ _ b s j).trans ?_
  exact congrArg (fun v => FloatOps.fptosi (F := Ideal) (φ := .f32) 8 (codeOf v j)) (rowOf_found m c b s)

theorem scales_eq : (Pipeline.afterTail₀ cfgs (dats m) 0 (V0 m) [hostOps1] c main_v7 : Vec Ideal S64x5 .f32)
    = TailSpec.scales (m ((c : Thread nD τ).loc main_arg0)) := by
  rw [left6, final6_eq]
  funext i
  obtain ⟨b, s, rfl⟩ : ∃ (b : Fin 64) (s : Fin 5), i = ix2 b s := ⟨i 0, i 1, eq_ix2 i⟩
  refine (splitCol_apply (by rfl) _ _ b s).trans ?_
  exact congrArg scaleOf (rowOf_found m c b s)

/-- The run, its results read. -/
theorem run : θ_run (defs (F := Ideal)) (onTc (τ := τ) (main (F := Ideal))) ⟨m, fun _ => 0, ρ⟩ (fun r => ∀ c : Dev nD,
      r.2.mem ((c : Thread nD τ).loc main_v5) = TailSpec.out (m ((c : Thread nD τ).loc main_arg0)) (m ((c : Thread nD τ).loc main_arg1)) (m ((c : Thread nD τ).loc main_arg2)) (m ((c : Thread nD τ).loc main_arg3))
      ∧ r.2.mem ((c : Thread nD τ).loc main_v6) = TailSpec.codes (m ((c : Thread nD τ).loc main_arg0))
      ∧ r.2.mem ((c : Thread nD τ).loc main_v7) = TailSpec.scales (m ((c : Thread nD τ).loc main_arg0))) :=
  (θ_run (defs (F := Ideal)) _ _).mono (fun r h c =>
    ⟨((h c).2 main_v5 (Pipeline.mem_restRefs_of main_v5 (by decide) (by decide))).trans (out_eq m c),
      ((h c).2 main_v6 (Pipeline.mem_restRefs_of main_v6 (by decide) (by decide))).trans (codes_eq m c),
      ((h c).2 main_v7 (Pipeline.mem_restRefs_of main_v7 (by decide) (by decide))).trans (scales_eq m c)⟩) (run_main m ρ)

end Cert.Proof.TailRef

end
-- ==== Proof.Tail.lean ====
/-
  The output quantiser followed by the output projection: kernel and reference end with the same output, codes and scales.
-/
module

public import proofs.«01_k».proof.Defs
public import proofs.«01_k».proof.Proof.TailValue
public import proofs.«01_k».proof.Proof.TailRef

@[expose] public section

noncomputable section

namespace Cert.Proof.Tail

open Idealize.ShloMosaic Idealize.ShloMosaic.TcCoe Idealize.SL.Sem

/-- Kernel and reference end with the same three arrays. -/
theorem algebraic : Cert.algebraic_TailIdeal_TailRefIdeal := by
  intro m g m' g' _ hagree
  refine ⟨fun c => TailSpec.out (m ((c.tc : Thread TailIdeal.nD TailIdeal.τ).loc TailIdeal.main_arg0)) (m ((c.tc : Thread TailIdeal.nD TailIdeal.τ).loc TailIdeal.main_arg1))
      (m ((c.tc : Thread TailIdeal.nD TailIdeal.τ).loc TailIdeal.main_arg2)) (m ((c.tc : Thread TailIdeal.nD TailIdeal.τ).loc TailIdeal.main_arg3)),
    fun c => TailSpec.codes (m ((c.tc : Thread TailIdeal.nD TailIdeal.τ).loc TailIdeal.main_arg0)),
    fun c => TailSpec.scales (m ((c.tc : Thread TailIdeal.nD TailIdeal.τ).loc TailIdeal.main_arg0)), ?_, ?_⟩
  · exact (θ_run (TailIdeal.defs (F := Ideal)) _ _).mono (fun r h c =>
      ⟨(h c _ (TailIdeal.Gen.mem_uc TailIdeal.main_v7 (by decide))).trans (TailValue.out_eq m g c),
        (h c _ (TailIdeal.Gen.mem_uc TailIdeal.main_v9 (by decide))).trans (TailValue.codes_eq m g c),
        (h c _ (TailIdeal.Gen.mem_uc TailIdeal.main_v13 (by decide))).trans (TailValue.scales_eq m g c),
        (h c _ (TailIdeal.Gen.mem_uc TailIdeal.main_arg0 (by decide))).trans (TailIdeal.Gen.W5_main_arg0 m g c),
        (h c _ (TailIdeal.Gen.mem_uc TailIdeal.main_arg1 (by decide))).trans (TailIdeal.Gen.W5_main_arg1 m g c),
        (h c _ (TailIdeal.Gen.mem_uc TailIdeal.main_arg2 (by decide))).trans (TailIdeal.Gen.W5_main_arg2 m g c),
        (h c _ (TailIdeal.Gen.mem_uc TailIdeal.main_arg3 (by decide))).trans (TailIdeal.Gen.W5_main_arg3 m g c)⟩) (TailRun.run m g)
  · refine (θ_run (TailRefIdeal.defs (F := Ideal)) _ _).mono (fun r h c => ?_) (θ_run_and (TailRef.run m' g') (TailRefIdeal.Gen.unchanged m' g'))
    have e0 := (hagree c).1
    have e1 := (hagree c).2.1
    have e2 := (hagree c).2.2.1
    have e3 := (hagree c).2.2.2
    obtain ⟨h4, h5, h6⟩ := h.1 c
    refine ⟨h4.trans ?_, h5.trans ?_, h6.trans ?_, h.2 c⟩
    · rw [e0, e1, e2, e3]
    · rw [e0]
    · rw [e0]

end Cert.Proof.Tail

end
-- ==== Proof.lean ====
module

public import proofs.«01_k».proof.Defs
public import proofs.«01_k».proof.Proof.Gen.QuantIn
public import proofs.«01_k».proof.Proof.Gen.QuantIn.Skeleton
public import proofs.«01_k».proof.Proof.Gen.QuantIn.Launch
public import proofs.«01_k».proof.Proof.Gen.QuantIn.Points
public import proofs.«01_k».proof.Proof.Gen.QuantIn.Frame
public import proofs.«01_k».proof.Proof.Gen.QuantInIdeal
public import proofs.«01_k».proof.Proof.Gen.QuantInIdeal.Skeleton
public import proofs.«01_k».proof.Proof.Gen.QuantInIdeal.Launch
public import proofs.«01_k».proof.Proof.Gen.QuantInIdeal.Points
public import proofs.«01_k».proof.Proof.Gen.QuantInIdeal.Frame
public import proofs.«01_k».proof.Proof.Gen.QuantInRefIdeal
public import proofs.«01_k».proof.Proof.Gen.QuantInRefIdeal.Skeleton
public import proofs.«01_k».proof.Proof.Gen.QuantInRefIdeal.Launch
public import proofs.«01_k».proof.Proof.Gen.QuantInRefIdeal.Points
public import proofs.«01_k».proof.Proof.Gen.QuantInRefIdeal.Frame
public import proofs.«01_k».proof.Proof.Gen.QuantOut
public import proofs.«01_k».proof.Proof.Gen.QuantOut.Skeleton
public import proofs.«01_k».proof.Proof.Gen.QuantOut.Launch
public import proofs.«01_k».proof.Proof.Gen.QuantOut.Points
public import proofs.«01_k».proof.Proof.Gen.QuantOut.Frame
public import proofs.«01_k».proof.Proof.Gen.QuantOutIdeal
public import proofs.«01_k».proof.Proof.Gen.QuantOutIdeal.Skeleton
public import proofs.«01_k».proof.Proof.Gen.QuantOutIdeal.Launch
public import proofs.«01_k».proof.Proof.Gen.QuantOutIdeal.Points
public import proofs.«01_k».proof.Proof.Gen.QuantOutIdeal.Frame
public import proofs.«01_k».proof.Proof.Gen.QuantOutRefIdeal
public import proofs.«01_k».proof.Proof.Gen.QuantOutRefIdeal.Skeleton
public import proofs.«01_k».proof.Proof.Gen.QuantOutRefIdeal.Launch
public import proofs.«01_k».proof.Proof.Gen.QuantOutRefIdeal.Points
public import proofs.«01_k».proof.Proof.Gen.QuantOutRefIdeal.Frame
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Skeleton
public import proofs.«01_k».proof.Proof.Gen.OutProjRefIdeal.Launch
public import proofs.«01_k».proof.Proof.Gen.OutProjRefIdeal.Points
public import proofs.«01_k».proof.Proof.Gen.OutProjRefIdeal.Frame
public import proofs.«01_k».proof.Proof.Gen.QuantInIdeal.Value
public import proofs.«01_k».proof.Proof.Gen.QuantInRefIdeal.Value
public import proofs.«01_k».proof.Proof.Gen.QuantOutIdeal.Value
public import proofs.«01_k».proof.Proof.Gen.QuantOutRefIdeal.Value
public import proofs.«01_k».proof.Proof.Gen.OutProjIdeal.Value
public import proofs.«01_k».proof.Proof.Gen.OutProjRefIdeal.Value
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjRefIdeal.Skeleton
public import proofs.«01_k».proof.Proof.Gen.InProjRefIdeal.Launch
public import proofs.«01_k».proof.Proof.Gen.InProjRefIdeal.Points
public import proofs.«01_k».proof.Proof.Gen.InProjRefIdeal.Frame
public import proofs.«01_k».proof.Proof.Gen.InProjRefIdeal.Value
public import proofs.«01_k».proof.Proof.Gen.Entry
public import proofs.«01_k».proof.Proof.Gen.Entry.Skeleton
public import proofs.«01_k».proof.Proof.Gen.Entry.Launch
public import proofs.«01_k».proof.Proof.Gen.Entry.Points
public import proofs.«01_k».proof.Proof.Gen.Entry.Frame
public import proofs.«01_k».proof.Proof.Gen.EntryIdeal
public import proofs.«01_k».proof.Proof.Gen.EntryIdeal.Skeleton
public import proofs.«01_k».proof.Proof.Gen.EntryIdeal.Launch
public import proofs.«01_k».proof.Proof.Gen.EntryIdeal.Points
public import proofs.«01_k».proof.Proof.Gen.EntryIdeal.Frame
public import proofs.«01_k».proof.Proof.Gen.EntryRefIdeal
public import proofs.«01_k».proof.Proof.Gen.EntryRefIdeal.Skeleton
public import proofs.«01_k».proof.Proof.Gen.EntryRefIdeal.Launch
public import proofs.«01_k».proof.Proof.Gen.EntryRefIdeal.Points
public import proofs.«01_k».proof.Proof.Gen.EntryRefIdeal.Frame
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectRefIdeal
public import proofs.«01_k».proof.Proof.Gen.ProjectRefIdeal.Skeleton
public import proofs.«01_k».proof.Proof.Gen.ProjectRefIdeal.Launch
public import proofs.«01_k».proof.Proof.Gen.ProjectRefIdeal.Points
public import proofs.«01_k».proof.Proof.Gen.ProjectRefIdeal.Frame
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailRefIdeal
public import proofs.«01_k».proof.Proof.Gen.TailRefIdeal.Skeleton
public import proofs.«01_k».proof.Proof.Gen.TailRefIdeal.Launch
public import proofs.«01_k».proof.Proof.Gen.TailRefIdeal.Points
public import proofs.«01_k».proof.Proof.Gen.TailRefIdeal.Frame
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.GatesRefIdeal.Skeleton
public import proofs.«01_k».proof.Proof.Gen.GatesRefIdeal.Launch
public import proofs.«01_k».proof.Proof.Gen.GatesRefIdeal.Points
public import proofs.«01_k».proof.Proof.Gen.GatesRefIdeal.Frame
public import proofs.«01_k».proof.Proof.QuantIn
public import proofs.«01_k».proof.Proof.Gates
public import proofs.«01_k».proof.Proof.QuantOut
public import proofs.«01_k».proof.Proof.InProjFrame
public import proofs.«01_k».proof.Proof.InProj
public import proofs.«01_k».proof.Proof.OutProj
public import proofs.«01_k».proof.Proof.Entry
public import proofs.«01_k».proof.Proof.ProjectFrame
public import proofs.«01_k».proof.Proof.Project
public import proofs.«01_k».proof.Proof.Tail
public import Idealize.ShloMosaic.Adequacy
public import Idealize.ShloMosaic.Init

@[expose] public section

noncomputable section

namespace Cert.Proof

open Idealize.ShloMosaic Idealize.SL.Sem Cert.QuantIn

theorem claim : Cert.Claim :=
  ⟨Cert.QuantIn.Gen.facts,
    Cert.QuantInIdeal.Gen.facts,
    Cert.QuantInRefIdeal.Gen.facts,
    Cert.InProj.Gen.facts,
    Cert.InProjIdeal.Gen.facts,
    Cert.InProjRefIdeal.Gen.facts,
    Cert.Gates.Gen.facts,
    Cert.GatesIdeal.Gen.facts,
    Cert.GatesRefIdeal.Gen.facts,
    Cert.QuantOut.Gen.facts,
    Cert.QuantOutIdeal.Gen.facts,
    Cert.QuantOutRefIdeal.Gen.facts,
    Cert.OutProj.Gen.facts,
    Cert.OutProjIdeal.Gen.facts,
    Cert.OutProjRefIdeal.Gen.facts,
    Cert.Entry.Gen.facts,
    Cert.EntryIdeal.Gen.facts,
    Cert.EntryRefIdeal.Gen.facts,
    Cert.Project.Gen.facts,
    Cert.ProjectIdeal.Gen.facts,
    Cert.ProjectRefIdeal.Gen.facts,
    Cert.Tail.Gen.facts,
    Cert.TailIdeal.Gen.facts,
    Cert.TailRefIdeal.Gen.facts,
    Cert.Proof.Gates.preFacts,
    fun m ρ _ => Cert.QuantIn.Gen.frame m ρ,
    fun m ρ _ => Cert.QuantInIdeal.Gen.frame m ρ,
    fun m ρ _ => Cert.QuantInRefIdeal.Gen.frame m ρ,
    Cert.Proof.InProj.frame,
    Cert.Proof.InProjIdeal.frame,
    fun m ρ _ => Cert.InProjRefIdeal.Gen.frame m ρ,
    fun m ρ _ => Cert.Gates.Gen.frame m ρ,
    fun m ρ _ => Cert.GatesIdeal.Gen.frame m ρ,
    fun m ρ _ => Cert.GatesIdeal.Gen.frame m ρ,
    fun m ρ _ => Cert.GatesRefIdeal.Gen.frame m ρ,
    fun m ρ _ => Cert.GatesRefIdeal.Gen.frame m ρ,
    fun m ρ _ => Cert.QuantOut.Gen.frame m ρ,
    fun m ρ _ => Cert.QuantOutIdeal.Gen.frame m ρ,
    fun m ρ _ => Cert.QuantOutRefIdeal.Gen.frame m ρ,
    fun m ρ _ => Cert.OutProj.Gen.frame m ρ,
    fun m ρ _ => Cert.OutProjIdeal.Gen.frame m ρ,
    fun m ρ _ => Cert.OutProjRefIdeal.Gen.frame m ρ,
    fun m ρ _ => Cert.Entry.Gen.frame m ρ,
    fun m ρ _ => Cert.EntryIdeal.Gen.frame m ρ,
    fun m ρ _ => Cert.EntryRefIdeal.Gen.frame m ρ,
    Cert.Proof.Project.frame,
    Cert.Proof.ProjectIdeal.frame,
    fun m ρ _ => Cert.ProjectRefIdeal.Gen.frame m ρ,
    fun m ρ _ => Cert.Tail.Gen.frame m ρ,
    fun m ρ _ => Cert.TailIdeal.Gen.frame m ρ,
    fun m ρ _ => Cert.TailRefIdeal.Gen.frame m ρ,
    trivial,
    Cert.Proof.QuantIn.algebraic,
    trivial,
    Cert.Proof.InProjIdeal.algebraic,
    trivial,
    Cert.Proof.Gates.algebraic,
    trivial,
    Cert.Proof.QuantOut.algebraic,
    trivial,
    Cert.Proof.OutProj.algebraic,
    trivial,
    Cert.Proof.Entry.algebraic,
    trivial,
    Cert.Proof.ProjectIdeal.algebraic,
    trivial,
    Cert.Proof.Tail.algebraic⟩

end Cert.Proof

end
